-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_below_inf [hPre_below_inf : Cert.Pre_below_inf.Facts] (m : (ℓ : Loc Cert.AttnIdeal.nD Cert.AttnIdeal.τ Cert.AttnIdeal.sig) → Buf (Elt Ideal) ℓ) : Prop :=
  ∀ c : Dev Cert.AttnIdeal.nD,
    (Cert.Pre_below_inf.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).1 = (fun _ => 1#1)
    ∧ (Cert.Pre_below_inf.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.1 = (fun _ => 1#1)
    ∧ (Cert.Pre_below_inf.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.1 = (fun _ => 1#1)
    ∧ (Cert.Pre_below_inf.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_below_inf [hPre_below_inf : Cert.Pre_below_inf.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_below_inf.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).1 = (fun _ => 1#1)
    ∧ (Cert.Pre_below_inf.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.1 = (fun _ => 1#1)
    ∧ (Cert.Pre_below_inf.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.1 = (fun _ => 1#1)
    ∧ (Cert.Pre_below_inf.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnIdeal_pre_below_inf [hAttnIdeal : Cert.AttnIdeal.Facts] [hPre_below_inf : Cert.Pre_below_inf.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_below_inf m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_AttnRefIdeal_pre_below_inf [hAttnRefIdeal : Cert.AttnRefIdeal.Facts] [hPre_below_inf : Cert.Pre_below_inf.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_below_inf m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Attn_AttnIdeal : Prop :=
  True

def algebraic_AttnIdeal_AttnRefIdeal_pre_below_inf [hAttnIdeal : Cert.AttnIdeal.Facts] [hAttnRefIdeal : Cert.AttnRefIdeal.Facts] [hPre_below_inf : Cert.Pre_below_inf.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_below_inf m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)) →
    ∃ (v0 : (c : Dev Cert.AttnIdeal.nD) → Buf (Elt Ideal) ((c.tc : Thread Cert.AttnIdeal.nD Cert.AttnIdeal.τ).loc Cert.AttnIdeal.main_v15)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v113) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v10) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v8)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v283) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9))

def Claim : Prop :=
  ∃ (hMlp : Cert.Mlp.Facts) (hMlpIdeal : Cert.MlpIdeal.Facts) (hMlpRefIdeal : Cert.MlpRefIdeal.Facts) (hAttn : Cert.Attn.Facts) (hAttnIdeal : Cert.AttnIdeal.Facts) (hAttnRefIdeal : Cert.AttnRefIdeal.Facts) (hBias : Cert.Bias.Facts) (hBiasIdeal : Cert.BiasIdeal.Facts) (hBiasRefIdeal : Cert.BiasRefIdeal.Facts) (hConv : Cert.Conv.Facts) (hConvIdeal : Cert.ConvIdeal.Facts) (hConvRefIdeal : Cert.ConvRefIdeal.Facts) (hPre_below_inf : Cert.Pre_below_inf.Facts),
    quiescent_Mlp (hMlp := hMlp)
    ∧ quiescent_MlpIdeal (hMlpIdeal := hMlpIdeal)
    ∧ quiescent_MlpRefIdeal (hMlpRefIdeal := hMlpRefIdeal)
    ∧ quiescent_Attn (hAttn := hAttn)
    ∧ quiescent_AttnIdeal (hAttnIdeal := hAttnIdeal)
    ∧ quiescent_AttnIdeal_pre_below_inf (hAttnIdeal := hAttnIdeal) (hPre_below_inf := hPre_below_inf)
    ∧ quiescent_AttnRefIdeal (hAttnRefIdeal := hAttnRefIdeal)
    ∧ quiescent_AttnRefIdeal_pre_below_inf (hAttnRefIdeal := hAttnRefIdeal) (hPre_below_inf := hPre_below_inf)
    ∧ quiescent_Bias (hBias := hBias)
    ∧ quiescent_BiasIdeal (hBiasIdeal := hBiasIdeal)
    ∧ quiescent_BiasRefIdeal (hBiasRefIdeal := hBiasRefIdeal)
    ∧ quiescent_Conv (hConv := hConv)
    ∧ quiescent_ConvIdeal (hConvIdeal := hConvIdeal)
    ∧ quiescent_ConvRefIdeal (hConvRefIdeal := hConvRefIdeal)
    ∧ preserves_Mlp_MlpIdeal
    ∧ algebraic_MlpIdeal_MlpRefIdeal (hMlpIdeal := hMlpIdeal) (hMlpRefIdeal := hMlpRefIdeal)
    ∧ preserves_Attn_AttnIdeal
    ∧ algebraic_AttnIdeal_AttnRefIdeal_pre_below_inf (hAttnIdeal := hAttnIdeal) (hAttnRefIdeal := hAttnRefIdeal) (hPre_below_inf := hPre_below_inf)
    ∧ preserves_Bias_BiasIdeal
    ∧ algebraic_BiasIdeal_BiasRefIdeal (hBiasIdeal := hBiasIdeal) (hBiasRefIdeal := hBiasRefIdeal)
    ∧ preserves_Conv_ConvIdeal
    ∧ algebraic_ConvIdeal_ConvRefIdeal (hConvIdeal := hConvIdeal) (hConvRefIdeal := hConvRefIdeal)
-- ==== Pre_below_inf.lean ====
abbrev S16384x1024 : Shape := ⟨2, ![16384, 1024]⟩
abbrev S1024 : Shape := ⟨1, ![1024]⟩
abbrev S1024x1280 : Shape := ⟨2, ![1024, 1280]⟩
abbrev S1280 : Shape := ⟨1, ![1280]⟩
abbrev S64 : Shape := ⟨1, ![64]⟩
abbrev S16 : Shape := ⟨1, ![16]⟩
abbrev S1024x1024 : Shape := ⟨2, ![1024, 1024]⟩
abbrev S2x256x1024 : Shape := ⟨3, ![2, 256, 1024]⟩
abbrev S_ : Shape := ⟨0, ![]⟩

class Facts : Prop where
  bcast_S_S64 : S_.BroadcastsInDim S64 (![] : Fin 0 → Fin S64.rank)
  bcast_S_S16 : S_.BroadcastsInDim S16 (![] : Fin 0 → Fin S16.rank)
  bcast_S_S2x256x1024 : S_.BroadcastsInDim S2x256x1024 (![] : Fin 0 → Fin S2x256x1024.rank)

variable [Facts]

def fn {F : FTy → Type} [FloatOps F] (main_arg0 : FVec F S16384x1024 .f32) (main_arg1 : FVec F S1024 .f32) (main_arg2 : FVec F S1024x1280 .f32) (main_arg3 : FVec F S1280 .f32) (main_arg4 : FVec F S64 .f32) (main_arg5 : FVec F S64 .f32) (main_arg6 : FVec F S16 .f32) (main_arg7 : FVec F S1024x1024 .f32) (main_arg8 : FVec F S1024 .f32) (main_arg9 : FVec F S2x256x1024 .f32) : IVec S64 1 × IVec S64 1 × IVec S16 1 × IVec S2x256x1024 1 :=
  let main_cst : FVec F S_ .f32 := constant S_ .f32 0x7F800000#32
  let main_v0 : FVec F S64 .f32 := broadcastInDim S64 ![] bcast_S_S64 main_cst
  let main_v1 : IVec S64 1 := cmpf .olt main_arg4 main_v0
  let main_cst_0 : FVec F S_ .f32 := constant S_ .f32 0xFF800000#32
  let main_v2 : FVec F S64 .f32 := broadcastInDim S64 ![] bcast_S_S64 main_cst_0
  let main_v3 : IVec S64 1 := cmpf .ogt main_arg4 main_v2
  let main_v4 : IVec S64 1 := andi main_v1 main_v3
  let main_cst_1 : FVec F S_ .f32 := constant S_ .f32 0x7F800000#32
  let main_v5 : FVec F S64 .f32 := broadcastInDim S64 ![] bcast_S_S64 main_cst_1
  let main_v6 : IVec S64 1 := cmpf .olt main_arg5 main_v5
  let main_cst_2 : FVec F S_ .f32 := constant S_ .f32 0xFF800000#32
  let main_v7 : FVec F S64 .f32 := broadcastInDim S64 ![] bcast_S_S64 main_cst_2
  let main_v8 : IVec S64 1 := cmpf .ogt main_arg5 main_v7
  let main_v9 : IVec S64 1 := andi main_v6 main_v8
  let main_cst_3 : FVec F S_ .f32 := constant S_ .f32 0x7F800000#32
  let main_v10 : FVec F S16 .f32 := broadcastInDim S16 ![] bcast_S_S16 main_cst_3
  let main_v11 : IVec S16 1 := cmpf .olt main_arg6 main_v10
  let main_cst_4 : FVec F S_ .f32 := constant S_ .f32 0x7F800000#32
  let main_v12 : FVec F S2x256x1024 .f32 := broadcastInDim S2x256x1024 ![] bcast_S_S2x256x1024 main_cst_4
  let main_v13 : IVec S2x256x1024 1 := cmpf .olt main_arg9 main_v12
  (main_v4, main_v9, main_v11, main_v13)
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Attn.lean ====
abbrev S16384x1024 : Shape := ⟨2, ![16384, 1024]⟩
abbrev S1024 : Shape := ⟨1, ![1024]⟩
abbrev S1024x1280 : Shape := ⟨2, ![1024, 1280]⟩
abbrev S1280 : Shape := ⟨1, ![1280]⟩
abbrev S64 : Shape := ⟨1, ![64]⟩
abbrev S16 : Shape := ⟨1, ![16]⟩
abbrev S1024x1024 : Shape := ⟨2, ![1024, 1024]⟩
abbrev S2x256x1024 : Shape := ⟨3, ![2, 256, 1024]⟩
abbrev S_ : Shape := ⟨0, ![]⟩
abbrev S1x64 : Shape := ⟨2, ![1, 64]⟩
abbrev S2x64 : Shape := ⟨2, ![2, 64]⟩
abbrev S128 : Shape := ⟨1, ![128]⟩
abbrev S1x1024 : Shape := ⟨2, ![1, 1024]⟩
abbrev S1280x1024 : Shape := ⟨2, ![1280, 1024]⟩
abbrev S1280x1 : Shape := ⟨2, ![1280, 1]⟩
abbrev S1280x128 : Shape := ⟨2, ![1280, 128]⟩
abbrev S1x128 : Shape := ⟨2, ![1, 128]⟩
abbrev S512x1024 : Shape := ⟨2, ![512, 1024]⟩
abbrev S1024x512 : Shape := ⟨2, ![1024, 512]⟩
abbrev S640x128 : Shape := ⟨2, ![640, 128]⟩
abbrev S128x640 : Shape := ⟨2, ![128, 640]⟩
abbrev S128x128 : Shape := ⟨2, ![128, 128]⟩
abbrev S512 : Shape := ⟨1, ![512]⟩
abbrev S512x1 : Shape := ⟨2, ![512, 1]⟩
abbrev S1280x512 : Shape := ⟨2, ![1280, 512]⟩
abbrev S64x512 : Shape := ⟨2, ![64, 512]⟩
abbrev S64x128 : Shape := ⟨2, ![64, 128]⟩
abbrev S1x512 : Shape := ⟨2, ![1, 512]⟩
abbrev S128x512 : Shape := ⟨2, ![128, 512]⟩
abbrev S512x128 : Shape := ⟨2, ![512, 128]⟩
abbrev S256x128 : Shape := ⟨2, ![256, 128]⟩
abbrev S16x256 : Shape := ⟨2, ![16, 256]⟩
abbrev S64x1024 : Shape := ⟨2, ![64, 1024]⟩
abbrev S256x64 : Shape := ⟨2, ![256, 64]⟩
abbrev S256x1024 : Shape := ⟨2, ![256, 1024]⟩
abbrev S1x256x128 : Shape := ⟨3, ![1, 256, 128]⟩
abbrev S1 : Shape := ⟨1, ![1]⟩
abbrev S64x256 : Shape := ⟨2, ![64, 256]⟩
abbrev S80x256 : Shape := ⟨2, ![80, 256]⟩
abbrev S80x1024 : Shape := ⟨2, ![80, 1024]⟩

abbrev nBuf : Space → Nat
  | .hbm => 27
  | .vmem => 15
  | .smem => 1
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1280, .f32⟩
  | .hbm, ⟨3, _⟩ => ⟨S1280, .f32⟩
  | .hbm, ⟨4, _⟩ => ⟨S64, .f32⟩
  | .hbm, ⟨5, _⟩ => ⟨S64, .f32⟩
  | .hbm, ⟨6, _⟩ => ⟨S16, .f32⟩
  | .hbm, ⟨7, _⟩ => ⟨S1024x1024, .f32⟩
  | .hbm, ⟨8, _⟩ => ⟨S1024, .f32⟩
  | .hbm, ⟨9, _⟩ => ⟨S2x256x1024, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x1024, .f32⟩
  | .hbm, ⟨18, _⟩ => ⟨S1280x1024, .f32⟩
  | .hbm, ⟨19, _⟩ => ⟨S1280x1024, .bf16⟩
  | .hbm, ⟨20, _⟩ => ⟨S1280x1, .f32⟩
  | .hbm, ⟨21, _⟩ => ⟨S1280x128, .f32⟩
  | .hbm, ⟨22, _⟩ => ⟨S1x128, .f32⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S1280x128, .f32⟩
  | .local _ .vmem, ⟨5, _⟩ => ⟨S1x128, .f32⟩
  | .local _ .vmem, ⟨6, _⟩ => ⟨S2x256x1024, .f32⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S640x128, .bf16⟩
  | .local _ .vmem, ⟨13, _⟩ => ⟨S128x640, .bf16⟩
  | .local _ .vmem, ⟨14, _⟩ => ⟨S1024x512, .bf16⟩
  | .local _ .smem, ⟨0, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnRefIdeal.lean ====
abbrev S16384x1024 : Shape := ⟨2, ![16384, 1024]⟩
abbrev S1024 : Shape := ⟨1, ![1024]⟩
abbrev S1024x1280 : Shape := ⟨2, ![1024, 1280]⟩
abbrev S1280 : Shape := ⟨1, ![1280]⟩
abbrev S64 : Shape := ⟨1, ![64]⟩
abbrev S16 : Shape := ⟨1, ![16]⟩
abbrev S1024x1024 : Shape := ⟨2, ![1024, 1024]⟩
abbrev S2x256x1024 : Shape := ⟨3, ![2, 256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1280 : Shape := ⟨2, ![16384, 1280]⟩
abbrev S1x1280 : Shape := ⟨2, ![1, 1280]⟩
abbrev S16384x128 : Shape := ⟨2, ![16384, 128]⟩
abbrev S2x8192x16x64 : Shape := ⟨4, ![2, 8192, 16, 64]⟩
abbrev S2x8192x2x64 : Shape := ⟨4, ![2, 8192, 2, 64]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S2x8192x2 : Shape := ⟨3, ![2, 8192, 2]⟩
abbrev S2x8192x2x1 : Shape := ⟨4, ![2, 8192, 2, 1]⟩
abbrev S2x64x128x2x8x64 : Shape := ⟨6, ![2, 64, 128, 2, 8, 64]⟩
abbrev S2x8320x2x64 : Shape := ⟨4, ![2, 8320, 2, 64]⟩
abbrev S2x65x128x2x64 : Shape := ⟨5, ![2, 65, 128, 2, 64]⟩
abbrev S2x64x128x2x64 : Shape := ⟨5, ![2, 64, 128, 2, 64]⟩
abbrev S2x64x256x2x64 : Shape := ⟨5, ![2, 64, 256, 2, 64]⟩
abbrev S64x128x256 : Shape := ⟨3, ![64, 128, 256]⟩
abbrev S2x256x8x128 : Shape := ⟨4, ![2, 256, 8, 128]⟩
abbrev S2x8x128x256 : Shape := ⟨4, ![2, 8, 128, 256]⟩
abbrev S2x64x2x256x128x8 : Shape := ⟨6, ![2, 64, 2, 256, 128, 8]⟩
abbrev S2x64x2x8x128x256 : Shape := ⟨6, ![2, 64, 2, 8, 128, 256]⟩
abbrev S1x1x2x8x128x256 : Shape := ⟨6, ![1, 1, 2, 8, 128, 256]⟩
abbrev S1x64x1x1x128x256 : Shape := ⟨6, ![1, 64, 1, 1, 128, 256]⟩
abbrev S1x1x2x8x1x1 : Shape := ⟨6, ![1, 1, 2, 8, 1, 1]⟩
abbrev S2x64x2x8x128x1 : Shape := ⟨6, ![2, 64, 2, 8, 128, 1]⟩
abbrev S2x64x2x8x128x257 : Shape := ⟨6, ![2, 64, 2, 8, 128, 257]⟩
abbrev S2x64x2x8x128 : Shape := ⟨5, ![2, 64, 2, 8, 128]⟩
abbrev S2x64x2x64x8x128 : Shape := ⟨6, ![2, 64, 2, 64, 8, 128]⟩

abbrev nBuf : Space → Nat
  | .hbm => 151
  | .vmem => 0
  | .smem => 0
  | _ => 0

abbrev hbmTy0_0 (i : Nat) : BufTy := match i % 128 with
  | 0 => ⟨S16384x1024, .f32⟩
  | 1 => ⟨S1024, .f32⟩
  | 2 => ⟨S1024x1280, .f32⟩
  | 3 => ⟨S1280, .f32⟩
  | 4 => ⟨S64, .f32⟩
  | 5 => ⟨S64, .f32⟩
  | 6 => ⟨S16, .f32⟩
  | 7 => ⟨S1024x1024, .f32⟩
  | 8 => ⟨S1024, .f32⟩
  | 9 => ⟨S2x256x1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x1280, .f32⟩
  | 27 => ⟨S1x1280, .f32⟩
  | 28 => ⟨S16384x1280, .f32⟩
  | 29 => ⟨S16384x1280, .f32⟩
  | 30 => ⟨S16384x1024, .f32⟩
  | 31 => ⟨S16384x128, .f32⟩
  | 32 => ⟨S16384x128, .f32⟩
  | 33 => ⟨S2x8192x16x64, .f32⟩
  | 34 => ⟨S2x8192x2x64, .f32⟩
  | 35 => ⟨S2x8192x2x64, .f32⟩
  | 36 => ⟨S2x8192x16x64, .f32⟩
  | 37 => ⟨S_, .f32⟩
  | 38 => ⟨S2x8192x16, .f32⟩
  | 39 => ⟨S2x8192x16x1, .f32⟩
  | 40 => ⟨S_, .f32⟩
  | 41 => ⟨S2x8192x16x1, .f32⟩
  | 42 => ⟨S2x8192x16x1, .f32⟩
  | 43 => ⟨S_, .f32⟩
  | 44 => ⟨S2x8192x16x1, .f32⟩
  | 45 => ⟨S2x8192x16x1, .f32⟩
  | 46 => ⟨S2x8192x16x1, .f32⟩
  | 47 => ⟨S2x8192x16x64, .f32⟩
  | 48 => ⟨S2x8192x16x64, .f32⟩
  | 49 => ⟨S1x1x1x64, .f32⟩
  | 50 => ⟨S2x8192x16x64, .f32⟩
  | 51 => ⟨S2x8192x16x64, .f32⟩
  | 52 => ⟨S2x8192x2x64, .f32⟩
  | 53 => ⟨S_, .f32⟩
  | 54 => ⟨S2x8192x2, .f32⟩
  | 55 => ⟨S2x8192x2x1, .f32⟩
  | 56 => ⟨S_, .f32⟩
  | 57 => ⟨S2x8192x2x1, .f32⟩
  | 58 => ⟨S2x8192x2x1, .f32⟩
  | 59 => ⟨S_, .f32⟩
  | 60 => ⟨S2x8192x2x1, .f32⟩
  | 61 => ⟨S2x8192x2x1, .f32⟩
  | 62 => ⟨S2x8192x2x1, .f32⟩
  | 63 => ⟨S2x8192x2x64, .f32⟩
  | 64 => ⟨S2x8192x2x64, .f32⟩
  | 65 => ⟨S1x1x1x64, .f32⟩
  | 66 => ⟨S2x8192x2x64, .f32⟩
  | 67 => ⟨S2x8192x2x64, .f32⟩
  | 68 => ⟨S2x64x128x2x8x64, .f32⟩
  | 69 => ⟨S_, .i32⟩
  | 70 => ⟨S_, .f32⟩
  | 71 => ⟨S2x8320x2x64, .f32⟩
  | 72 => ⟨S2x65x128x2x64, .f32⟩
  | 73 => ⟨S2x64x128x2x64, .f32⟩
  | 74 => ⟨S2x64x128x2x64, .f32⟩
  | 75 => ⟨S2x64x256x2x64, .f32⟩
  | 76 => ⟨S_, .i32⟩
  | 77 => ⟨S_, .f32⟩
  | 78 => ⟨S2x8320x2x64, .f32⟩
  | 79 => ⟨S2x65x128x2x64, .f32⟩
  | 80 => ⟨S2x64x128x2x64, .f32⟩
  | 81 => ⟨S2x64x128x2x64, .f32⟩
  | 82 => ⟨S2x64x256x2x64, .f32⟩
  | 83 => ⟨S64x128x256, .i32⟩
  | 84 => ⟨S_, .i32⟩
  | 85 => ⟨S64x128x256, .i32⟩
  | 86 => ⟨S64x128x256, .i32⟩
  | 87 => ⟨S64x128x256, .i32⟩
  | 88 => ⟨S64x128x256, .i32⟩
  | 89 => ⟨S64x128x256, .i32⟩
  | 90 => ⟨S_, .i32⟩
  | 91 => ⟨S64x128x256, .i32⟩
  | 92 => ⟨S64x128x256, .i32⟩
  | 93 => ⟨S_, .i32⟩
  | 94 => ⟨S64x128x256, .i32⟩
  | 95 => ⟨S64x128x256, .i32⟩
  | 96 => ⟨S64x128x256, .i32⟩
  | 97 => ⟨S64x128x256, .i32⟩
  | 98 => ⟨S_, .i32⟩
  | 99 => ⟨S64x128x256, .i32⟩
  | 100 => ⟨S64x128x256, .i1⟩
  | 101 => ⟨S_, .i32⟩
  | 102 => ⟨S64x128x256, .i32⟩
  | 103 => ⟨S64x128x256, .i1⟩
  | 104 => ⟨S64x128x256, .i1⟩
  | 105 => ⟨S_, .i32⟩
  | 106 => ⟨S64x128x256, .i32⟩
  | 107 => ⟨S64x128x256, .i1⟩
  | 108 => ⟨S64x128x256, .i1⟩
  | 109 => ⟨S2x256x8x128, .f32⟩
  | 110 => ⟨S2x8x128x256, .f32⟩
  | 111 => ⟨S2x64x2x256x128x8, .f32⟩
  | 112 => ⟨S2x64x2x8x128x256, .f32⟩
  | 113 => ⟨S_, .f32⟩
  | 114 => ⟨S2x64x2x8x128x256, .f32⟩
  | 115 => ⟨S2x64x2x8x128x256, .f32⟩
  | 116 => ⟨S1x1x2x8x128x256, .f32⟩
  | 117 => ⟨S2x64x2x8x128x256, .f32⟩
  | 118 => ⟨S2x64x2x8x128x256, .f32⟩
  | 119 => ⟨S1x64x1x1x128x256, .i1⟩
  | 120 => ⟨S_, .f32⟩
  | 121 => ⟨S_, .f32⟩
  | 122 => ⟨S2x64x2x8x128x256, .i1⟩
  | 123 => ⟨S2x64x2x8x128x256, .f32⟩
  | 124 => ⟨S2x64x2x8x128x256, .f32⟩
  | 125 => ⟨S1x1x2x8x1x1, .f32⟩
  | 126 => ⟨S2x64x2x8x128x1, .f32⟩
  | 127 => ⟨S2x64x2x8x128x257, .f32⟩
  | _ => ⟨S16384x1024, .f32⟩

abbrev hbmTy0_1 (i : Nat) : BufTy := match i % 128 with
  | 0 => ⟨S_, .f32⟩
  | 1 => ⟨S2x64x2x8x128, .f32⟩
  | 2 => ⟨S_, .f32⟩
  | 3 => ⟨S2x64x2x8x128, .f32⟩
  | 4 => ⟨S2x64x2x8x128, .f32⟩
  | 5 => ⟨S2x64x2x8x128x1, .f32⟩
  | 6 => ⟨S2x64x2x8x128x257, .f32⟩
  | 7 => ⟨S2x64x2x8x128x257, .f32⟩
  | 8 => ⟨S2x64x2x8x128x257, .f32⟩
  | 9 => ⟨S_, .f32⟩
  | 10 => ⟨S2x64x2x8x128, .f32⟩
  | 11 => ⟨S2x64x2x8x128x1, .f32⟩
  | 12 => ⟨S2x64x2x8x128x257, .f32⟩
  | 13 => ⟨S2x64x2x8x128x257, .f32⟩
  | 14 => ⟨S2x64x2x8x128x256, .f32⟩
  | 15 => ⟨S2x64x2x64x8x128, .f32⟩
  | 16 => ⟨S2x64x128x2x8x64, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_12 : Ref sig .tc := ⟨.hbm, 98, rfl⟩
abbrev main_v72 : Ref sig .tc := ⟨.hbm, 99, rfl⟩
abbrev main_v73 : Ref sig .tc := ⟨.hbm, 100, rfl⟩
abbrev main_c_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_19 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩

abbrev nD : Nat := 1
abbrev τ : Topo := Topo.v7x

variable {F : FTy → Type} [FloatOps F]
-- ==== Bias.lean ====
abbrev S32x16 : Shape := ⟨2, ![32, 16]⟩
abbrev S256x128 : Shape := ⟨2, ![256, 128]⟩
abbrev S2x256x1024 : Shape := ⟨3, ![2, 256, 1024]⟩
abbrev S1x256x128 : Shape := ⟨3, ![1, 256, 128]⟩
abbrev S1x1 : Shape := ⟨2, ![1, 1]⟩

abbrev nBuf : Space → Nat
  | .hbm => 3
  | .vmem => 3
  | .smem => 1
  | _ => 0

abbrev bufTy : (tb : Table) → Fin (tcTables nBuf tb) → BufTy
  | .hbm, ⟨0, _⟩ => ⟨S32x16, .f32⟩
  | .hbm, ⟨1, _⟩ => ⟨S256x128, .i32⟩
  | .hbm, ⟨2, _⟩ => ⟨S2x256x1024, .f32⟩
  | .local _ .vmem, ⟨0, _⟩ => ⟨S256x128, .i32⟩
  | .local _ .vmem, ⟨1, _⟩ => ⟨S1x256x128, .f32⟩
  | .local _ .vmem, ⟨2, _⟩ => ⟨S1x256x128, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_1 : Index := 0#32
  let arg0 : BitVec 32 := BitVec.ofNat 32 (i 0).val
  let v4 : Index := Scalar.indexCast arg0
  ![0, v4.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasRefIdeal.lean ====
abbrev S32x16 : Shape := ⟨2, ![32, 16]⟩
abbrev S128x256 : Shape := ⟨2, ![128, 256]⟩
abbrev S_ : Shape := ⟨0, ![]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S2x256x8x128 : Shape := ⟨4, ![2, 256, 8, 128]⟩
abbrev S2x256x1024 : Shape := ⟨3, ![2, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S128x256, .i32⟩
  | .hbm, ⟨2, _⟩ => ⟨S_, .i32⟩
  | .hbm, ⟨3, _⟩ => ⟨S128x256, .i32⟩
  | .hbm, ⟨4, _⟩ => ⟨S128x256, .i1⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S128x256x1, .i32⟩
  | .hbm, ⟨10, _⟩ => ⟨S128x256x16, .f32⟩
  | .hbm, ⟨11, _⟩ => ⟨S16x128x256, .f32⟩
  | .hbm, ⟨12, _⟩ => ⟨S2x8x128x256, .f32⟩
  | .hbm, ⟨13, _⟩ => ⟨S2x256x8x128, .f32⟩
  | .hbm, ⟨14, _⟩ => ⟨S2x256x1024, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Conv.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1x1024 : Shape := ⟨2, ![1, 1024]⟩
abbrev S1x2048 : Shape := ⟨2, ![1, 2048]⟩
abbrev S512x1024 : Shape := ⟨2, ![512, 1024]⟩
abbrev S544x1024 : Shape := ⟨2, ![544, 1024]⟩
abbrev S32x1024 : Shape := ⟨2, ![32, 1024]⟩
abbrev S512 : Shape := ⟨1, ![512]⟩
abbrev S512x1 : Shape := ⟨2, ![512, 1]⟩
abbrev S512x2048 : Shape := ⟨2, ![512, 2048]⟩
abbrev S96x1024 : Shape := ⟨2, ![96, 1024]⟩
abbrev S64x1024 : Shape := ⟨2, ![64, 1024]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S1024x2048, .bf16⟩
  | .hbm, ⟨12, _⟩ => ⟨S1x2048, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S544x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_20 : BitVec 32 := 0#32
  let c8_i32 : BitVec 32 := 8#32
  let v52 : BitVec 32 := Scalar.addi c0_i32_20 c8_i32
  let c1_i32_21 : BitVec 32 := 1#32
  ⟨c0_i32_20, v52, c1_i32_21⟩
def k0_mult1 (k0_t1 : Fin k0_t1_loop.trips) : BitVec 32 :=
  let c0_i32_20 : BitVec 32 := 0#32
  let c1_i32_21 : BitVec 32 := 1#32
  let arg14 : BitVec 32 := Scf.iv c0_i32_20 c1_i32_21 k0_t1
  let c64_i32 : BitVec 32 := 64#32
  let v96 : BitVec 32 := Scalar.muli arg14 c64_i32
  v96
def k0_off1 (k0_t1 : Fin k0_t1_loop.trips) : Fin 2 → Nat :=
  let c0_i32_20 : BitVec 32 := 0#32
  let c1_i32_21 : BitVec 32 := 1#32
  let arg14 : BitVec 32 := Scf.iv c0_i32_20 c1_i32_21 k0_t1
  let c64_i32 : BitVec 32 := 64#32
  let v96 : BitVec 32 := Scalar.muli arg14 c64_i32
  let v97 : BitVec 32 := v96
  let v98 : Index := Scalar.indexCast v97
  let c0_44 : Index := 0#32
  ![v98.toNat, 0]
def k0_off2 (k0_t1 : Fin k0_t1_loop.trips) : Fin 2 → Nat :=
  let c0_i32_20 : BitVec 32 := 0#32
  let c1_i32_21 : BitVec 32 := 1#32
  let arg14 : BitVec 32 := Scf.iv c0_i32_20 c1_i32_21 k0_t1
  let c64_i32 : BitVec 32 := 64#32
  let v96 : BitVec 32 := Scalar.muli arg14 c64_i32
  let v97 : BitVec 32 := v96
  let v267 : Index := Scalar.indexCast v97
  let c0_80 : Index := 0#32
  ![v267.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1x2048 : Shape := ⟨2, ![1, 2048]⟩
abbrev S2x8192x1024 : Shape := ⟨3, ![2, 8192, 1024]⟩
abbrev S2x8222x1024 : Shape := ⟨3, ![2, 8222, 1024]⟩
abbrev S1x1x1024 : Shape := ⟨3, ![1, 1, 1024]⟩

abbrev nBuf : Space → Nat
  | .hbm => 309
  | .vmem => 0
  | .smem => 0
  | _ => 0

abbrev hbmTy0_0 (i : Nat) : BufTy := match i % 128 with
  | 0 => ⟨S16384x1024, .f32⟩
  | 1 => ⟨S1024, .f32⟩
  | 2 => ⟨S1024x2048, .f32⟩
  | 3 => ⟨S2048, .f32⟩
  | 4 => ⟨S31x1024, .f32⟩
  | 5 => ⟨S1024, .f32⟩
  | 6 => ⟨S1024, .f32⟩
  | 7 => ⟨S1024, .f32⟩
  | 8 => ⟨S1024x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x2048, .f32⟩
  | 27 => ⟨S1x2048, .f32⟩
  | 28 => ⟨S16384x2048, .f32⟩
  | 29 => ⟨S16384x2048, .f32⟩
  | 30 => ⟨S16384x1024, .f32⟩
  | 31 => ⟨S16384x1024, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S16384x1024, .f32⟩
  | 41 => ⟨S2x8192x1024, .f32⟩
  | 42 => ⟨S_, .i32⟩
  | 43 => ⟨S_, .f32⟩
  | 44 => ⟨S2x8222x1024, .f32⟩
  | 45 => ⟨S2x8192x1024, .f32⟩
  | 46 => ⟨S1x1024, .f32⟩
  | 47 => ⟨S1024, .f32⟩
  | 48 => ⟨S1x1x1024, .f32⟩
  | 49 => ⟨S2x8192x1024, .f32⟩
  | 50 => ⟨S2x8192x1024, .f32⟩
  | 51 => ⟨S_, .f32⟩
  | 52 => ⟨S2x8192x1024, .f32⟩
  | 53 => ⟨S2x8192x1024, .f32⟩
  | 54 => ⟨S2x8192x1024, .f32⟩
  | 55 => ⟨S1x1024, .f32⟩
  | 56 => ⟨S1024, .f32⟩
  | 57 => ⟨S1x1x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S1x1024, .f32⟩
  | 63 => ⟨S1024, .f32⟩
  | 64 => ⟨S1x1x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S1x1024, .f32⟩
  | 70 => ⟨S1024, .f32⟩
  | 71 => ⟨S1x1x1024, .f32⟩
  | 72 => ⟨S2x8192x1024, .f32⟩
  | 73 => ⟨S2x8192x1024, .f32⟩
  | 74 => ⟨S2x8192x1024, .f32⟩
  | 75 => ⟨S2x8192x1024, .f32⟩
  | 76 => ⟨S1x1024, .f32⟩
  | 77 => ⟨S1024, .f32⟩
  | 78 => ⟨S1x1x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S1x1024, .f32⟩
  | 84 => ⟨S1024, .f32⟩
  | 85 => ⟨S1x1x1024, .f32⟩
  | 86 => ⟨S2x8192x1024, .f32⟩
  | 87 => ⟨S2x8192x1024, .f32⟩
  | 88 => ⟨S2x8192x1024, .f32⟩
  | 89 => ⟨S2x8192x1024, .f32⟩
  | 90 => ⟨S1x1024, .f32⟩
  | 91 => ⟨S1024, .f32⟩
  | 92 => ⟨S1x1x1024, .f32⟩
  | 93 => ⟨S2x8192x1024, .f32⟩
  | 94 => ⟨S2x8192x1024, .f32⟩
  | 95 => ⟨S2x8192x1024, .f32⟩
  | 96 => ⟨S2x8192x1024, .f32⟩
  | 97 => ⟨S1x1024, .f32⟩
  | 98 => ⟨S1024, .f32⟩
  | 99 => ⟨S1x1x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S1x1024, .f32⟩
  | 105 => ⟨S1024, .f32⟩
  | 106 => ⟨S1x1x1024, .f32⟩
  | 107 => ⟨S2x8192x1024, .f32⟩
  | 108 => ⟨S2x8192x1024, .f32⟩
  | 109 => ⟨S2x8192x1024, .f32⟩
  | 110 => ⟨S2x8192x1024, .f32⟩
  | 111 => ⟨S1x1024, .f32⟩
  | 112 => ⟨S1024, .f32⟩
  | 113 => ⟨S1x1x1024, .f32⟩
  | 114 => ⟨S2x8192x1024, .f32⟩
  | 115 => ⟨S2x8192x1024, .f32⟩
  | 116 => ⟨S2x8192x1024, .f32⟩
  | 117 => ⟨S2x8192x1024, .f32⟩
  | 118 => ⟨S1x1024, .f32⟩
  | 119 => ⟨S1024, .f32⟩
  | 120 => ⟨S1x1x1024, .f32⟩
  | 121 => ⟨S2x8192x1024, .f32⟩
  | 122 => ⟨S2x8192x1024, .f32⟩
  | 123 => ⟨S2x8192x1024, .f32⟩
  | 124 => ⟨S2x8192x1024, .f32⟩
  | 125 => ⟨S1x1024, .f32⟩
  | 126 => ⟨S1024, .f32⟩
  | 127 => ⟨S1x1x1024, .f32⟩
  | _ => ⟨S16384x1024, .f32⟩

abbrev hbmTy0_1 (i : Nat) : BufTy := match i % 128 with
  | 0 => ⟨S2x8192x1024, .f32⟩
  | 1 => ⟨S2x8192x1024, .f32⟩
  | 2 => ⟨S2x8192x1024, .f32⟩
  | 3 => ⟨S2x8192x1024, .f32⟩
  | 4 => ⟨S1x1024, .f32⟩
  | 5 => ⟨S1024, .f32⟩
  | 6 => ⟨S1x1x1024, .f32⟩
  | 7 => ⟨S2x8192x1024, .f32⟩
  | 8 => ⟨S2x8192x1024, .f32⟩
  | 9 => ⟨S2x8192x1024, .f32⟩
  | 10 => ⟨S2x8192x1024, .f32⟩
  | 11 => ⟨S1x1024, .f32⟩
  | 12 => ⟨S1024, .f32⟩
  | 13 => ⟨S1x1x1024, .f32⟩
  | 14 => ⟨S2x8192x1024, .f32⟩
  | 15 => ⟨S2x8192x1024, .f32⟩
  | 16 => ⟨S2x8192x1024, .f32⟩
  | 17 => ⟨S2x8192x1024, .f32⟩
  | 18 => ⟨S1x1024, .f32⟩
  | 19 => ⟨S1024, .f32⟩
  | 20 => ⟨S1x1x1024, .f32⟩
  | 21 => ⟨S2x8192x1024, .f32⟩
  | 22 => ⟨S2x8192x1024, .f32⟩
  | 23 => ⟨S2x8192x1024, .f32⟩
  | 24 => ⟨S2x8192x1024, .f32⟩
  | 25 => ⟨S1x1024, .f32⟩
  | 26 => ⟨S1024, .f32⟩
  | 27 => ⟨S1x1x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S1x1024, .f32⟩
  | 33 => ⟨S1024, .f32⟩
  | 34 => ⟨S1x1x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S1x1024, .f32⟩
  | 40 => ⟨S1024, .f32⟩
  | 41 => ⟨S1x1x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S1x1024, .f32⟩
  | 47 => ⟨S1024, .f32⟩
  | 48 => ⟨S1x1x1024, .f32⟩
  | 49 => ⟨S2x8192x1024, .f32⟩
  | 50 => ⟨S2x8192x1024, .f32⟩
  | 51 => ⟨S2x8192x1024, .f32⟩
  | 52 => ⟨S2x8192x1024, .f32⟩
  | 53 => ⟨S1x1024, .f32⟩
  | 54 => ⟨S1024, .f32⟩
  | 55 => ⟨S1x1x1024, .f32⟩
  | 56 => ⟨S2x8192x1024, .f32⟩
  | 57 => ⟨S2x8192x1024, .f32⟩
  | 58 => ⟨S2x8192x1024, .f32⟩
  | 59 => ⟨S2x8192x1024, .f32⟩
  | 60 => ⟨S1x1024, .f32⟩
  | 61 => ⟨S1024, .f32⟩
  | 62 => ⟨S1x1x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S1x1024, .f32⟩
  | 68 => ⟨S1024, .f32⟩
  | 69 => ⟨S1x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S1x1024, .f32⟩
  | 75 => ⟨S1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S1x1024, .f32⟩
  | 82 => ⟨S1024, .f32⟩
  | 83 => ⟨S1x1x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S1x1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S1x1024, .f32⟩
  | 96 => ⟨S1024, .f32⟩
  | 97 => ⟨S1x1x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S1x1024, .f32⟩
  | 103 => ⟨S1024, .f32⟩
  | 104 => ⟨S1x1x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S1x1024, .f32⟩
  | 110 => ⟨S1024, .f32⟩
  | 111 => ⟨S1x1x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S1x1024, .f32⟩
  | 117 => ⟨S1024, .f32⟩
  | 118 => ⟨S1x1x1024, .f32⟩
  | 119 => ⟨S2x8192x1024, .f32⟩
  | 120 => ⟨S2x8192x1024, .f32⟩
  | 121 => ⟨S2x8192x1024, .f32⟩
  | 122 => ⟨S2x8192x1024, .f32⟩
  | 123 => ⟨S1x1024, .f32⟩
  | 124 => ⟨S1024, .f32⟩
  | 125 => ⟨S1x1x1024, .f32⟩
  | 126 => ⟨S2x8192x1024, .f32⟩
  | 127 => ⟨S2x8192x1024, .f32⟩
  | _ => ⟨S16384x1024, .f32⟩

abbrev hbmTy0_2 (i : Nat) : BufTy := match i % 128 with
  | 0 => ⟨S2x8192x1024, .f32⟩
  | 1 => ⟨S2x8192x1024, .f32⟩
  | 2 => ⟨S1x1024, .f32⟩
  | 3 => ⟨S1024, .f32⟩
  | 4 => ⟨S1x1x1024, .f32⟩
  | 5 => ⟨S2x8192x1024, .f32⟩
  | 6 => ⟨S2x8192x1024, .f32⟩
  | 7 => ⟨S2x8192x1024, .f32⟩
  | 8 => ⟨S1x1x1024, .f32⟩
  | 9 => ⟨S2x8192x1024, .f32⟩
  | 10 => ⟨S2x8192x1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S16384x1024, .f32⟩
  | 19 => ⟨S16384x1024, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x1024, .f32⟩
  | 32 => ⟨S16384x1024, .f32⟩
  | 33 => ⟨S1x1024, .f32⟩
  | 34 => ⟨S16384x1024, .f32⟩
  | 35 => ⟨S16384x1024, .f32⟩
  | 36 => ⟨S1x1024, .f32⟩
  | 37 => ⟨S16384x1024, .f32⟩
  | 38 => ⟨S16384x1024, .f32⟩
  | 39 => ⟨S16384x1024, .f32⟩
  | 40 => ⟨S16384x1024, .f32⟩
  | 41 => ⟨S_, .f32⟩
  | 42 => ⟨S16384x1024, .f32⟩
  | 43 => ⟨S16384x1024, .f32⟩
  | 44 => ⟨S_, .f32⟩
  | 45 => ⟨S16384x1024, .f32⟩
  | 46 => ⟨S16384x1024, .f32⟩
  | 47 => ⟨S16384x1024, .f32⟩
  | 48 => ⟨S16384x1024, .f32⟩
  | 49 => ⟨S1x1024, .f32⟩
  | 50 => ⟨S16384x1024, .f32⟩
  | 51 => ⟨S16384x1024, .f32⟩
  | 52 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_cst_5 : Ref sig .tc := ⟨.hbm, 268, rfl⟩
abbrev main_v250 : Ref sig .tc := ⟨.hbm, 269, rfl⟩
abbrev main_v251 : Ref sig .tc := ⟨.hbm, 270, rfl⟩
abbrev main_cst_6 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_cst_7 : Ref sig .tc := ⟨.hbm, 277, rfl⟩
abbrev main_v257 : Ref sig .tc := ⟨.hbm, 278, rfl⟩
abbrev main_v258 : Ref sig .tc := ⟨.hbm, 279, rfl⟩
abbrev main_cst_8 : Ref sig .tc := ⟨.hbm, 280, rfl⟩
abbrev main_v259 : Ref sig .tc := ⟨.hbm, 281, rfl⟩
abbrev main_v260 : Ref sig .tc := ⟨.hbm, 282, rfl⟩
abbrev main_cst_9 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_cst_10 : Ref sig .tc := ⟨.hbm, 297, rfl⟩
abbrev main_v274 : Ref sig .tc := ⟨.hbm, 298, rfl⟩
abbrev main_v275 : Ref sig .tc := ⟨.hbm, 299, rfl⟩
abbrev main_cst_11 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩

abbrev nD : Nat := 1
abbrev τ : Topo := Topo.v7x

variable {F : FTy → Type} [FloatOps F]
-- ==== Proof.MlpMath.lean ====
/- The feed-forward block as one formula of its four arguments, and the proof that the kernel's body computes
   it for the rows of one tile. -/
module

public import proofs.«01_k».proof.Proof.Gen.MlpIdeal.Skeleton
public import Idealize.ShloMosaic.Lib.Pointwise

@[expose] public section

set_option maxRecDepth 16384

noncomputable section

namespace Cert.MlpMath

open Idealize.ShloMosaic Idealize.ShloMosaic.TcCoe Idealize.SL.Sem
open Cert.MlpIdeal Cert.MlpIdeal.Gen

/-- One normalised entry: the row's entry over the root of the row's mean square, times the gain. -/
def rmsn (x : Fin 1024 → EReal) (g : Fin 1024 → EReal) (k : Fin 1024) : EReal :=
  x k * Ideal.rsqrt (Ideal.div (∑ l, x l * x l) (Ideal.ofBits .f32 0x44800000#32) + Ideal.ofBits .f32 0x358637BD#32) * g k

/-- One hidden unit: the squared positive part of the normalised row's product with its column. -/
def hid (x g : Fin 1024 → EReal) (u : Fin 1024 → Fin 4096 → EReal) (f : Fin 4096) : EReal :=
  max (∑ k, rmsn x g k * u k f) 0 * max (∑ k, rmsn x g k * u k f) 0

/-- One entry of the block's result for a row. -/
def row (x g : Fin 1024 → EReal) (u : Fin 1024 → Fin 4096 → EReal) (d : Fin 4096 → Fin 1024 → EReal) (j : Fin 1024) : EReal :=
  x j + ∑ f, hid x g u f * d f j

/-- What the body stores at row `r` and column `j` of its tile, from the loaded row, the gain and the four column
    and row slabs of the two weight matrices. -/
theorem tile_eq (x0 : FVec Ideal S512x1024 .f32) (x1 : FVec Ideal S1x1024 .f32)
    (u0 d0 u1 d1 u2 d2 u3 d3 : FVec Ideal S1024x1024 .bf16)
    (u : Fin 1024 → Fin 4096 → EReal) (d : Fin 4096 → Fin 1024 → EReal)
    (hu0 : ∀ k f : Fin 1024, u0 (ix2 k f) = u k ⟨f.val, by omega⟩)
    (hu1 : ∀ k f : Fin 1024, u1 (ix2 k f) = u k ⟨1024 + f.val, by omega⟩)
    (hu2 : ∀ k f : Fin 1024, u2 (ix2 k f) = u k ⟨2048 + f.val, by omega⟩)
    (hu3 : ∀ k f : Fin 1024, u3 (ix2 k f) = u k ⟨3072 + f.val, by omega⟩)
    (hd0 : ∀ f j : Fin 1024, d0 (ix2 f j) = d ⟨f.val, by omega⟩ j)
    (hd1 : ∀ f j : Fin 1024, d1 (ix2 f j) = d ⟨1024 + f.val, by omega⟩ j)
    (hd2 : ∀ f j : Fin 1024, d2 (ix2 f j) = d ⟨2048 + f.val, by omega⟩ j)
    (hd3 : ∀ f j : Fin 1024, d3 (ix2 f j) = d ⟨3072 + f.val, by omega⟩ j)
    (r : Fin 512) (j : Fin 1024) :
    k0_pay1 (F := Ideal) (k0_pay2 x0 x1) (k0_pay3 x0 x1 u0 d0 u1 d1) u2 d2 u3 d3 (ix2 r j)
      = row (fun k => x0 (ix2 r k)) (fun k => x1 (ix2 0 k)) u d j := by
  have key : ∀ T : Fin 4096 → EReal, ∑ f, T f = ∑ f : Fin 1024, T ⟨f.val, by omega⟩ + ∑ f : Fin 1024, T ⟨1024 + f.val, by omega⟩
      + ∑ f : Fin 1024, T ⟨2048 + f.val, by omega⟩ + ∑ f : Fin 1024, T ⟨3072 + f.val, by omega⟩ := by
    intro T
    rw [Fin.sum_univ_tiles 4 1024 rfl T, Fin.sum_univ_four]
    rfl
  pointwise [k0_pay1, k0_pay2, k0_pay3, hu0, hu1, hu2, hu3, hd0, hd1, hd2, hd3]
  rw [row, key, ← add_assoc, ← add_assoc, ← add_assoc]
  rfl

end Cert.MlpMath

end
-- ==== Proof.MlpValue.lean ====
/- The array that the feed-forward kernel leaves: every entry is the block's formula of its row. -/
module

public import proofs.«01_k».proof.Proof.Gen.MlpIdeal.Frame
public import proofs.«01_k».proof.Proof.Gen.MlpRefIdeal.Read
public import proofs.«01_k».proof.Proof.MlpMath
public import Idealize.ShloMosaic.Lib.Pipeline.ValueKit
public import Idealize.ShloMosaic.Lib.Pointwise
public import Idealize.ShloMosaic.Lib.Claim

@[expose] public section

set_option maxRecDepth 16384

noncomputable section

namespace Cert.MlpValue

open Idealize.ShloMosaic Idealize.ShloMosaic.TcCoe Idealize.SL.Sem
open Idealize.ShloMosaic.Pipeline (Dat)
open Cert.MlpIdeal Cert.MlpIdeal.Gen Cert.MlpMath

variable (m : (ℓ : Loc nD τ sig) → Buf (Elt Ideal) ℓ)

/-- The feed-forward block of whole arrays. -/
def G (X : FVec Ideal S16384x1024 .f32) (g : FVec Ideal S1024 .f32) (U : FVec Ideal S1024x4096 .f32) (D : FVec Ideal S4096x1024 .f32) :
    FVec Ideal S16384x1024 .f32 :=
  fun i => row (fun k => X (ix2 (i 0) k)) (fun k => g (ix1 k)) (fun k f => U (ix2 k f)) (fun f j => D (ix2 f j)) (i 1)

/-- The windows' block indices at every point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What the kernel leaves in the result array. -/
theorem final (c : Dev nD) : (dats m 0 c).arrAt 4 (cfgs 0).N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  refine (tile_eq _ _ _ _ _ _ _ _ _ _ (fun k f => m ((c : Thread nD τ).loc main_arg2) (ix2 k f))
    (fun f j => m ((c : Thread nD τ).loc main_arg3) (ix2 f j)) ?_ ?_ ?_ ?_ ?_ ?_ ?_ ?_ y0 y1).trans ?_
  iterate 8 (intro k f; blk_point [iblk, V, idx t])
  unfold G
  blk_point [row, hid, rmsn, iblk, V, idx t]

/-- The reference's term is the same array. -/
theorem ref (X : FVec Ideal S16384x1024 .f32) (g : FVec Ideal S1024 .f32) (U : FVec Ideal S1024x4096 .f32) (D : FVec Ideal S4096x1024 .f32) :
    Cert.MlpRefIdeal.Read.val_main_v17 (F := Ideal) X g U D = G X g U D := by
  funext j
  idx_vars j
  pointwise [Cert.MlpRefIdeal.Read.val_main_v17, Cert.MlpRefIdeal.Read.val_main_v16, Cert.MlpRefIdeal.Read.val_main_v15, Cert.MlpRefIdeal.Read.val_main_v14, Cert.MlpRefIdeal.Read.val_main_v13, Cert.MlpRefIdeal.Read.val_main_v12, Cert.MlpRefIdeal.Read.val_main_v11, Cert.MlpRefIdeal.Read.val_main_v10, Cert.MlpRefIdeal.Read.val_main_v9, Cert.MlpRefIdeal.Read.val_main_v8, Cert.MlpRefIdeal.Read.val_main_v7, Cert.MlpRefIdeal.Read.val_main_v6, Cert.MlpRefIdeal.Read.val_main_v5, Cert.MlpRefIdeal.Read.val_main_v4, Cert.MlpRefIdeal.Read.val_main_v3, Cert.MlpRefIdeal.Read.val_main_v2, Cert.MlpRefIdeal.Read.val_main_v1, Cert.MlpRefIdeal.Read.val_main_v0, Cert.MlpRefIdeal.Read.val_main_cst, Cert.MlpRefIdeal.Read.val_main_cst_0, Cert.MlpRefIdeal.Read.val_main_cst_1, Cert.MlpRefIdeal.Read.val_main_call0_cst, Cert.MlpRefIdeal.Read.val_main_call0_v0, G, row, hid, rmsn]

end Cert.MlpValue

end
-- ==== Proof.MlpAlgebraic.lean ====
/- The feed-forward kernel and its reference leave equal results. -/
module

public import proofs.«01_k».proof.Defs
public import proofs.«01_k».proof.Proof.MlpValue

@[expose] public section

noncomputable section

namespace Cert.MlpValue

open Idealize.ShloMosaic Idealize.SL.Sem

/-- Over the extended reals the feed-forward kernel's result array is the reference's. -/
theorem algebraic : Cert.algebraic_MlpIdeal_MlpRefIdeal := by
  pair_intro
  · run_from Cert.MlpIdeal.Gen.run_main m g
  · run_from Cert.MlpRefIdeal.Value.run m' g'
    refine Eq.trans ?_ (final m c).symm
    rw [Cert.MlpRefIdeal.Read.val_main_v17_eq]
    exact ref _ _ _ _

end Cert.MlpValue

end
-- ==== Proof.AttnHead.lean ====
/- One block of one key group: scores, weights and outputs of its eight heads, read at an index. -/
module

public import proofs.«01_k».proof.Proof.Gen.AttnIdeal.Skeleton
public import Idealize.ShloMosaic.Lib.Pipeline.ValueKit
public import Idealize.ShloMosaic.Lib.Pointwise

@[expose] public section

set_option maxRecDepth 16384

noncomputable section

namespace Cert.AttnValue

open Idealize.ShloMosaic Idealize.ShloMosaic.TcCoe Idealize.SL.Sem
open Cert.AttnIdeal Cert.AttnIdeal.Gen

/-- A head's masked scores: its columns of the products plus the bias, or the mask's constant. -/
def scoreT (o : ℕ) (hs : S256x1024.Slices ![0, o] S256x128) (M : IVec S256x128 1) (st : FVec Ideal S256x1024 .f32) (b : FVec Ideal S1x256x128 .f32) :
    FVec Ideal S256x128 .f32 :=
  select M (addf (extractStridedSlice S256x128 ![0, o] st hs) (shapeCast S256x128 b shapeCasts_S1x256x128_S256x128))
    (broadcast S256x128 (Scalar.ofBits (F := Ideal) .f32 0xF149F2CA#32))

/-- A head's largest score of every query, or the head's sink. -/
def maxT (s : FVec Ideal S256x128 .f32) (k : Elt Ideal .f32) : FVec Ideal S1x128 .f32 :=
  maximumf (shapeCast S1x128 (multiReduction .maximumf [0] S128 s 0xFF800000#32 reduces_S256x128_S128 (.inl rfl) rfl) shapeCasts_S128_S1x128)
    (broadcast S1x128 k)

/-- A head's weights before their division. -/
def probT (s : FVec Ideal S256x128 .f32) (k : Elt Ideal .f32) : FVec Ideal S256x128 .bf16 :=
  truncf .bf16 (exp (subf s (broadcastTo S256x128 (maxT s k) broadcasts_S1x128_S256x128))) bitsLt_bf16_f32

/-- The values, with a row of ones below them, times the weights of eight heads. -/
def otT (p0 p1 p2 p3 p4 p5 p6 p7 : FVec Ideal S256x128 .bf16) (v : FVec Ideal S64x256 .bf16) : FVec Ideal S80x1024 .f32 :=
  matmul dot_S80x256_S256x1024_S80x1024_1_0_0_1_n_n none
    (concatenate S80x256 0 [⟨S64x256, v⟩, ⟨S16x256, k0_pay45 (F := Ideal)⟩] concatenates_S64x256_S16x256_S80x256_d0)
    (concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, p7⟩]
      concatenates_S256x128_S256x128_S256x128_S256x128_S256x128_S256x128_S256x128_S256x128_S256x1024_d1)
    (constant (F := Ideal) S80x1024 .f32 0x00000000#32)

/-- A head's output: its columns over the sum of its weights and the sink's. -/
def headT (o : ℕ) (ho : S80x1024.Slices ![64, o] S1x128) (hd : S80x1024.Slices ![0, o] S64x128) (ot : FVec Ideal S80x1024 .f32)
    (m : FVec Ideal S1x128 .f32) (k : Elt Ideal .f32) : FVec Ideal S64x128 .bf16 :=
  shapeCast S64x128 (truncf .bf16 (mulf (extractStridedSlice S64x128 ![0, o] ot hd)
    (broadcastTo S64x128 (divf (broadcast S1x128 (Scalar.ofBits (F := Ideal) .f32 0x3F800000#32))
      (addf (extractStridedSlice S1x128 ![64, o] ot ho) (exp (subf (broadcast S1x128 k) m)))) broadcasts_S1x128_S64x128)) bitsLt_bf16_f32) shapeCasts_S64x128_S64x128

/-- The largest score of a query, or the sink. -/
theorem maxT_at (s : FVec Ideal S256x128 .f32) (k : Elt Ideal .f32) (q : Fin 128) :
    maxT s k (ix2 0 q) = max (Finset.univ.fold max (Ideal.ofBits .f32 0xFF800000#32) fun i : Fin 256 => s (ix2 i q)) k := by
  pointwise [maxT]

/-- A weight of a query. -/
theorem probT_at (s : FVec Ideal S256x128 .f32) (k : Elt Ideal .f32) (i : Fin 256) (q : Fin 128) :
    probT s k (ix2 i q) = Ideal.exp (s (ix2 i q) - maxT s k (ix2 0 q)) := by
  pointwise [probT]

/-- The row of ones. -/
theorem ones_at (i : Fin 256) : k0_pay45 (F := Ideal) (ix2 0 i) = 1 := by
  pointwise [k0_pay45]
  show ((((BitVec.setWidth 32 1#1).toInt : ℤ) : ℝ) : EReal) = 1
  rw [show (BitVec.setWidth 32 1#1).toInt = 1 from rfl]
  norm_num

/-- Head 0's score of a query at a key. -/
theorem score0_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 0 slices_S256x1024_o0_0_S256x128 M (k0_pay47 q0 q1 q2 q3 q4 q5 q6 q7 kw) b (ix2 i q)
      = if M (ix2 i q) = 1#1 then (∑ d : Fin 64, kw (ix2 i d) * q0 (ix2 d q)) + b (ix3 0 i q) else Ideal.ofBits .f32 0xF149F2CA#32 := by
  pointwise [scoreT, k0_pay47]
  rfl

/-- Head 0's output of a query. -/
theorem head0_at (p0 p1 p2 p3 p4 p5 p6 p7 : FVec Ideal S256x128 .bf16) (v : FVec Ideal S64x256 .bf16) (m : FVec Ideal S1x128 .f32) (k : Elt Ideal .f32)
    (d : Fin 64) (q : Fin 128) :
    headT 0 slices_S80x1024_o64_0_S1x128 slices_S80x1024_o0_0_S64x128 (otT p0 p1 p2 p3 p4 p5 p6 p7 v) m k (ix2 d q)
      = (∑ i : Fin 256, v (ix2 d i) * p0 (ix2 i q))
        * Ideal.div (Ideal.ofBits .f32 0x3F800000#32) ((∑ i : Fin 256, p0 (ix2 i q)) + Ideal.exp (k - m (ix2 0 q))) := by
  pointwise [headT, otT, ones_at]

/-- Head 1's score of a query at a key. -/
theorem score1_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 128 slices_S256x1024_o0_128_S256x128 M (k0_pay47 q0 q1 q2 q3 q4 q5 q6 q7 kw) b (ix2 i q)
      = if M (ix2 i q) = 1#1 then (∑ d : Fin 64, kw (ix2 i d) * q1 (ix2 d q)) + b (ix3 0 i q) else Ideal.ofBits .f32 0xF149F2CA#32 := by
  pointwise [scoreT, k0_pay47]
  rfl

/-- Head 1's output of a query. -/
theorem head1_at (p0 p1 p2 p3 p4 p5 p6 p7 : FVec Ideal S256x128 .bf16) (v : FVec Ideal S64x256 .bf16) (m : FVec Ideal S1x128 .f32) (k : Elt Ideal .f32)
    (d : Fin 64) (q : Fin 128) :
    headT 128 slices_S80x1024_o64_128_S1x128 slices_S80x1024_o0_128_S64x128 (otT p0 p1 p2 p3 p4 p5 p6 p7 v) m k (ix2 d q)
      = (∑ i : Fin 256, v (ix2 d i) * p1 (ix2 i q))
        * Ideal.div (Ideal.ofBits .f32 0x3F800000#32) ((∑ i : Fin 256, p1 (ix2 i q)) + Ideal.exp (k - m (ix2 0 q))) := by
  pointwise [headT, otT, ones_at]

/-- Head 2's score of a query at a key. -/
theorem score2_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 256 slices_S256x1024_o0_256_S256x128 M (k0_pay47 q0 q1 q2 q3 q4 q5 q6 q7 kw) b (ix2 i q)
      = if M (ix2 i q) = 1#1 then (∑ d : Fin 64, kw (ix2 i d) * q2 (ix2 d q)) + b (ix3 0 i q) else Ideal.ofBits .f32 0xF149F2CA#32 := by
  pointwise [scoreT, k0_pay47]
  have e : ∀ h, (⟨256 + ↑q - 128 - 128, h⟩ : Fin 128) = q := fun _ => Fin.ext (by have := q.isLt; dsimp only; omega)
  simp (disch := have := q.isLt; omega) only [dif_neg, dif_pos, e]
  rfl

/-- Head 2's output of a query. -/
theorem head2_at (p0 p1 p2 p3 p4 p5 p6 p7 : FVec Ideal S256x128 .bf16) (v : FVec Ideal S64x256 .bf16) (m : FVec Ideal S1x128 .f32) (k : Elt Ideal .f32)
    (d : Fin 64) (q : Fin 128) :
    headT 256 slices_S80x1024_o64_256_S1x128 slices_S80x1024_o0_256_S64x128 (otT p0 p1 p2 p3 p4 p5 p6 p7 v) m k (ix2 d q)
      = (∑ i : Fin 256, v (ix2 d i) * p2 (ix2 i q))
        * Ideal.div (Ideal.ofBits .f32 0x3F800000#32) ((∑ i : Fin 256, p2 (ix2 i q)) + Ideal.exp (k - m (ix2 0 q))) := by
  pointwise [headT, otT, ones_at]
  have e : ∀ h, (⟨256 + ↑q - 128 - 128, h⟩ : Fin 128) = q := fun _ => Fin.ext (by have := q.isLt; dsimp only; omega)
  simp (disch := have := q.isLt; omega) only [dif_neg, dif_pos, e]

/-- Head 3's score of a query at a key. -/
theorem score3_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 384 slices_S256x1024_o0_384_S256x128 M (k0_pay47 q0 q1 q2 q3 q4 q5 q6 q7 kw) b (ix2 i q)
      = if M (ix2 i q) = 1#1 then (∑ d : Fin 64, kw (ix2 i d) * q3 (ix2 d q)) + b (ix3 0 i q) else Ideal.ofBits .f32 0xF149F2CA#32 := by
  pointwise [scoreT, k0_pay47]
  have e : ∀ h, (⟨384 + ↑q - 128 - 128 - 128, h⟩ : Fin 128) = q := fun _ => Fin.ext (by have := q.isLt; dsimp only; omega)
  simp (disch := have := q.isLt; omega) only [dif_neg, dif_pos, e]
  rfl

/-- Head 3's output of a query. -/
theorem head3_at (p0 p1 p2 p3 p4 p5 p6 p7 : FVec Ideal S256x128 .bf16) (v : FVec Ideal S64x256 .bf16) (m : FVec Ideal S1x128 .f32) (k : Elt Ideal .f32)
    (d : Fin 64) (q : Fin 128) :
    headT 384 slices_S80x1024_o64_384_S1x128 slices_S80x1024_o0_384_S64x128 (otT p0 p1 p2 p3 p4 p5 p6 p7 v) m k (ix2 d q)
      = (∑ i : Fin 256, v (ix2 d i) * p3 (ix2 i q))
        * Ideal.div (Ideal.ofBits .f32 0x3F800000#32) ((∑ i : Fin 256, p3 (ix2 i q)) + Ideal.exp (k - m (ix2 0 q))) := by
  pointwise [headT, otT, ones_at]
  have e : ∀ h, (⟨384 + ↑q - 128 - 128 - 128, h⟩ : Fin 128) = q := fun _ => Fin.ext (by have := q.isLt; dsimp only; omega)
  simp (disch := have := q.isLt; omega) only [dif_neg, dif_pos, e]

/-- Head 4's score of a query at a key. -/
theorem score4_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 512 slices_S256x1024_o0_512_S256x128 M (k0_pay47 q0 q1 q2 q3 q4 q5 q6 q7 kw) b (ix2 i q)
      = if M (ix2 i q) = 1#1 then (∑ d : Fin 64, kw (ix2 i d) * q4 (ix2 d q)) + b (ix3 0 i q) else Ideal.ofBits .f32 0xF149F2CA#32 := by
  pointwise [scoreT, k0_pay47]
  have e : ∀ h, (⟨512 + ↑q - 128 - 128 - 128 - 128, h⟩ : Fin 128) = q := fun _ => Fin.ext (by have := q.isLt; dsimp only; omega)
  simp (disch := have := q.isLt; omega) only [dif_neg, dif_pos, e]
  rfl

/-- Head 4's output of a query. -/
theorem head4_at (p0 p1 p2 p3 p4 p5 p6 p7 : FVec Ideal S256x128 .bf16) (v : FVec Ideal S64x256 .bf16) (m : FVec Ideal S1x128 .f32) (k : Elt Ideal .f32)
    (d : Fin 64) (q : Fin 128) :
    headT 512 slices_S80x1024_o64_512_S1x128 slices_S80x1024_o0_512_S64x128 (otT p0 p1 p2 p3 p4 p5 p6 p7 v) m k (ix2 d q)
      = (∑ i : Fin 256, v (ix2 d i) * p4 (ix2 i q))
        * Ideal.div (Ideal.ofBits .f32 0x3F800000#32) ((∑ i : Fin 256, p4 (ix2 i q)) + Ideal.exp (k - m (ix2 0 q))) := by
  pointwise [headT, otT, ones_at]
  have e : ∀ h, (⟨512 + ↑q - 128 - 128 - 128 - 128, h⟩ : Fin 128) = q := fun _ => Fin.ext (by have := q.isLt; dsimp only; omega)
  simp (disch := have := q.isLt; omega) only [dif_neg, dif_pos, e]

/-- Head 5's score of a query at a key. -/
theorem score5_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 640 slices_S256x1024_o0_640_S256x128 M (k0_pay47 q0 q1 q2 q3 q4 q5 q6 q7 kw) b (ix2 i q)
      = if M (ix2 i q) = 1#1 then (∑ d : Fin 64, kw (ix2 i d) * q5 (ix2 d q)) + b (ix3 0 i q) else Ideal.ofBits .f32 0xF149F2CA#32 := by
  pointwise [scoreT, k0_pay47]
  have e : ∀ h, (⟨640 + ↑q - 128 - 128 - 128 - 128 - 128, h⟩ : Fin 128) = q := fun _ => Fin.ext (by have := q.isLt; dsimp only; omega)
  simp (disch := have := q.isLt; omega) only [dif_neg, dif_pos, e]
  rfl

/-- Head 5's output of a query. -/
theorem head5_at (p0 p1 p2 p3 p4 p5 p6 p7 : FVec Ideal S256x128 .bf16) (v : FVec Ideal S64x256 .bf16) (m : FVec Ideal S1x128 .f32) (k : Elt Ideal .f32)
    (d : Fin 64) (q : Fin 128) :
    headT 640 slices_S80x1024_o64_640_S1x128 slices_S80x1024_o0_640_S64x128 (otT p0 p1 p2 p3 p4 p5 p6 p7 v) m k (ix2 d q)
      = (∑ i : Fin 256, v (ix2 d i) * p5 (ix2 i q))
        * Ideal.div (Ideal.ofBits .f32 0x3F800000#32) ((∑ i : Fin 256, p5 (ix2 i q)) + Ideal.exp (k - m (ix2 0 q))) := by
  pointwise [headT, otT, ones_at]
  have e : ∀ h, (⟨640 + ↑q - 128 - 128 - 128 - 128 - 128, h⟩ : Fin 128) = q := fun _ => Fin.ext (by have := q.isLt; dsimp only; omega)
  simp (disch := have := q.isLt; omega) only [dif_neg, dif_pos, e]

/-- Head 6's score of a query at a key. -/
theorem score6_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 768 slices_S256x1024_o0_768_S256x128 M (k0_pay47 q0 q1 q2 q3 q4 q5 q6 q7 kw) b (ix2 i q)
      = if M (ix2 i q) = 1#1 then (∑ d : Fin 64, kw (ix2 i d) * q6 (ix2 d q)) + b (ix3 0 i q) else Ideal.ofBits .f32 0xF149F2CA#32 := by
  pointwise [scoreT, k0_pay47]
  have e : ∀ h, (⟨768 + ↑q - 128 - 128 - 128 - 128 - 128 - 128, h⟩ : Fin 128) = q := fun _ => Fin.ext (by have := q.isLt; dsimp only; omega)
  simp (disch := have := q.isLt; omega) only [dif_neg, dif_pos, e]
  rfl

/-- Head 6's output of a query. -/
theorem head6_at (p0 p1 p2 p3 p4 p5 p6 p7 : FVec Ideal S256x128 .bf16) (v : FVec Ideal S64x256 .bf16) (m : FVec Ideal S1x128 .f32) (k : Elt Ideal .f32)
    (d : Fin 64) (q : Fin 128) :
    headT 768 slices_S80x1024_o64_768_S1x128 slices_S80x1024_o0_768_S64x128 (otT p0 p1 p2 p3 p4 p5 p6 p7 v) m k (ix2 d q)
      = (∑ i : Fin 256, v (ix2 d i) * p6 (ix2 i q))
        * Ideal.div (Ideal.ofBits .f32 0x3F800000#32) ((∑ i : Fin 256, p6 (ix2 i q)) + Ideal.exp (k - m (ix2 0 q))) := by
  pointwise [headT, otT, ones_at]
  have e : ∀ h, (⟨768 + ↑q - 128 - 128 - 128 - 128 - 128 - 128, h⟩ : Fin 128) = q := fun _ => Fin.ext (by have := q.isLt; dsimp only; omega)
  simp (disch := have := q.isLt; omega) only [dif_neg, dif_pos, e]

/-- Head 7's score of a query at a key. -/
theorem score7_at (M : IVec S256x128 1) (q0 q1 q2 q3 q4 q5 q6 q7 : FVec Ideal S64x128 .bf16) (kw : FVec Ideal S256x64 .bf16) (b : FVec Ideal S1x256x128 .f32)
    (i : Fin 256) (q : Fin 128) :
    scoreT 896 slices_S256x1024_o0_896_S256x128 M (k0_pay47 q0 q1 q2 q3 q4 q5 q6 q7 kw) b (ix2 i q)
      = if M (ix2 i q) = 1#1 then (∑ d : Fin 64, kw (ix2 i d) * q7 (ix2 d q)) + b (ix3 0 i q) else Ideal.ofBits .f32 0xF149F2CA#32 := by
  pointwise [scoreT, k0_pay47]
  have e : ∀ h, (⟨896 + ↑q - 128 - 128 - 128 - 128 - 128 - 128 - 128, h⟩ : Fin 128) = q := fun _ => Fin.ext (by have := q.isLt; dsimp only; omega)
  simp (disch := have := q.isLt; omega) only [dif_neg, dif_pos, e]
  rfl

/-- Head 7's output of a query. -/
theorem head7_at (p0 p1 p2 p3 p4 p5 p6 p7 : FVec Ideal S256x128 .bf16) (v : FVec Ideal S64x256 .bf16) (m : FVec Ideal S1x128 .f32) (k : Elt Ideal .f32)
    (d : Fin 64) (q : Fin 128) :
    headT 896 slices_S80x1024_o64_896_S1x128 slices_S80x1024_o0_896_S64x128 (otT p0 p1 p2 p3 p4 p5 p6 p7 v) m k (ix2 d q)
      = (∑ i : Fin 256, v (ix2 d i) * p7 (ix2 i q))
        * Ideal.div (Ideal.ofBits .f32 0x3F800000#32) ((∑ i : Fin 256, p7 (ix2 i q)) + Ideal.exp (k - m (ix2 0 q))) := by
  pointwise [headT, otT, ones_at]
  have e : ∀ h, (⟨896 + ↑q - 128 - 128 - 128 - 128 - 128 - 128 - 128, h⟩ : Fin 128) = q := fun _ => Fin.ext (by have := q.isLt; dsimp only; omega)
  simp (disch := have := q.isLt; omega) only [dif_neg, dif_pos, e]

/-- The larger of a query's largest score and the sink. -/
def mx (st : Fin 256 → EReal) (k : EReal) : EReal := max (Finset.univ.fold max (Ideal.ofBits .f32 0xFF800000#32) st) k

/-- The weighted sum of values, over the sum of the weights and the sink's. -/
def att (st v : Fin 256 → EReal) (k : EReal) : EReal :=
  (∑ i, v i * Ideal.exp (st i - mx st k))
    * Ideal.div (Ideal.ofBits .f32 0x3F800000#32) ((∑ i, Ideal.exp (st i - mx st k)) + Ideal.exp (k - mx st k))

/-- A masked score: the product plus the bias where the mask allows it. -/
def sc (M : BitVec 1) (p b : EReal) : EReal := if M = 1#1 then p + b else Ideal.ofBits .f32 0xF149F2CA#32

/-- Head 0's output in a group. -/
def grp0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 0 slices_S80x1024_o64_0_S1x128 slices_S80x1024_o0_0_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 0 slices_S256x1024_o0_0_S256x128 M (k0_pay47 q0 q1 q2 q3 q4 q5 q6 q7 kw) b0) k0) k0

/-- Head 0's output in a group, at an index. -/
theorem grp0_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp0 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q0 (ix2 e q)) (b0 (ix3 0 i q))) (fun i => v (ix2 d i)) k0 := by
  unfold grp0
  rw [head0_at]
  simp only [probT_at, maxT_at, score0_at]
  rfl

/-- Head 1's output in a group. -/
def grp1 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 128 slices_S80x1024_o64_128_S1x128 slices_S80x1024_o0_128_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 128 slices_S256x1024_o0_128_S256x128 M (k0_pay47 q0 q1 q2 q3 q4 q5 q6 q7 kw) b1) k1) k1

/-- Head 1's output in a group, at an index. -/
theorem grp1_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp1 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q1 (ix2 e q)) (b1 (ix3 0 i q))) (fun i => v (ix2 d i)) k1 := by
  unfold grp1
  rw [head1_at]
  simp only [probT_at, maxT_at, score1_at]
  rfl

/-- Head 2's output in a group. -/
def grp2 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 256 slices_S80x1024_o64_256_S1x128 slices_S80x1024_o0_256_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 256 slices_S256x1024_o0_256_S256x128 M (k0_pay47 q0 q1 q2 q3 q4 q5 q6 q7 kw) b2) k2) k2

/-- Head 2's output in a group, at an index. -/
theorem grp2_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp2 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q2 (ix2 e q)) (b2 (ix3 0 i q))) (fun i => v (ix2 d i)) k2 := by
  unfold grp2
  rw [head2_at]
  simp only [probT_at, maxT_at, score2_at]
  rfl

/-- Head 3's output in a group. -/
def grp3 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 384 slices_S80x1024_o64_384_S1x128 slices_S80x1024_o0_384_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 384 slices_S256x1024_o0_384_S256x128 M (k0_pay47 q0 q1 q2 q3 q4 q5 q6 q7 kw) b3) k3) k3

/-- Head 3's output in a group, at an index. -/
theorem grp3_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp3 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q3 (ix2 e q)) (b3 (ix3 0 i q))) (fun i => v (ix2 d i)) k3 := by
  unfold grp3
  rw [head3_at]
  simp only [probT_at, maxT_at, score3_at]
  rfl

/-- Head 4's output in a group. -/
def grp4 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 512 slices_S80x1024_o64_512_S1x128 slices_S80x1024_o0_512_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 512 slices_S256x1024_o0_512_S256x128 M (k0_pay47 q0 q1 q2 q3 q4 q5 q6 q7 kw) b4) k4) k4

/-- Head 4's output in a group, at an index. -/
theorem grp4_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp4 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q4 (ix2 e q)) (b4 (ix3 0 i q))) (fun i => v (ix2 d i)) k4 := by
  unfold grp4
  rw [head4_at]
  simp only [probT_at, maxT_at, score4_at]
  rfl

/-- Head 5's output in a group. -/
def grp5 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 640 slices_S80x1024_o64_640_S1x128 slices_S80x1024_o0_640_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 640 slices_S256x1024_o0_640_S256x128 M (k0_pay47 q0 q1 q2 q3 q4 q5 q6 q7 kw) b5) k5) k5

/-- Head 5's output in a group, at an index. -/
theorem grp5_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp5 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q5 (ix2 e q)) (b5 (ix3 0 i q))) (fun i => v (ix2 d i)) k5 := by
  unfold grp5
  rw [head5_at]
  simp only [probT_at, maxT_at, score5_at]
  rfl

/-- Head 6's output in a group. -/
def grp6 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 768 slices_S80x1024_o64_768_S1x128 slices_S80x1024_o0_768_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 768 slices_S256x1024_o0_768_S256x128 M (k0_pay47 q0 q1 q2 q3 q4 q5 q6 q7 kw) b6) k6) k6

/-- Head 6's output in a group, at an index. -/
theorem grp6_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp6 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q6 (ix2 e q)) (b6 (ix3 0 i q))) (fun i => v (ix2 d i)) k6 := by
  unfold grp6
  rw [head6_at]
  simp only [probT_at, maxT_at, score6_at]
  rfl

/-- Head 7's output in a group. -/
def grp7 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) : FVec Ideal S64x128 .bf16 :=
  headT 896 slices_S80x1024_o64_896_S1x128 slices_S80x1024_o0_896_S64x128
    (otT (probT (scoreT 0 slices_S256x1024_o0_0_S256x128 M (k0_pay47 q0 q1 q2 q3 q4 q5 q6 q7 kw) b0) k0) (probT (scoreT 128 slices_S256x1024_o0_128_S256x128 M (k0_pay47 q0 q1 q2 q3 q4 q5 q6 q7 kw) b1) k1) (probT (scoreT 256 slices_S256x1024_o0_256_S256x128 M (k0_pay47 q0 q1 q2 q3 q4 q5 q6 q7 kw) b2) k2) (probT (scoreT 384 slices_S256x1024_o0_384_S256x128 M (k0_pay47 q0 q1 q2 q3 q4 q5 q6 q7 kw) b3) k3) (probT (scoreT 512 slices_S256x1024_o0_512_S256x128 M (k0_pay47 q0 q1 q2 q3 q4 q5 q6 q7 kw) b4) k4) (probT (scoreT 640 slices_S256x1024_o0_640_S256x128 M (k0_pay47 q0 q1 q2 q3 q4 q5 q6 q7 kw) b5) k5) (probT (scoreT 768 slices_S256x1024_o0_768_S256x128 M (k0_pay47 q0 q1 q2 q3 q4 q5 q6 q7 kw) b6) k6) (probT (scoreT 896 slices_S256x1024_o0_896_S256x128 M (k0_pay47 q0 q1 q2 q3 q4 q5 q6 q7 kw) b7) k7) v)
    (maxT (scoreT 896 slices_S256x1024_o0_896_S256x128 M (k0_pay47 q0 q1 q2 q3 q4 q5 q6 q7 kw) b7) k7) k7

/-- Head 7's output in a group, at an index. -/
theorem grp7_at (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) (d : Fin 64) (q : Fin 128) :
    grp7 M q0 q1 q2 q3 q4 q5 q6 q7 kw b0 b1 b2 b3 b4 b5 b6 b7 v k0 k1 k2 k3 k4 k5 k6 k7 (ix2 d q)
      = att (fun i => sc (M (ix2 i q)) (∑ e : Fin 64, kw (ix2 i e) * q7 (ix2 e q)) (b7 (ix3 0 i q))) (fun i => v (ix2 d i)) k7 := by
  unfold grp7
  rw [head7_at]
  simp only [probT_at, maxT_at, score7_at]
  rfl

end Cert.AttnValue

end
-- ==== Proof.AttnWords.lean ====
/- The comparisons of positions behind the attention's masks. -/
module

public import Idealize.ShloMosaic.Lib.Pipeline.ValueKit
public import Idealize.ShloMosaic.Lib.Pointwise

@[expose] public section

set_option maxRecDepth 16384

namespace Cert.AttnMath

open Idealize.ShloMosaic Idealize.ShloMosaic.TcCoe Idealize.SL.Sem

/-- The conjunction of two decided conditions. -/
theorem andi_ite {p q r : Prop} [Decidable p] [Decidable q] [Decidable r] (h : r ↔ p ∧ q) :
    IntOp.andi (if p then 1#1 else 0#1) (if q then 1#1 else 0#1) = if r then 1#1 else 0#1 := by
  by_cases hp : p
  · by_cases hq : q
    · rw [if_pos hp, if_pos hq, if_pos (h.2 ⟨hp, hq⟩)]; rfl
    · rw [if_pos hp, if_neg hq, if_neg fun k => hq (h.1 k).2]; rfl
  · rw [if_neg hp, if_neg (c := r) fun k => hp (h.1 k).1]
    by_cases hq : q
    · rw [if_pos hq]; rfl
    · rw [if_neg hq]; rfl

/-- A band position's comparison with the window. -/
theorem bandWin : ∀ (q : Fin 128) (s : Fin 256), IntOp.andi
      (IntOp.cmpi .sge (IntOp.subi (IntOp.addi (BitVec.ofNat 32 q.val) 128#32) (BitVec.ofNat 32 s.val)) 0#32)
      (IntOp.cmpi .slt (IntOp.subi (IntOp.addi (BitVec.ofNat 32 q.val) 128#32) (BitVec.ofNat 32 s.val)) 128#32)
    = if q.val < s.val ∧ s.val ≤ q.val + 128 then 1#1 else 0#1 := by
  decide +kernel

/-- A band position's comparison with the start of the sequence. -/
theorem bandStart : ∀ (n : Fin 64) (s : Fin 256),
    IntOp.cmpi .sge (IntOp.addi (IntOp.muli (IntOp.subi (BitVec.ofNat 32 n.val) 1#32) 128#32) (BitVec.ofNat 32 s.val)) 0#32
    = if 128 ≤ n.val * 128 + s.val then 1#1 else 0#1 := by
  decide +kernel

/-- A position's comparison with a block's window. -/
theorem win : ∀ (i : Fin 256) (q : Fin 128), IntOp.andi (IntOp.cmpi .sgt (BitVec.ofNat 32 i.val) (BitVec.ofNat 32 q.val))
      (IntOp.cmpi .sle (BitVec.ofNat 32 i.val) (IntOp.addi (BitVec.ofNat 32 q.val) 128#32))
    = if q.val < i.val ∧ i.val ≤ q.val + 128 then 1#1 else 0#1 := by
  decide +kernel

/-- A position's comparison with the start of the sequence. -/
theorem start : ∀ (c : Fin 2) (i : Fin 256), IntOp.cmpi .sge (BitVec.ofNat 32 i.val) (Scalar.select (BitVec.ofNat 1 c.val) 128#32 0#32)
    = if BitVec.ofNat 1 c.val = 1#1 → 128 ≤ i.val then 1#1 else 0#1 := by
  decide +kernel

end Cert.AttnMath
-- ==== Proof.AttnRefProj.lean ====
/- The attention reference's projection, head norms and key bands, read at an index. -/
module

public import proofs.«01_k».proof.Proof.Gen.AttnRefIdeal.Read
public import proofs.«01_k».proof.Proof.AttnWords
public import Idealize.ShloMosaic.Lib.Pipeline.ValueKit
public import Idealize.ShloMosaic.Lib.Pointwise

@[expose] public section

set_option maxRecDepth 16384

noncomputable section

namespace Cert.AttnMath

open Idealize.ShloMosaic Idealize.ShloMosaic.TcCoe Idealize.SL.Sem

/-- One normalised entry of a token: the entry over the root of the row's mean square, times the gain. -/
def rmsn (x g : Fin 1024 → EReal) (k : Fin 1024) : EReal :=
  x k * Ideal.rsqrt (Ideal.div (∑ l, x l * x l) (Ideal.ofBits .f32 0x44800000#32) + Ideal.ofBits .f32 0x358637BD#32) * g k

/-- One entry of the combined query, key and value projection of a token. -/
def proj (x g : Fin 1024 → EReal) (w : Fin 1024 → Fin 1280 → EReal) (b : Fin 1280 → EReal) (f : Fin 1280) : EReal :=
  ∑ k, rmsn x g k * w k f + b f

/-- One entry of a head over the root of the head's mean square. -/
def headn (p : Fin 64 → EReal) (d : Fin 64) : EReal :=
  p d * Ideal.rsqrt (Ideal.div (∑ l, p l * p l) (Ideal.ofBits .f32 0x42800000#32) + Ideal.ofBits .f32 0x358637BD#32)

end Cert.AttnMath

namespace Cert.AttnRefIdeal.Read

open Cert.AttnRefIdeal Cert.AttnRefIdeal.Gen Idealize.ShloMosaic Idealize.ShloMosaic.TcCoe Idealize.SL.Sem Cert.AttnMath

variable (x0 : FVec Ideal S16384x1024 .f32) (x1 : FVec Ideal S1024 .f32) (x2 : FVec Ideal S1024x1280 .f32)
  (x3 : FVec Ideal S1280 .f32) (x4 x5 : FVec Ideal S64 .f32)

/-- The projection of token `r` at column `f`. -/
theorem qkv_at (r : Fin 16384) (f : Fin 1280) : val_main_v16 (F := Ideal) x0 x1 x2 x3 (ix2 r f)
    = proj (fun k => x0 (ix2 r k)) (fun k => x1 (ix1 k)) (fun k f => x2 (ix2 k f)) (fun f => x3 (ix1 f)) f := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, proj, rmsn]

/-- A query head's entry: normalised over the head, times the query gain. -/
theorem q_at (b : Fin 2) (s : Fin 8192) (hd : Fin 16) (d : Fin 64) :
    val_main_v35 (F := Ideal) x0 x1 x2 x3 x4 (ix4 b s hd d)
      = headn (fun d => val_main_v16 (F := Ideal) x0 x1 x2 x3 (ix2 ⟨b.val * 8192 + s.val, by omega⟩ ⟨hd.val * 64 + d.val, by omega⟩)) d
        * x4 (ix1 d) := by
  pointwise [val_main_v35, val_main_v34, val_main_v33, val_main_v32, val_main_v31, val_main_v30, val_main_v29, val_main_v28,
    val_main_v27, val_main_v26, val_main_v25, val_main_v24, val_main_v23, val_main_v20, val_main_v17, val_main_cst_2,
    val_main_cst_3, val_main_cst_4, headn]

/-- A key head's entry: normalised over the head, times the key gain. -/
theorem k_at (b : Fin 2) (s : Fin 8192) (g : Fin 2) (d : Fin 64) :
    val_main_v48 (F := Ideal) x0 x1 x2 x3 x5 (ix4 b s g d)
      = headn (fun d => val_main_v16 (F := Ideal) x0 x1 x2 x3 (ix2 ⟨b.val * 8192 + s.val, by omega⟩ ⟨1024 + (g.val * 64 + d.val), by omega⟩)) d
        * x5 (ix1 d) := by
  pointwise [val_main_v48, val_main_v47, val_main_v46, val_main_v45, val_main_v44, val_main_v43, val_main_v42, val_main_v41,
    val_main_v40, val_main_v39, val_main_v38, val_main_v37, val_main_v36, val_main_v21, val_main_v18, val_main_cst_5,
    val_main_cst_6, val_main_cst_7, headn]

/-- A value head's entry. -/
theorem v_at (b : Fin 2) (s : Fin 8192) (g : Fin 2) (d : Fin 64) :
    val_main_v22 (F := Ideal) x0 x1 x2 x3 (ix4 b s g d)
      = val_main_v16 (F := Ideal) x0 x1 x2 x3 (ix2 ⟨b.val * 8192 + s.val, by omega⟩ ⟨1152 + (g.val * 64 + d.val), by omega⟩) := by
  pointwise [val_main_v22, val_main_v19]

/-- The word zero as a number. -/
theorem sitofp0 : FloatOps.sitofp (F := Ideal) FTy.f32 0#32 = 0 := by
  show ((((0#32 : BitVec 32).toInt : ℤ) : ℝ) : EReal) = 0
  rw [show (0#32 : BitVec 32).toInt = 0 from rfl]
  norm_num

/-- The key band: position `s` of block `n` is the key 128 before its place in the sequence, zero before the sequence. -/
theorem kband_at (b : Fin 2) (n : Fin 64) (s : Fin 256) (g : Fin 2) (d : Fin 64) :
    val_main_v54 (F := Ideal) x0 x1 x2 x3 x5 (ix5 b n s g d)
      = if h : 128 ≤ n.val * 128 + s.val then
          val_main_v48 (F := Ideal) x0 x1 x2 x3 x5 (ix4 b ⟨n.val * 128 + s.val - 128, by omega⟩ g d) else 0 := by
  pointwise [val_main_v54, val_main_v53, val_main_v52, val_main_v51, val_main_v50, val_main_call0_v0, val_main_c]
  by_cases h : 128 ≤ n.val * 128 + s.val
  · by_cases hs : s.val < 128
    · rw [dif_pos hs, dif_pos ⟨h, by omega⟩, dif_pos h]
    · rw [dif_neg hs, dif_pos ⟨by omega, by omega⟩, dif_pos h]
      refine congrArg (fun p => val_main_v48 (F := Ideal) x0 x1 x2 x3 x5 (ix4 b p g d)) (Fin.ext ?_)
      dsimp only
      omega
  · rw [dif_pos (by omega), dif_neg (by omega), dif_neg h]
    exact sitofp0

/-- The value band. -/
theorem vband_at (b : Fin 2) (n : Fin 64) (s : Fin 256) (g : Fin 2) (d : Fin 64) :
    val_main_v59 (F := Ideal) x0 x1 x2 x3 (ix5 b n s g d)
      = if h : 128 ≤ n.val * 128 + s.val then
          val_main_v22 (F := Ideal) x0 x1 x2 x3 (ix4 b ⟨n.val * 128 + s.val - 128, by omega⟩ g d) else 0 := by
  pointwise [val_main_v59, val_main_v58, val_main_v57, val_main_v56, val_main_v55, val_main_call1_v0, val_main_c_8]
  by_cases h : 128 ≤ n.val * 128 + s.val
  · by_cases hs : s.val < 128
    · rw [dif_pos hs, dif_pos ⟨h, by omega⟩, dif_pos h]
    · rw [dif_neg hs, dif_pos ⟨by omega, by omega⟩, dif_pos h]
      refine congrArg (fun p => val_main_v22 (F := Ideal) x0 x1 x2 x3 (ix4 b p g d)) (Fin.ext ?_)
      dsimp only
      omega
  · rw [dif_pos (by omega), dif_neg (by omega), dif_neg h]
    exact sitofp0

/-- The band's mask: inside the window and inside the sequence. -/
theorem mask_at (n : Fin 64) (q : Fin 128) (s : Fin 256) :
    val_main_v79 (F := Ideal) (ix3 n q s) = if q.val < s.val ∧ s.val ≤ q.val + 128 ∧ 128 ≤ n.val * 128 + s.val then 1#1 else 0#1 := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_c_9, val_main_c_10, val_main_c_11, val_main_c_12, val_main_c_13, val_main_c_14]
  rw [bandWin, bandStart]
  exact andi_ite and_assoc.symm

end Cert.AttnRefIdeal.Read

end
-- ==== Proof.AttnProj.lean ====
/- A tile's queries, keys and values, read at an index. -/
module

public import proofs.«01_k».proof.Proof.AttnHead
public import proofs.«01_k».proof.Proof.AttnRefProj

@[expose] public section

set_option maxRecDepth 16384

noncomputable section

namespace Cert.AttnValue

open Idealize.ShloMosaic Idealize.ShloMosaic.TcCoe Idealize.SL.Sem
open Cert.AttnIdeal Cert.AttnIdeal.Gen Cert.AttnMath
/-- The stores of the sixteen normalised query heads. -/
def qPieces (x : Vec Ideal S512x1024 .f32) (g : Vec Ideal S1x1024 .f32) (w : Vec Ideal S1280x1024 .bf16) (b : Vec Ideal S1280x128 .f32) :
    List (View.Piece (Elt Ideal) S1024x512 .bf16) :=
  [⟨Rect.unit ![960, 0] ![64, 512] inb_S1024x512_S64x512_960_0, k0_pay37 (k0_pay8 x g w) (k0_pay9 b)⟩,
    ⟨Rect.unit ![896, 0] ![64, 512] inb_S1024x512_S64x512_896_0, k0_pay36 (k0_pay35 (k0_pay8 x g w) (k0_pay9 b))⟩,
    ⟨Rect.unit ![832, 0] ![64, 512] inb_S1024x512_S64x512_832_0, k0_pay34 (k0_pay8 x g w) (k0_pay9 b)⟩,
    ⟨Rect.unit ![768, 0] ![64, 512] inb_S1024x512_S64x512_768_0, k0_pay33 (k0_pay30 (k0_pay8 x g w) (k0_pay9 b)) (k0_pay31 (k0_pay8 x g w) (k0_pay9 b)) k0_pay32⟩,
    ⟨Rect.unit ![704, 0] ![64, 512] inb_S1024x512_S64x512_704_0, k0_pay29 (k0_pay8 x g w) (k0_pay9 b)⟩,
    ⟨Rect.unit ![640, 0] ![64, 512] inb_S1024x512_S64x512_640_0, k0_pay28 (k0_pay8 x g w) (k0_pay9 b)⟩,
    ⟨Rect.unit ![576, 0] ![64, 512] inb_S1024x512_S64x512_576_0, k0_pay27 (k0_pay26 (k0_pay8 x g w) (k0_pay9 b))⟩,
    ⟨Rect.unit ![512, 0] ![64, 512] inb_S1024x512_S64x512_512_0, k0_pay25 (k0_pay8 x g w) (k0_pay9 b)⟩,
    ⟨Rect.unit ![448, 0] ![64, 512] inb_S1024x512_S64x512_448_0, k0_pay24 (k0_pay21 (k0_pay8 x g w) (k0_pay9 b)) (k0_pay22 (k0_pay8 x g w) (k0_pay9 b)) k0_pay23⟩,
    ⟨Rect.unit ![384, 0] ![64, 512] inb_S1024x512_S64x512_384_0, k0_pay20 (k0_pay8 x g w) (k0_pay9 b)⟩,
    ⟨Rect.unit ![320, 0] ![64, 512] inb_S1024x512_S64x512_320_0, k0_pay19 (k0_pay8 x g w) (k0_pay9 b)⟩,
    ⟨Rect.unit ![256, 0] ![64, 512] inb_S1024x512_S64x512_256_0, k0_pay18 (k0_pay17 (k0_pay8 x g w) (k0_pay9 b))⟩,
    ⟨Rect.unit ![192, 0] ![64, 512] inb_S1024x512_S64x512_192_0, k0_pay16 (k0_pay8 x g w) (k0_pay9 b)⟩,
    ⟨Rect.unit ![128, 0] ![64, 512] inb_S1024x512_S64x512_128_0, k0_pay15 (k0_pay12 (k0_pay8 x g w) b) (k0_pay13 (k0_pay8 x g w) b) k0_pay14⟩,
    ⟨Rect.unit ![64, 0] ![64, 512] inb_S1024x512_S64x512_64_0, k0_pay11 (k0_pay8 x g w) b⟩,
    ⟨Rect.unit ![0, 0] ![64, 512] inb_S1024x512_S64x512_0_0, k0_pay10 (k0_pay8 x g w) b⟩]

/-- The stores of the keys: the halo's and the tile's. -/
def kPieces (h : Vec Ideal S128x128 .bf16) (x : Vec Ideal S512x1024 .f32) (g : Vec Ideal S1x1024 .f32) (w : Vec Ideal S1280x1024 .bf16)
    (b : Vec Ideal S1280x128 .f32) (kg : Vec Ideal S1x128 .f32) : List (View.Piece (Elt Ideal) S640x128 .bf16) :=
  [⟨Rect.unit ![128, 0] ![512, 128] inb_S640x128_S512x128_128_0,
      k0_pay43 (k0_pay38 (k0_pay8 x g w) (k0_pay9 b)) (k0_pay40 (k0_pay8 x g w) (k0_pay9 b)) (k0_pay41 (k0_pay8 x g w) (k0_pay9 b)) kg⟩,
    ⟨Rect.unit ![0, 0] ![128, 128] inb_S640x128_S128x128_0_0, h⟩]

/-- The stores of the values: the halo's and the tile's. -/
def vPieces (h : Vec Ideal S128x128 .bf16) (x : Vec Ideal S512x1024 .f32) (g : Vec Ideal S1x1024 .f32) (w : Vec Ideal S1280x1024 .bf16)
    (b : Vec Ideal S1280x128 .f32) : List (View.Piece (Elt Ideal) S128x640 .bf16) :=
  [⟨Rect.unit ![64, 128] ![64, 512] inb_S128x640_S64x512_64_128, k0_pay42 (k0_pay8 x g w) (k0_pay9 b)⟩,
    ⟨Rect.unit ![0, 128] ![64, 512] inb_S128x640_S64x512_0_128, k0_pay39 (k0_pay8 x g w) (k0_pay9 b)⟩,
    ⟨Rect.unit ![0, 0] ![128, 128] inb_S128x640_S128x128_0_0, h⟩]

/-- The projection of a tile without its bias: row `f` at token `i`. -/
theorem pay8_at (x : Vec Ideal S512x1024 .f32) (g : Vec Ideal S1x1024 .f32) (w : Vec Ideal S1280x1024 .bf16) (f : Fin 1280) (i : Fin 512) :
    k0_pay8 x g w (ix2 f i) = ∑ k, w (ix2 f k) * rmsn (fun k => x (ix2 i k)) (fun k => g (ix2 0 k)) k := by
  pointwise [k0_pay8, rmsn]

variable (P : FVec Ideal S1280x512 .f32) (b : Vec Ideal S1280x128 .f32) (β : Fin 1280 → EReal) (hb : ∀ f c, b (ix2 f c) = β f)

include hb

/-- The query head 15, normalised. -/
theorem q15_at (d : Fin 64) (i : Fin 512) :
    (k0_pay37 P (k0_pay9 b) : FVec Ideal S64x512 .bf16) (ix2 d i)
      = headn (fun l => P (ix2 ⟨960 + l.val, by omega⟩ i) + β ⟨960 + l.val, by omega⟩) d := by
  pointwise [k0_pay37, k0_pay9, headn]
  simp only [hb]
  split_ifs <;> rfl

/-- The query head 14, normalised. -/
theorem q14_at (d : Fin 64) (i : Fin 512) :
    (k0_pay36 (k0_pay35 P (k0_pay9 b)) : FVec Ideal S64x512 .bf16) (ix2 d i)
      = headn (fun l => P (ix2 ⟨896 + l.val, by omega⟩ i) + β ⟨896 + l.val, by omega⟩) d := by
  pointwise [k0_pay35, k0_pay36, k0_pay9, headn]
  simp only [hb]
  split_ifs <;> rfl

/-- The query head 13, normalised. -/
theorem q13_at (d : Fin 64) (i : Fin 512) :
    (k0_pay34 P (k0_pay9 b) : FVec Ideal S64x512 .bf16) (ix2 d i)
      = headn (fun l => P (ix2 ⟨832 + l.val, by omega⟩ i) + β ⟨832 + l.val, by omega⟩) d := by
  pointwise [k0_pay34, k0_pay9, headn]
  simp only [hb]
  split_ifs <;> rfl

/-- The query head 12, normalised. -/
theorem q12_at (d : Fin 64) (i : Fin 512) :
    (k0_pay33 (k0_pay30 P (k0_pay9 b)) (k0_pay31 P (k0_pay9 b)) (k0_pay32 (F := Ideal)) : FVec Ideal S64x512 .bf16) (ix2 d i)
      = headn (fun l => P (ix2 ⟨768 + l.val, by omega⟩ i) + β ⟨768 + l.val, by omega⟩) d := by
  pointwise [k0_pay30, k0_pay31, k0_pay32, k0_pay33, k0_pay9, headn]
  simp only [hb]
  split_ifs <;> rfl

/-- The query head 11, normalised. -/
theorem q11_at (d : Fin 64) (i : Fin 512) :
    (k0_pay29 P (k0_pay9 b) : FVec Ideal S64x512 .bf16) (ix2 d i)
      = headn (fun l => P (ix2 ⟨704 + l.val, by omega⟩ i) + β ⟨704 + l.val, by omega⟩) d := by
  pointwise [k0_pay29, k0_pay9, headn]
  simp only [hb]
  split_ifs <;> rfl

/-- The query head 10, normalised. -/
theorem q10_at (d : Fin 64) (i : Fin 512) :
    (k0_pay28 P (k0_pay9 b) : FVec Ideal S64x512 .bf16) (ix2 d i)
      = headn (fun l => P (ix2 ⟨640 + l.val, by omega⟩ i) + β ⟨640 + l.val, by omega⟩) d := by
  pointwise [k0_pay28, k0_pay9, headn]
  simp only [hb]
  split_ifs <;> rfl

/-- The query head 9, normalised. -/
theorem q9_at (d : Fin 64) (i : Fin 512) :
    (k0_pay27 (k0_pay26 P (k0_pay9 b)) : FVec Ideal S64x512 .bf16) (ix2 d i)
      = headn (fun l => P (ix2 ⟨576 + l.val, by omega⟩ i) + β ⟨576 + l.val, by omega⟩) d := by
  pointwise [k0_pay26, k0_pay27, k0_pay9, headn]
  simp only [hb]
  split_ifs <;> rfl

/-- The query head 8, normalised. -/
theorem q8_at (d : Fin 64) (i : Fin 512) :
    (k0_pay25 P (k0_pay9 b) : FVec Ideal S64x512 .bf16) (ix2 d i)
      = headn (fun l => P (ix2 ⟨512 + l.val, by omega⟩ i) + β ⟨512 + l.val, by omega⟩) d := by
  pointwise [k0_pay25, k0_pay9, headn]
  simp only [hb]
  split_ifs <;> rfl

/-- The query head 7, normalised. -/
theorem q7_at (d : Fin 64) (i : Fin 512) :
    (k0_pay24 (k0_pay21 P (k0_pay9 b)) (k0_pay22 P (k0_pay9 b)) (k0_pay23 (F := Ideal)) : FVec Ideal S64x512 .bf16) (ix2 d i)
      = headn (fun l => P (ix2 ⟨448 + l.val, by omega⟩ i) + β ⟨448 + l.val, by omega⟩) d := by
  pointwise [k0_pay21, k0_pay22, k0_pay23, k0_pay24, k0_pay9, headn]
  simp only [hb]
  split_ifs <;> rfl

/-- The query head 6, normalised. -/
theorem q6_at (d : Fin 64) (i : Fin 512) :
    (k0_pay20 P (k0_pay9 b) : FVec Ideal S64x512 .bf16) (ix2 d i)
      = headn (fun l => P (ix2 ⟨384 + l.val, by omega⟩ i) + β ⟨384 + l.val, by omega⟩) d := by
  pointwise [k0_pay20, k0_pay9, headn]
  simp only [hb]
  split_ifs <;> rfl

/-- The query head 5, normalised. -/
theorem q5_at (d : Fin 64) (i : Fin 512) :
    (k0_pay19 P (k0_pay9 b) : FVec Ideal S64x512 .bf16) (ix2 d i)
      = headn (fun l => P (ix2 ⟨320 + l.val, by omega⟩ i) + β ⟨320 + l.val, by omega⟩) d := by
  pointwise [k0_pay19, k0_pay9, headn]
  simp only [hb]
  split_ifs <;> rfl

/-- The query head 4, normalised. -/
theorem q4_at (d : Fin 64) (i : Fin 512) :
    (k0_pay18 (k0_pay17 P (k0_pay9 b)) : FVec Ideal S64x512 .bf16) (ix2 d i)
      = headn (fun l => P (ix2 ⟨256 + l.val, by omega⟩ i) + β ⟨256 + l.val, by omega⟩) d := by
  pointwise [k0_pay17, k0_pay18, k0_pay9, headn]
  simp only [hb]
  split_ifs <;> rfl

/-- The query head 3, normalised. -/
theorem q3_at (d : Fin 64) (i : Fin 512) :
    (k0_pay16 P (k0_pay9 b) : FVec Ideal S64x512 .bf16) (ix2 d i)
      = headn (fun l => P (ix2 ⟨192 + l.val, by omega⟩ i) + β ⟨192 + l.val, by omega⟩) d := by
  pointwise [k0_pay16, k0_pay9, headn]
  simp only [hb]
  split_ifs <;> rfl

/-- The query head 2, normalised. -/
theorem q2_at (d : Fin 64) (i : Fin 512) :
    (k0_pay15 (k0_pay12 P b) (k0_pay13 P b) (k0_pay14 (F := Ideal)) : FVec Ideal S64x512 .bf16) (ix2 d i)
      = headn (fun l => P (ix2 ⟨128 + l.val, by omega⟩ i) + β ⟨128 + l.val, by omega⟩) d := by
  pointwise [k0_pay12, k0_pay13, k0_pay14, k0_pay15, k0_pay9, headn]
  simp only [hb]
  split_ifs <;> rfl

/-- The query head 1, normalised. -/
theorem q1_at (d : Fin 64) (i : Fin 512) :
    (k0_pay11 P b : FVec Ideal S64x512 .bf16) (ix2 d i)
      = headn (fun l => P (ix2 ⟨64 + l.val, by omega⟩ i) + β ⟨64 + l.val, by omega⟩) d := by
  pointwise [k0_pay11, k0_pay9, headn]
  simp only [hb]
  split_ifs <;> rfl

/-- The query head 0, normalised. -/
theorem q0_at (d : Fin 64) (i : Fin 512) :
    (k0_pay10 P b : FVec Ideal S64x512 .bf16) (ix2 d i)
      = headn (fun l => P (ix2 ⟨0 + l.val, by omega⟩ i) + β ⟨0 + l.val, by omega⟩) d := by
  pointwise [k0_pay10, k0_pay9, headn]
  simp only [hb]
  split_ifs <;> rfl

/-- The keys' head 0, normalised, times the gain. -/
theorem k0_at (kg : Vec Ideal S1x128 .f32) (i : Fin 512) (d : Fin 64) :
    k0_pay43 (k0_pay38 P (k0_pay9 b)) (k0_pay40 P (k0_pay9 b)) (k0_pay41 P (k0_pay9 b)) kg (ix2 i ⟨d.val, by omega⟩)
      = headn (fun l => P (ix2 ⟨1024 + l.val, by omega⟩ i) + β ⟨1024 + l.val, by omega⟩) d * kg (ix2 0 ⟨d.val, by omega⟩) := by
  pointwise [k0_pay43, k0_pay38, k0_pay40, k0_pay41, k0_pay9, headn]
  simp only [hb]
  split_ifs <;> rfl

/-- The keys' head 1, normalised, times the gain. -/
theorem k1_at (kg : Vec Ideal S1x128 .f32) (i : Fin 512) (d : Fin 64) :
    k0_pay43 (k0_pay38 P (k0_pay9 b)) (k0_pay40 P (k0_pay9 b)) (k0_pay41 P (k0_pay9 b)) kg (ix2 i ⟨64 + d.val, by omega⟩)
      = headn (fun l => P (ix2 ⟨1088 + l.val, by omega⟩ i) + β ⟨1088 + l.val, by omega⟩) d * kg (ix2 0 ⟨64 + d.val, by omega⟩) := by
  pointwise [k0_pay43, k0_pay38, k0_pay40, k0_pay41, k0_pay9, headn]
  try rw [dif_neg (show ¬ 64 + ↑d < 64 by omega)]; try simp only [Nat.add_sub_cancel_left]
  simp only [hb]
  split_ifs <;> rfl

/-- The values' first head. -/
theorem v0_at (d : Fin 64) (i : Fin 512) :
    k0_pay39 P (k0_pay9 b) (ix2 d i) = P (ix2 ⟨1152 + d.val, by omega⟩ i) + β ⟨1152 + d.val, by omega⟩ := by
  pointwise [k0_pay39, k0_pay9]
  simp only [hb]
  split_ifs <;> rfl

/-- The values' second head. -/
theorem v1_at (d : Fin 64) (i : Fin 512) :
    k0_pay42 P (k0_pay9 b) (ix2 d i) = P (ix2 ⟨1216 + d.val, by omega⟩ i) + β ⟨1216 + d.val, by omega⟩ := by
  pointwise [k0_pay42, k0_pay9]
  simp only [hb]
  split_ifs <;> rfl

omit hb

/-- A masked position of a block: inside the window. -/
theorem mask_at (i : Fin 256) (q : Fin 128) : k0_pay44 (ix2 i q) = if q.val < i.val ∧ i.val ≤ q.val + 128 then 1#1 else 0#1 := by
  pointwise [k0_pay44]
  exact win i q

/-- A masked position of a tile's first block, at the start of a sequence or inside it. -/
theorem mask0_at (c : BitVec 1) (i : Fin 256) (q : Fin 128) :
    k0_pay46 c (ix2 i q) = if q.val < i.val ∧ i.val ≤ q.val + 128 ∧ (c = 1#1 → 128 ≤ i.val) then 1#1 else 0#1 := by
  pointwise [k0_pay46]
  have e : BitVec.ofNat 1 (⟨c.toNat, c.isLt⟩ : Fin 2).val = c := by simp
  have h := start ⟨c.toNat, c.isLt⟩ i
  rw [e] at h
  rw [mask_at, h]
  exact andi_ite and_assoc.symm

end Cert.AttnValue

end
-- ==== Proof.AttnOut.lean ====
/- The heads' output of a tile out of its queries, keys and values. -/
module

public import proofs.«01_k».proof.Proof.Gen.AttnIdeal.Frame
public import proofs.«01_k».proof.Proof.Gen.AttnIdeal.Value
public import Idealize.ShloMosaic.Lib.Claim
public import proofs.«01_k».proof.Proof.AttnProj

@[expose] public section

set_option maxRecDepth 16384

noncomputable section

namespace Cert.AttnValue

open Idealize.ShloMosaic Idealize.ShloMosaic.TcCoe Idealize.SL.Sem
open Idealize.ShloMosaic.Pipeline (Dat)
open Cert.AttnIdeal Cert.AttnIdeal.Gen Cert.AttnMath

variable (m : (ℓ : Loc nD τ sig) → Buf (Elt Ideal) ℓ)

/-- A tile's attention output, row `r` of the heads at token `i`, out of the tile's queries, keys and values. -/
def heads (K : S640x128.Idx → EReal) (Q : S1024x512.Idx → EReal) (V : S128x640.Idx → EReal) (B : S2x256x1024.Idx → EReal) (S : S16.Idx → EReal)
    (c : BitVec 1) (r : Fin 1024) (i : Fin 512) : EReal :=
  att (fun s => sc (if i.val % 128 < s.val ∧ s.val ≤ i.val % 128 + 128 ∧ (i.val < 128 → c = 1#1 → 128 ≤ s.val) then 1#1 else 0#1)
      (∑ e : Fin 64, K (ix2 ⟨i.val / 128 * 128 + s.val, by omega⟩ ⟨r.val / 512 * 64 + e.val, by omega⟩) * Q (ix2 ⟨r.val / 64 * 64 + e.val, by omega⟩ i))
      (B (ix3 ⟨r.val / 512, by omega⟩ s ⟨r.val / 64 % 8 * 128 + i.val % 128, by omega⟩)))
    (fun s => V (ix2 ⟨r.val / 512 * 64 + r.val % 64, by omega⟩ ⟨i.val / 128 * 128 + s.val, by omega⟩)) (S (ix1 ⟨r.val / 64, by omega⟩))

/-- One head's block of a tile is the heads' output at its place. -/
theorem heads_of (K : S640x128.Idx → EReal) (Q : S1024x512.Idx → EReal) (V : S128x640.Idx → EReal) (B : S2x256x1024.Idx → EReal) (S : S16.Idx → EReal)
    (c : BitVec 1) (r : Fin 1024) (i : Fin 512) (g h j : ℕ) (hg : g < 2) (hh : h < 8) (hj : j < 4) (d : Fin 64) (q : Fin 128)
    (h0 : r.val = 512 * g + 64 * h + d.val) (h1 : i.val = 128 * j + q.val)
    (M : IVec S256x128 1) (kw : S256x64.Idx → EReal) (qh : S64x128.Idx → EReal) (b : S1x256x128.Idx → EReal) (v : S64x256.Idx → EReal) (k : EReal)
    (hM : ∀ s, M (ix2 s q) = if q.val < s.val ∧ s.val ≤ q.val + 128 ∧ (j = 0 → c = 1#1 → 128 ≤ s.val) then 1#1 else 0#1)
    (hkw : ∀ s e, kw (ix2 s e) = K (ix2 ⟨128 * j + s.val, by omega⟩ ⟨64 * g + e.val, by omega⟩))
    (hq : ∀ e, qh (ix2 e q) = Q (ix2 ⟨512 * g + 64 * h + e.val, by omega⟩ ⟨128 * j + q.val, by omega⟩))
    (hb : ∀ s, b (ix3 0 s q) = B (ix3 ⟨g, hg⟩ s ⟨128 * h + q.val, by omega⟩))
    (hv : ∀ s, v (ix2 d s) = V (ix2 ⟨64 * g + d.val, by omega⟩ ⟨128 * j + s.val, by omega⟩))
    (hk : k = S (ix1 ⟨8 * g + h, by omega⟩)) :
    att (fun s => sc (M (ix2 s q)) (∑ e : Fin 64, kw (ix2 s e) * qh (ix2 e q)) (b (ix3 0 s q))) (fun s => v (ix2 d s)) k = heads K Q V B S c r i := by
  obtain ⟨r, hr⟩ := r
  obtain ⟨i, hi⟩ := i
  dsimp only at h0 h1
  subst h0 h1
  simp only [hM, hkw, hq, hb, hv, hk, heads]
  simp only [Nat.mul_comm 128 j, Nat.mul_comm 128 h, Nat.mul_comm 64 g]
  have e1 : (j * 128 + q.val) / 128 = j := by omega
  have e2 : (j * 128 + q.val) % 128 = q.val := by omega
  have e3 : (512 * g + 64 * h + d.val) / 512 = g := by omega
  have e4 : (512 * g + 64 * h + d.val) / 64 = 8 * g + h := by omega
  have e5 : (512 * g + 64 * h + d.val) % 64 = d.val := by omega
  have e6 : (8 * g + h) % 8 = h := by omega
  have e7 : (8 * g + h) * 64 = 512 * g + 64 * h := by omega
  have e8 : (j * 128 + q.val < 128) = (j = 0) := by
    have := q.isLt
    exact propext ⟨fun _ => by omega, fun _ => by omega⟩
  simp only [e1, e2, e3, e4, e5, e6, e7, e8]

/-- A rectangle's index, of two coordinates. -/
theorem rect2 {A B n m : ℕ} (a b : ℕ) (h : ∀ k, (![a, b] : Fin 2 → ℕ) k + (![n, m] : Fin 2 → ℕ) k ≤ (⟨2, ![A, B]⟩ : Shape).size k) (s : Fin n) (e : Fin m)
    (ha : a + s.val < A) (hb : b + e.val < B) :
    (Rect.unit (s := ⟨2, ![A, B]⟩) ![a, b] ![n, m] h).idx (ix2 s e) = ix2 ⟨a + s.val, ha⟩ ⟨b + e.val, hb⟩ := by
  funext k
  fin_cases k
  · exact Fin.ext (by simp [Rect.unit, LoadRect.idx])
  · exact Fin.ext (by simp [Rect.unit, LoadRect.idx])

/-- A rectangle's index, of three coordinates, one tall along the first. -/
theorem rect3 {A B C n m : ℕ} (g a b : ℕ) (h : ∀ k, (![g, a, b] : Fin 3 → ℕ) k + (![1, n, m] : Fin 3 → ℕ) k ≤ (⟨3, ![A, B, C]⟩ : Shape).size k)
    (s : Fin n) (e : Fin m) (hg : g < A) (ha : a + s.val < B) (hb : b + e.val < C) :
    (Rect.unit (s := ⟨3, ![A, B, C]⟩) ![g, a, b] ![1, n, m] h).idx (ix3 0 s e) = ix3 ⟨g, hg⟩ ⟨a + s.val, ha⟩ ⟨b + e.val, hb⟩ := by
  funext k
  fin_cases k
  · exact Fin.ext (by simp [Rect.unit, LoadRect.idx])
  · exact Fin.ext (by simp [Rect.unit, LoadRect.idx])
  · exact Fin.ext (by simp [Rect.unit, LoadRect.idx])

/-- The last product, read at an index. -/
theorem pay3_at (x : Vec Ideal S512x1024 .f32) (wo : Vec Ideal S1024x1024 .bf16) (A : Vec Ideal S1024x512 .bf16) (bo : Vec Ideal S1x1024 .f32)
    (i : Fin 512) (f : Fin 1024) : k0_pay3 x wo A bo (ix2 i f) = x (ix2 i f) + (∑ r : Fin 1024, wo (ix2 f r) * A (ix2 r i)) + bo (ix2 0 f) := by
  pointwise [k0_pay3]

/-- A tile's output: the tokens, plus the heads' projection, plus its bias. -/
def tileOut (x : S512x1024.Idx → EReal) (wo : S1024x1024.Idx → EReal) (bo : S1x1024.Idx → EReal) (K : S640x128.Idx → EReal) (Q : S1024x512.Idx → EReal)
    (V : S128x640.Idx → EReal) (B : S2x256x1024.Idx → EReal) (S : S16.Idx → EReal) (c : BitVec 1) (i : Fin 512) (f : Fin 1024) : EReal :=
  x (ix2 i f) + (∑ r : Fin 1024, wo (ix2 f r) * heads K Q V B S c r i) + bo (ix2 0 f)

/-- A tile's output out of its heads'. -/
theorem tileOut_of (x : Vec Ideal S512x1024 .f32) (wo : Vec Ideal S1024x1024 .bf16) (A : Vec Ideal S1024x512 .bf16) (bo : Vec Ideal S1x1024 .f32)
    (K : S640x128.Idx → EReal) (Q : S1024x512.Idx → EReal) (V : S128x640.Idx → EReal) (B : S2x256x1024.Idx → EReal) (S : S16.Idx → EReal)
    (c : BitVec 1) (i : Fin 512) (f : Fin 1024) (hA : ∀ r, A (ix2 r i) = heads K Q V B S c r i) :
    k0_pay3 x wo A bo (ix2 i f) = tileOut x wo bo K Q V B S c i f := by
  rw [pay3_at]
  simp only [hA]
  rfl

/-- A rectangle of one index. -/
theorem rect1 {A : ℕ} (a : ℕ) (h : ∀ k, (![a] : Fin 1 → ℕ) k + (![1] : Fin 1 → ℕ) k ≤ (⟨1, ![A]⟩ : Shape).size k)
    (p : 0 < (Rect.unit (s := ⟨1, ![A]⟩) ![a] ![1] h).shape.numel) (ha : a < A) :
    (Rect.unit (s := ⟨1, ![A]⟩) ![a] ![1] h).idx (Shape.Idx.first p) = ix1 ⟨a, ha⟩ := by
  funext k
  fin_cases k
  exact Fin.ext (by simp [Rect.unit, LoadRect.idx, Shape.Idx.first])

/-- A block inside the tile. -/
theorem heads_in (K : S640x128.Idx → EReal) (Q : S1024x512.Idx → EReal) (V : S128x640.Idx → EReal) (B : S2x256x1024.Idx → EReal) (S : S16.Idx → EReal)
    (c : BitVec 1) (r : Fin 1024) (i : Fin 512) (g h j : ℕ) (hg : g < 2) (hh : h < 8) (hj : j < 4) (j0 : j ≠ 0) (d : Fin 64) (q : Fin 128)
    (h0 : r.val = 512 * g + 64 * h + d.val) (h1 : i.val = 128 * j + q.val)
    (iK : ∀ k, (![128 * j, 64 * g] : Fin 2 → ℕ) k + (![256, 64] : Fin 2 → ℕ) k ≤ S640x128.size k)
    (iQ : ∀ k, (![512 * g + 64 * h, 128 * j] : Fin 2 → ℕ) k + (![64, 128] : Fin 2 → ℕ) k ≤ S1024x512.size k)
    (iB : ∀ k, (![g, 0, 128 * h] : Fin 3 → ℕ) k + (![1, 256, 128] : Fin 3 → ℕ) k ≤ S2x256x1024.size k)
    (iV : ∀ k, (![64 * g, 128 * j] : Fin 2 → ℕ) k + (![64, 256] : Fin 2 → ℕ) k ≤ S128x640.size k)
    (iS : ∀ k, (![8 * g + h] : Fin 1 → ℕ) k + (![1] : Fin 1 → ℕ) k ≤ S16.size k) (p : 0 < (Rect.unit (s := S16) ![8 * g + h] ![1] iS).shape.numel) :
    att (fun s => sc (k0_pay44 (ix2 s q))
        (∑ e : Fin 64, K ((Rect.unit (s := S640x128) ![128 * j, 64 * g] ![256, 64] iK).idx (ix2 s e))
          * Q ((Rect.unit (s := S1024x512) ![512 * g + 64 * h, 128 * j] ![64, 128] iQ).idx (ix2 e q)))
        (B ((Rect.unit (s := S2x256x1024) ![g, 0, 128 * h] ![1, 256, 128] iB).idx (ix3 0 s q))))
      (fun s => V ((Rect.unit (s := S128x640) ![64 * g, 128 * j] ![64, 256] iV).idx (ix2 d s)))
      (S ((Rect.unit (s := S16) ![8 * g + h] ![1] iS).idx (Shape.Idx.first p))) = heads K Q V B S c r i := by
  refine heads_of K Q V B S c r i g h j hg hh hj d q h0 h1 k0_pay44 (fun z => K ((Rect.unit (s := S640x128) ![128 * j, 64 * g] ![256, 64] iK).idx z))
    (fun z => Q ((Rect.unit (s := S1024x512) ![512 * g + 64 * h, 128 * j] ![64, 128] iQ).idx z))
    (fun z => B ((Rect.unit (s := S2x256x1024) ![g, 0, 128 * h] ![1, 256, 128] iB).idx z))
    (fun z => V ((Rect.unit (s := S128x640) ![64 * g, 128 * j] ![64, 256] iV).idx z)) _ (fun s => ?_) (fun s e => ?_) (fun e => ?_) (fun s => ?_) (fun s => ?_) ?_
  · rw [mask_at]
    simp only [j0, false_imp_iff, and_true]
  · exact congrArg K (rect2 (128 * j) (64 * g) iK s e _ _)
  · exact congrArg Q (rect2 (512 * g + 64 * h) (128 * j) iQ e q _ _)
  · refine congrArg B ((rect3 g 0 (128 * h) iB s q hg (by omega) (by omega)).trans ?_)
    simp only [Nat.zero_add]
  · exact congrArg V (rect2 (64 * g) (128 * j) iV d s _ _)
  · exact congrArg S (rect1 (8 * g + h) iS p (by omega))

/-- The tile's first block. -/
theorem heads_first (K : S640x128.Idx → EReal) (Q : S1024x512.Idx → EReal) (V : S128x640.Idx → EReal) (B : S2x256x1024.Idx → EReal) (S : S16.Idx → EReal)
    (c : BitVec 1) (r : Fin 1024) (i : Fin 512) (g h : ℕ) (hg : g < 2) (hh : h < 8) (d : Fin 64) (q : Fin 128)
    (h0 : r.val = 512 * g + 64 * h + d.val) (h1 : i.val = 128 * 0 + q.val)
    (iK : ∀ k, (![128 * 0, 64 * g] : Fin 2 → ℕ) k + (![256, 64] : Fin 2 → ℕ) k ≤ S640x128.size k)
    (iQ : ∀ k, (![512 * g + 64 * h, 128 * 0] : Fin 2 → ℕ) k + (![64, 128] : Fin 2 → ℕ) k ≤ S1024x512.size k)
    (iB : ∀ k, (![g, 0, 128 * h] : Fin 3 → ℕ) k + (![1, 256, 128] : Fin 3 → ℕ) k ≤ S2x256x1024.size k)
    (iV : ∀ k, (![64 * g, 128 * 0] : Fin 2 → ℕ) k + (![64, 256] : Fin 2 → ℕ) k ≤ S128x640.size k)
    (iS : ∀ k, (![8 * g + h] : Fin 1 → ℕ) k + (![1] : Fin 1 → ℕ) k ≤ S16.size k) (p : 0 < (Rect.unit (s := S16) ![8 * g + h] ![1] iS).shape.numel) :
    att (fun s => sc ((k0_pay46 c) (ix2 s q))
        (∑ e : Fin 64, K ((Rect.unit (s := S640x128) ![128 * 0, 64 * g] ![256, 64] iK).idx (ix2 s e))
          * Q ((Rect.unit (s := S1024x512) ![512 * g + 64 * h, 128 * 0] ![64, 128] iQ).idx (ix2 e q)))
        (B ((Rect.unit (s := S2x256x1024) ![g, 0, 128 * h] ![1, 256, 128] iB).idx (ix3 0 s q))))
      (fun s => V ((Rect.unit (s := S128x640) ![64 * g, 128 * 0] ![64, 256] iV).idx (ix2 d s)))
      (S ((Rect.unit (s := S16) ![8 * g + h] ![1] iS).idx (Shape.Idx.first p))) = heads K Q V B S c r i := by
  refine heads_of K Q V B S c r i g h 0 hg hh (by decide) d q h0 h1 (k0_pay46 c) (fun z => K ((Rect.unit (s := S640x128) ![128 * 0, 64 * g] ![256, 64] iK).idx z))
    (fun z => Q ((Rect.unit (s := S1024x512) ![512 * g + 64 * h, 128 * 0] ![64, 128] iQ).idx z))
    (fun z => B ((Rect.unit (s := S2x256x1024) ![g, 0, 128 * h] ![1, 256, 128] iB).idx z))
    (fun z => V ((Rect.unit (s := S128x640) ![64 * g, 128 * 0] ![64, 256] iV).idx z)) _ (fun s => ?_) (fun s e => ?_) (fun e => ?_) (fun s => ?_) (fun s => ?_) ?_
  · rw [mask0_at]
    simp only [true_imp_iff]
  · exact congrArg K (rect2 (128 * 0) (64 * g) iK s e _ _)
  · exact congrArg Q (rect2 (512 * g + 64 * h) (128 * 0) iQ e q _ _)
  · refine congrArg B ((rect3 g 0 (128 * h) iB s q hg (by omega) (by omega)).trans ?_)
    simp only [Nat.zero_add]
  · exact congrArg V (rect2 (64 * g) (128 * 0) iV d s _ _)
  · exact congrArg S (rect1 (8 * g + h) iS p (by omega))

end Cert.AttnValue

end
-- ==== Proof.AttnPoint.lean ====
/- The attention's blocks, halos and sequence starts. -/
module

public import proofs.«01_k».proof.Proof.Gen.AttnIdeal.Frame
public import proofs.«01_k».proof.Proof.Gen.AttnIdeal.Value
public import Idealize.ShloMosaic.Lib.Claim
public import proofs.«01_k».proof.Proof.AttnOut

@[expose] public section

set_option maxRecDepth 16384

noncomputable section

namespace Cert.AttnValue

open Idealize.ShloMosaic Idealize.ShloMosaic.TcCoe Idealize.SL.Sem
open Idealize.ShloMosaic.Pipeline (Dat)
open Cert.AttnIdeal Cert.AttnIdeal.Gen Cert.AttnMath

variable (m : (ℓ : Loc nD τ sig) → Buf (Elt Ideal) ℓ)

/-- Every window's block at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_7.index t = ![0, 0]
    ∧ win0_8.index t = ![0, 0] ∧ win0_9.index t = ![t.val, 0] :=
  (by decide +kernel : ∀ t : Fin grid0.N, _)

/-- Whether a point starts a sequence. -/
theorem flag_eq : ∀ t : Fin grid0.N, (Scalar.cmpi CmpIPredicate.eq
      (Scalar.select
        (Scalar.andi
          (Scalar.xori (Scalar.cmpi CmpIPredicate.slt (Scalar.remsi (BitVec.ofNat 32 ↑(grid0.coords t 0)) 16#32) 0#32) 0#1)
          (Scalar.cmpi CmpIPredicate.ne (Scalar.remsi (BitVec.ofNat 32 ↑(grid0.coords t 0)) 16#32) 0#32))
        (Scalar.addi (Scalar.remsi (BitVec.ofNat 32 ↑(grid0.coords t 0)) 16#32) 16#32)
        (Scalar.remsi (BitVec.ofNat 32 ↑(grid0.coords t 0)) 16#32))
      0#32) = if t.val % 16 = 0 then 1#1 else 0#1 := by
  decide +kernel

/-- The halo's copies read back unchanged. -/
theorem pay6_eq (X : Vec Ideal S128x128 .bf16) : k0_pay6 X = X := by
  funext y
  obtain ⟨d, q, rfl⟩ : ∃ d q, y = ix2 d q := ⟨y 0, y 1, ValueIdx.eq_ix2 (n0 := 128) (n1 := 128) y⟩
  pointwise [k0_pay6]

/-- The halo's copies read back unchanged. -/
theorem pay7_eq (X : Vec Ideal S128x128 .bf16) : k0_pay7 X = X := by
  funext y
  obtain ⟨d, q, rfl⟩ : ∃ d q, y = ix2 d q := ⟨y 0, y 1, ValueIdx.eq_ix2 (n0 := 128) (n1 := 128) y⟩
  pointwise [k0_pay7]

/-- A carried scratch reads as what the tile before left. -/
theorem readK (h : scM0_1.IsWhole) (X : S640x128.Idx → Elt Ideal .bf16) :
    @View.read sig (Elt Ideal) (@Proc.kind τ (@Proc.tc τ)) .vmem S640x128 .bf16 (View.whole cc0_scratch1) (h.unread X) = X :=
  h.read_unread X

/-- A carried scratch reads as what the tile before left. -/
theorem readV (h : scM0_2.IsWhole) (X : S128x640.Idx → Elt Ideal .bf16) :
    @View.read sig (Elt Ideal) (@Proc.kind τ (@Proc.tc τ)) .vmem S128x640 .bf16 (View.whole cc0_scratch2) (h.unread X) = X :=
  h.read_unread X

/-- The key halo of a tile: the last tokens of the tile before. -/
abbrev haloK (X : Vec Ideal S640x128 .bf16) : Vec Ideal S128x128 .bf16 := View.ld X (Rect.unit (s := S640x128) ![512, 0] ![128, 128] inb_S640x128_S128x128_512_0)

/-- The value halo of a tile: the last tokens of the tile before. -/
abbrev haloV (X : Vec Ideal S128x640 .bf16) : Vec Ideal S128x128 .bf16 := View.ld X (Rect.unit (s := S128x640) ![0, 512] ![128, 128] inb_S128x640_S128x128_0_512)

end Cert.AttnValue

end
-- ==== Proof.AttnScratch.lean ====
/- The keys and values a tile leaves for the next. -/
module

public import proofs.«01_k».proof.Proof.AttnPoint

@[expose] public section

set_option maxRecDepth 16384

noncomputable section

namespace Cert.AttnValue

open Idealize.ShloMosaic Idealize.ShloMosaic.TcCoe Idealize.SL.Sem
open Cert.AttnIdeal Cert.AttnIdeal.Gen Cert.AttnMath

variable (m : (ℓ : Loc nD τ sig) → Buf (Elt Ideal) ℓ)

/-- The keys after a tile at the start of a sequence. -/
theorem keysA (c : Dev nD) (t : Fin cfg0.N) (t0 : t.val % 16 = 0) :
    (outsAt0 m c t.val t.isLt).2.1 = View.canon (kPieces (k0_pay4 (F := Ideal)) (iblk m c 0 t) (iblk m c 1 t) (iblk m c 2 t) (iblk m c 3 t) (iblk m c 4 t)) := by
  rw [outsAt0_A m c t t0 (fun h => h t0)]
  dsimp only
  frame_out
  rfl

/-- The values after a tile at the start of a sequence. -/
theorem valuesA (c : Dev nD) (t : Fin cfg0.N) (t0 : t.val % 16 = 0) :
    (outsAt0 m c t.val t.isLt).2.2 = View.canon (vPieces (k0_pay5 (F := Ideal)) (iblk m c 0 t) (iblk m c 1 t) (iblk m c 2 t) (iblk m c 3 t)) := by
  rw [outsAt0_A m c t t0 (fun h => h t0)]
  dsimp only
  frame_out
  rfl

/-- The keys after a tile inside a sequence. -/
theorem keysB (c : Dev nD) (t : Fin cfg0.N) (t0 : ¬ t.val % 16 = 0) :
    (outsAt0 m c t.val t.isLt).2.1 = View.canon (kPieces (haloK (outsAt0 m c (t.val - 1) (Nat.lt_of_le_of_lt (Nat.sub_le _ _) t.isLt)).2.1)
      (iblk m c 0 t) (iblk m c 1 t) (iblk m c 2 t) (iblk m c 3 t) (iblk m c 4 t)) := by
  rw [outsAt0_B m c t t0 t0]
  dsimp only
  frame_out
  simp only [readK, pay6_eq]
  rfl

/-- The values after a tile inside a sequence. -/
theorem valuesB (c : Dev nD) (t : Fin cfg0.N) (t0 : ¬ t.val % 16 = 0) :
    (outsAt0 m c t.val t.isLt).2.2 = View.canon (vPieces (haloV (outsAt0 m c (t.val - 1) (Nat.lt_of_le_of_lt (Nat.sub_le _ _) t.isLt)).2.2)
      (iblk m c 0 t) (iblk m c 1 t) (iblk m c 2 t) (iblk m c 3 t)) := by
  rw [outsAt0_B m c t t0 t0]
  dsimp only
  frame_out
  simp only [readV, pay7_eq]
  rfl

end Cert.AttnValue

end
-- ==== Proof.AttnQKV.lean ====
/- The queries, keys and values a tile holds in scratch, read at an index. -/
module

public import proofs.«01_k».proof.Proof.AttnProj

@[expose] public section

set_option maxRecDepth 16384

noncomputable section

namespace Cert.AttnValue

open Idealize.ShloMosaic Idealize.ShloMosaic.TcCoe Idealize.SL.Sem
open Cert.AttnIdeal Cert.AttnIdeal.Gen Cert.AttnMath

/-- A head entry written with its offset is the entry of the row's own head. -/
theorem headn_off (T : Fin 1280 → Fin 512 → EReal) (r : Fin 1024) (j i : Fin 512) (o : ℕ) (d : Fin 64) (u : o + 63 < 1280)
    (o64 : o % 64 = 0) (e0 : r.val = o + d.val) (e1 : j.val = i.val) :
    headn (fun l => T ⟨o + l.val, by omega⟩ i) d
      = headn (fun l => T ⟨r.val / 64 * 64 + l.val, by omega⟩ j) ⟨r.val % 64, by omega⟩ := by
  obtain rfl : j = i := Fin.ext e1
  have a : o = r.val / 64 * 64 := by omega
  have b : d = ⟨r.val % 64, by omega⟩ := Fin.ext (by show d.val = r.val % 64; omega)
  subst a
  rw [← b]

/-- The halo's rows and the tile's rows fill the keys' scratch. -/
theorem k_cover (v : Vec Ideal S512x128 .bf16) (v' : Vec Ideal S128x128 .bf16) (y : S640x128.Idx) :
    ∃ p ∈ ([⟨Rect.unit ![128, 0] ![512, 128] inb_S640x128_S512x128_128_0, v⟩,
      ⟨Rect.unit ![0, 0] ![128, 128] inb_S640x128_S128x128_0_0, v'⟩] : List (View.Piece (Elt Ideal) S640x128 .bf16)), y ∈ p.1.set := by
  have a0 : (y 0).val < 640 := (y 0).isLt
  have a1 : (y 1).val < 128 := (y 1).isLt
  by_cases c : (y 0).val < 128
  · exact ⟨_, .tail _ (.head _), (Rect.mem_set_unit (inb := inb_S640x128_S128x128_0_0)).2 (Fin.forall_fin_two.2 ⟨⟨Nat.zero_le _, by show (y 0).val < 0 + 128; omega⟩, ⟨Nat.zero_le _, by show (y 1).val < 0 + 128; omega⟩⟩)⟩
  · exact ⟨_, .head _, (Rect.mem_set_unit (inb := inb_S640x128_S512x128_128_0)).2 (Fin.forall_fin_two.2 ⟨⟨by show 128 ≤ (y 0).val; omega, by show (y 0).val < 128 + 512; omega⟩, ⟨Nat.zero_le _, by show (y 1).val < 0 + 128; omega⟩⟩)⟩

/-- The halo's columns and the tile's columns fill the values' scratch. -/
theorem v_cover (v v'' : Vec Ideal S64x512 .bf16) (v' : Vec Ideal S128x128 .bf16) (y : S128x640.Idx) :
    ∃ p ∈ ([⟨Rect.unit ![64, 128] ![64, 512] inb_S128x640_S64x512_64_128, v⟩, ⟨Rect.unit ![0, 128] ![64, 512] inb_S128x640_S64x512_0_128, v''⟩,
      ⟨Rect.unit ![0, 0] ![128, 128] inb_S128x640_S128x128_0_0, v'⟩] : List (View.Piece (Elt Ideal) S128x640 .bf16)), y ∈ p.1.set := by
  have a0 : (y 0).val < 128 := (y 0).isLt
  have a1 : (y 1).val < 640 := (y 1).isLt
  by_cases c : (y 1).val < 128
  · exact ⟨_, .tail _ (.tail _ (.head _)), (Rect.mem_set_unit (inb := inb_S128x640_S128x128_0_0)).2 (Fin.forall_fin_two.2 ⟨⟨Nat.zero_le _, by show (y 0).val < 0 + 128; omega⟩, ⟨Nat.zero_le _, by show (y 1).val < 0 + 128; omega⟩⟩)⟩
  · by_cases c' : (y 0).val < 64
    · exact ⟨_, .tail _ (.head _), (Rect.mem_set_unit (inb := inb_S128x640_S64x512_0_128)).2 (Fin.forall_fin_two.2 ⟨⟨Nat.zero_le _, by show (y 0).val < 0 + 64; omega⟩, ⟨by show 128 ≤ (y 1).val; omega, by show (y 1).val < 128 + 512; omega⟩⟩)⟩
    · exact ⟨_, .head _, (Rect.mem_set_unit (inb := inb_S128x640_S64x512_64_128)).2 (Fin.forall_fin_two.2 ⟨⟨by show 64 ≤ (y 0).val; omega, by show (y 0).val < 64 + 64; omega⟩, ⟨by show 128 ≤ (y 1).val; omega, by show (y 1).val < 128 + 512; omega⟩⟩)⟩

/-- A key entry, whichever its group. -/
theorem key_at (P : FVec Ideal S1280x512 .f32) (b : Vec Ideal S1280x128 .f32) (β : Fin 1280 → EReal) (nb : ∀ f c, b (ix2 f c) = β f)
    (kg : Vec Ideal S1x128 .f32) (i : Fin 512) (q : Fin 128) :
    k0_pay43 (k0_pay38 P (k0_pay9 b)) (k0_pay40 P (k0_pay9 b)) (k0_pay41 P (k0_pay9 b)) kg (ix2 i q)
      = headn (fun l => P (ix2 ⟨1024 + (q.val / 64 * 64 + l.val), by omega⟩ i) + β ⟨1024 + (q.val / 64 * 64 + l.val), by omega⟩)
          ⟨q.val % 64, by omega⟩ * kg (ix2 0 q) := by
  have step : ∀ (o : ℕ) (d : Fin 64) (u : o + 63 < 128) (o64 : o % 64 = 0) (e : q.val = o + d.val),
      headn (fun l => P (ix2 ⟨1024 + (q.val / 64 * 64 + l.val), by omega⟩ i) + β ⟨1024 + (q.val / 64 * 64 + l.val), by omega⟩) ⟨q.val % 64, by omega⟩
        = headn (fun l => P (ix2 ⟨1024 + (o + l.val), by omega⟩ i) + β ⟨1024 + (o + l.val), by omega⟩) d := by
    intro o d u o64 e
    have a : o = q.val / 64 * 64 := by omega
    have c : d = ⟨q.val % 64, by omega⟩ := Fin.ext (by show d.val = q.val % 64; omega)
    subst a
    rw [← c]
  by_cases c : q.val < 64
  · rw [step 0 ⟨q.val, c⟩ (by decide) (by decide) (Nat.zero_add _).symm]
    refine (k0_at P b β nb kg i ⟨q.val, c⟩).trans ?_
    simp only [Nat.zero_add]
  · have e : q = ⟨64 + (q.val - 64), by omega⟩ := Fin.ext (by show q.val = 64 + (q.val - 64); omega)
    rw [step 64 ⟨q.val - 64, by omega⟩ (by decide) (by decide) (by show q.val = 64 + (q.val - 64); omega)]
    refine (congrArg _ (congrArg (ix2 i) e)).trans ((k1_at P b β nb kg i ⟨q.val - 64, by omega⟩).trans ?_)
    refine congr (congrArg _ (congrArg (headn · _) (funext fun l => ?_))) (congrArg kg (congrArg (ix2 0) e.symm))
    have e2 : (⟨1088 + l.val, by omega⟩ : Fin 1280) = ⟨1024 + (64 + l.val), by omega⟩ := Fin.ext (by show 1088 + l.val = 1024 + (64 + l.val); omega)
    rw [e2]

/-- A projection entry at equal indices. -/
theorem val_eq (T : Fin 1280 → Fin 512 → EReal) (f f' : Fin 1280) (i i' : Fin 512) (e : f.val = f'.val) (e' : i.val = i'.val) : T f i = T f' i' := by
  rw [Fin.ext e, Fin.ext e']

variable (x : Vec Ideal S512x1024 .f32) (g : Vec Ideal S1x1024 .f32) (w : Vec Ideal S1280x1024 .bf16) (b : Vec Ideal S1280x128 .f32)
  (β : Fin 1280 → EReal) (nb : ∀ f c, b (ix2 f c) = β f)

/-- One entry of a tile's projection: feature `f` of token `i`. -/
def tp (f : Fin 1280) (i : Fin 512) : EReal := k0_pay8 x g w (ix2 f i) + β f

include nb

/-- The queries: row `r` of token `i` is the normalised entry of its head. -/
theorem q_canon (y : S1024x512.Idx) : View.canon (qPieces x g w b) y
    = headn (fun l => tp x g w β ⟨(y 0).val / 64 * 64 + l.val, by have := (y 0).isLt; change _ < 1024 at this; omega⟩ (y 1)) ⟨(y 0).val % 64, by omega⟩ := by
  unfold tp qPieces
  generalize k0_pay8 x g w = P
  canon_tiles x h
  · obtain ⟨d, q, rfl⟩ : ∃ d q, x = ix2 d q := ⟨x 0, x 1, ValueIdx.eq_ix2 (n0 := 64) (n1 := 512) x⟩
    exact (q15_at P b β nb d q).trans (headn_off (fun f i => P (ix2 f i) + β f) (y 0) (y 1) q 960 d (by decide) (by decide) h0 h1)
  · obtain ⟨d, q, rfl⟩ : ∃ d q, x = ix2 d q := ⟨x 0, x 1, ValueIdx.eq_ix2 (n0 := 64) (n1 := 512) x⟩
    exact (q14_at P b β nb d q).trans (headn_off (fun f i => P (ix2 f i) + β f) (y 0) (y 1) q 896 d (by decide) (by decide) h0 h1)
  · obtain ⟨d, q, rfl⟩ : ∃ d q, x = ix2 d q := ⟨x 0, x 1, ValueIdx.eq_ix2 (n0 := 64) (n1 := 512) x⟩
    exact (q13_at P b β nb d q).trans (headn_off (fun f i => P (ix2 f i) + β f) (y 0) (y 1) q 832 d (by decide) (by decide) h0 h1)
  · obtain ⟨d, q, rfl⟩ : ∃ d q, x = ix2 d q := ⟨x 0, x 1, ValueIdx.eq_ix2 (n0 := 64) (n1 := 512) x⟩
    exact (q12_at P b β nb d q).trans (headn_off (fun f i => P (ix2 f i) + β f) (y 0) (y 1) q 768 d (by decide) (by decide) h0 h1)
  · obtain ⟨d, q, rfl⟩ : ∃ d q, x = ix2 d q := ⟨x 0, x 1, ValueIdx.eq_ix2 (n0 := 64) (n1 := 512) x⟩
    exact (q11_at P b β nb d q).trans (headn_off (fun f i => P (ix2 f i) + β f) (y 0) (y 1) q 704 d (by decide) (by decide) h0 h1)
  · obtain ⟨d, q, rfl⟩ : ∃ d q, x = ix2 d q := ⟨x 0, x 1, ValueIdx.eq_ix2 (n0 := 64) (n1 := 512) x⟩
    exact (q10_at P b β nb d q).trans (headn_off (fun f i => P (ix2 f i) + β f) (y 0) (y 1) q 640 d (by decide) (by decide) h0 h1)
  · obtain ⟨d, q, rfl⟩ : ∃ d q, x = ix2 d q := ⟨x 0, x 1, ValueIdx.eq_ix2 (n0 := 64) (n1 := 512) x⟩
    exact (q9_at P b β nb d q).trans (headn_off (fun f i => P (ix2 f i) + β f) (y 0) (y 1) q 576 d (by decide) (by decide) h0 h1)
  · obtain ⟨d, q, rfl⟩ : ∃ d q, x = ix2 d q := ⟨x 0, x 1, ValueIdx.eq_ix2 (n0 := 64) (n1 := 512) x⟩
    exact (q8_at P b β nb d q).trans (headn_off (fun f i => P (ix2 f i) + β f) (y 0) (y 1) q 512 d (by decide) (by decide) h0 h1)
  · obtain ⟨d, q, rfl⟩ : ∃ d q, x = ix2 d q := ⟨x 0, x 1, ValueIdx.eq_ix2 (n0 := 64) (n1 := 512) x⟩
    exact (q7_at P b β nb d q).trans (headn_off (fun f i => P (ix2 f i) + β f) (y 0) (y 1) q 448 d (by decide) (by decide) h0 h1)
  · obtain ⟨d, q, rfl⟩ : ∃ d q, x = ix2 d q := ⟨x 0, x 1, ValueIdx.eq_ix2 (n0 := 64) (n1 := 512) x⟩
    exact (q6_at P b β nb d q).trans (headn_off (fun f i => P (ix2 f i) + β f) (y 0) (y 1) q 384 d (by decide) (by decide) h0 h1)
  · obtain ⟨d, q, rfl⟩ : ∃ d q, x = ix2 d q := ⟨x 0, x 1, ValueIdx.eq_ix2 (n0 := 64) (n1 := 512) x⟩
    exact (q5_at P b β nb d q).trans (headn_off (fun f i => P (ix2 f i) + β f) (y 0) (y 1) q 320 d (by decide) (by decide) h0 h1)
  · obtain ⟨d, q, rfl⟩ : ∃ d q, x = ix2 d q := ⟨x 0, x 1, ValueIdx.eq_ix2 (n0 := 64) (n1 := 512) x⟩
    exact (q4_at P b β nb d q).trans (headn_off (fun f i => P (ix2 f i) + β f) (y 0) (y 1) q 256 d (by decide) (by decide) h0 h1)
  · obtain ⟨d, q, rfl⟩ : ∃ d q, x = ix2 d q := ⟨x 0, x 1, ValueIdx.eq_ix2 (n0 := 64) (n1 := 512) x⟩
    exact (q3_at P b β nb d q).trans (headn_off (fun f i => P (ix2 f i) + β f) (y 0) (y 1) q 192 d (by decide) (by decide) h0 h1)
  · obtain ⟨d, q, rfl⟩ : ∃ d q, x = ix2 d q := ⟨x 0, x 1, ValueIdx.eq_ix2 (n0 := 64) (n1 := 512) x⟩
    exact (q2_at P b β nb d q).trans (headn_off (fun f i => P (ix2 f i) + β f) (y 0) (y 1) q 128 d (by decide) (by decide) h0 h1)
  · obtain ⟨d, q, rfl⟩ : ∃ d q, x = ix2 d q := ⟨x 0, x 1, ValueIdx.eq_ix2 (n0 := 64) (n1 := 512) x⟩
    exact (q1_at P b β nb d q).trans (headn_off (fun f i => P (ix2 f i) + β f) (y 0) (y 1) q 64 d (by decide) (by decide) h0 h1)
  · obtain ⟨d, q, rfl⟩ : ∃ d q, x = ix2 d q := ⟨x 0, x 1, ValueIdx.eq_ix2 (n0 := 64) (n1 := 512) x⟩
    exact (q0_at P b β nb d q).trans (headn_off (fun f i => P (ix2 f i) + β f) (y 0) (y 1) q 0 d (by decide) (by decide) (h0.trans (Nat.zero_add _).symm) h1)

/-- The keys: the halo's rows, then the tile's own tokens. -/
theorem k_canon (h' : Vec Ideal S128x128 .bf16) (kg : Vec Ideal S1x128 .f32) (y : S640x128.Idx) :
    View.canon (kPieces h' x g w b kg) y
      = if u : (y 0).val < 128 then h' (ix2 ⟨(y 0).val, u⟩ (y 1))
        else headn (fun l => tp x g w β ⟨1024 + ((y 1).val / 64 * 64 + l.val), by have := (y 1).isLt; change _ < 128 at this; omega⟩
          ⟨(y 0).val - 128, by have := (y 0).isLt; change _ < 640 at this; omega⟩) ⟨(y 1).val % 64, by omega⟩ * kg (ix2 0 (y 1)) := by
  unfold tp kPieces
  generalize k0_pay8 x g w = P
  canon_tiles x h using (k_cover _ _ _)
  · obtain ⟨i, q, rfl⟩ : ∃ d q, x = ix2 d q := ⟨x 0, x 1, ValueIdx.eq_ix2 (n0 := 512) (n1 := 128) x⟩
    change (y 0).val = 128 + i.val at h0
    change (y 1).val = q.val at h1
    obtain rfl : y 1 = q := Fin.ext h1
    rw [dif_neg (show ¬ (y 0).val < 128 by omega)]
    have e : i = ⟨(y 0).val - 128, by have := (y 0).isLt; change _ < 640 at this; omega⟩ := Fin.ext (by show i.val = (y 0).val - 128; omega)
    rw [← e]
    exact key_at P b β nb kg i (y 1)
  · obtain ⟨i, q, rfl⟩ : ∃ d q, x = ix2 d q := ⟨x 0, x 1, ValueIdx.eq_ix2 (n0 := 128) (n1 := 128) x⟩
    change (y 0).val = i.val at h0
    change (y 1).val = q.val at h1
    obtain rfl : y 1 = q := Fin.ext h1
    rw [dif_pos (show (y 0).val < 128 by omega)]
    have e : i = ⟨(y 0).val, by omega⟩ := Fin.ext h0.symm
    rw [← e]

/-- The values: the halo's columns, then the tile's own tokens. -/
theorem v_canon (h' : Vec Ideal S128x128 .bf16) (y : S128x640.Idx) :
    View.canon (vPieces h' x g w b) y
      = if u : (y 1).val < 128 then h' (ix2 (y 0) ⟨(y 1).val, u⟩)
        else tp x g w β ⟨1152 + (y 0).val, by have := (y 0).isLt; change _ < 128 at this; omega⟩
          ⟨(y 1).val - 128, by have := (y 1).isLt; change _ < 640 at this; omega⟩ := by
  unfold tp vPieces
  generalize k0_pay8 x g w = P
  canon_tiles x h using (v_cover _ _ _ _)
  · obtain ⟨d, i, rfl⟩ : ∃ d q, x = ix2 d q := ⟨x 0, x 1, ValueIdx.eq_ix2 (n0 := 64) (n1 := 512) x⟩
    change (y 0).val = 64 + d.val at h0
    change (y 1).val = 128 + i.val at h1
    rw [dif_neg (show ¬ (y 1).val < 128 by omega)]
    refine (v1_at P b β nb d i).trans (val_eq (fun f i => P (ix2 f i) + β f) _ _ _ _ ?_ ?_)
    · show 1216 + d.val = 1152 + (y 0).val
      omega
    · show i.val = (y 1).val - 128
      omega
  · obtain ⟨d, i, rfl⟩ : ∃ d q, x = ix2 d q := ⟨x 0, x 1, ValueIdx.eq_ix2 (n0 := 64) (n1 := 512) x⟩
    change (y 0).val = d.val at h0
    change (y 1).val = 128 + i.val at h1
    rw [dif_neg (show ¬ (y 1).val < 128 by omega)]
    refine (v0_at P b β nb d i).trans (val_eq (fun f i => P (ix2 f i) + β f) _ _ _ _ ?_ ?_)
    · show 1152 + d.val = 1152 + (y 0).val
      omega
    · show i.val = (y 1).val - 128
      omega
  · obtain ⟨d, i, rfl⟩ : ∃ d q, x = ix2 d q := ⟨x 0, x 1, ValueIdx.eq_ix2 (n0 := 128) (n1 := 128) x⟩
    change (y 0).val = d.val at h0
    change (y 1).val = i.val at h1
    obtain rfl : y 0 = d := Fin.ext h0
    rw [dif_pos (show (y 1).val < 128 by omega)]
    have e : i = ⟨(y 1).val, by omega⟩ := Fin.ext h1.symm
    rw [← e]

end Cert.AttnValue

end
-- ==== Proof.AttnKeys.lean ====
/- A tile's operands and its keys, values and queries, in terms of the arguments. -/
module

public import proofs.«01_k».proof.Proof.AttnScratch
public import proofs.«01_k».proof.Proof.AttnQKV

@[expose] public section

set_option maxRecDepth 16384

noncomputable section

namespace Cert.AttnMath

open Idealize.ShloMosaic Idealize.ShloMosaic.TcCoe Idealize.SL.Sem
open Cert.AttnIdeal

variable (X : FVec Ideal S16384x1024 .f32) (G : FVec Ideal S1024 .f32) (W : FVec Ideal S1024x1280 .f32) (Bq : FVec Ideal S1280 .f32)
  (qg kg : FVec Ideal S64 .f32)

/-- One entry of the projection of token `r`. -/
def pr (r : Fin 16384) (f : Fin 1280) : EReal :=
  proj (fun k => X (ix2 r k)) (fun k => G (ix1 k)) (fun k f => W (ix2 k f)) (fun f => Bq (ix1 f)) f

/-- A query entry of token `r`: normalised over its head, without a gain. -/
def qn (r : Fin 16384) (h : Fin 16) (d : Fin 64) : EReal :=
  headn (fun l => pr X G W Bq r ⟨h.val * 64 + l.val, by omega⟩) d

/-- The gain of a key entry: the query's gain, the key's gain and an eighth. -/
def gain (d : Fin 64) : EReal := qg (ix1 d) * kg (ix1 d) * Ideal.ofBits .f32 0x3E000000#32

/-- A key entry of token `r`, with its gain. -/
def kk (r : Fin 16384) (g : Fin 2) (d : Fin 64) : EReal :=
  headn (fun l => pr X G W Bq r ⟨1024 + (g.val * 64 + l.val), by omega⟩) d * gain qg kg d

/-- A value entry of token `r`. -/
def vv (r : Fin 16384) (g : Fin 2) (d : Fin 64) : EReal := pr X G W Bq r ⟨1152 + (g.val * 64 + d.val), by omega⟩

end Cert.AttnMath

namespace Cert.AttnValue

open Idealize.ShloMosaic Idealize.ShloMosaic.TcCoe Idealize.SL.Sem
open Cert.AttnIdeal Cert.AttnIdeal.Gen Cert.AttnMath

variable (m : (ℓ : Loc nD τ sig) → Buf (Elt Ideal) ℓ)

/-- The tile's tokens. -/
theorem x_at (c : Dev nD) (t : Fin cfg0.N) (i : Fin 512) (k : Fin 1024) :
    iblk m c 0 t (ix2 i k) = m ((c : Thread nD τ).loc main_arg0) (ix2 ⟨t.val * 512 + i.val, by have : t.val < 32 := t.isLt; omega⟩ k) := by
  blk_point [iblk, V, idx t]

/-- The norm's gain. -/
theorem g_at (c : Dev nD) (t : Fin cfg0.N) (k : Fin 1024) : iblk m c 1 t (ix2 0 k) = m ((c : Thread nD τ).loc main_arg1) (ix1 k) := by
  blk_point [iblk, V, idx t]

/-- The projection's weights, transposed. -/
theorem w_at (c : Dev nD) (t : Fin cfg0.N) (f : Fin 1280) (k : Fin 1024) :
    iblk m c 2 t (ix2 f k) = m ((c : Thread nD τ).loc main_arg2) (ix2 k f) := by
  blk_point [iblk, V, idx t]

/-- The projection's bias, along the lanes. -/
theorem b_at (c : Dev nD) (t : Fin cfg0.N) (f : Fin 1280) (l : Fin 128) :
    iblk m c 3 t (ix2 f l) = m ((c : Thread nD τ).loc main_arg3) (ix1 f) := by
  blk_point [iblk, V, idx t]

/-- The keys' gains. -/
theorem kg_at (c : Dev nD) (t : Fin cfg0.N) (q : Fin 128) :
    iblk m c 4 t (ix2 0 q) = gain (m ((c : Thread nD τ).loc main_arg4)) (m ((c : Thread nD τ).loc main_arg5)) ⟨q.val % 64, by omega⟩ := by
  blk_point [iblk, V, idx t, gain]

/-- The position bias. -/
theorem bias_at (c : Dev nD) (t : Fin cfg0.N) (g : Fin 2) (s : Fin 256) (q : Fin 1024) :
    iblk m c 5 t (ix3 g s q) = m ((c : Thread nD τ).loc main_arg9) (ix3 g s q) := by
  blk_point [iblk, V, idx t]

/-- The sinks' window never moves. -/
theorem idx6 : ∀ t : Fin cfg0.N, win0_6.index t 0 = 0 := (by decide +kernel : ∀ t : Fin grid0.N, win0_6.index t 0 = 0)

/-- The sinks. -/
theorem sink_at (c : Dev nD) (t : Fin cfg0.N) (h : Fin 16) :
    iblk m c 6 t (ix1 h) = m ((c : Thread nD τ).loc main_arg6) (ix1 h) := by
  blk_point [iblk, V, idx t]
  rw [idx6 t, Nat.zero_mul, Nat.zero_add]

/-- The output weights, transposed. -/
theorem wo_at (c : Dev nD) (t : Fin cfg0.N) (f k : Fin 1024) :
    iblk m c 7 t (ix2 f k) = m ((c : Thread nD τ).loc main_arg7) (ix2 k f) := by
  blk_point [iblk, V, idx t]

/-- The output's bias. -/
theorem bo_at (c : Dev nD) (t : Fin cfg0.N) (f : Fin 1024) :
    iblk m c 8 t (ix2 0 f) = m ((c : Thread nD τ).loc main_arg8) (ix1 f) := by
  blk_point [iblk, V, idx t]

/-- The bias of the tile's projection. -/
abbrev bq (c : Dev nD) (f : Fin 1280) : EReal := m ((c : Thread nD τ).loc main_arg3) (ix1 f)

/-- The token at place `i` of tile `t`. -/
abbrev tok (t : Fin cfg0.N) (i : Fin 512) : Fin 16384 := ⟨t.val * 512 + i.val, by have : t.val < 32 := t.isLt; omega⟩

/-- The projection of a device's arguments. -/
abbrev prM (c : Dev nD) : Fin 16384 → Fin 1280 → EReal :=
  pr (m ((c : Thread nD τ).loc main_arg0)) (m ((c : Thread nD τ).loc main_arg1)) (m ((c : Thread nD τ).loc main_arg2)) (m ((c : Thread nD τ).loc main_arg3))

/-- The queries of a device's arguments. -/
abbrev qnM (c : Dev nD) : Fin 16384 → Fin 16 → Fin 64 → EReal :=
  qn (m ((c : Thread nD τ).loc main_arg0)) (m ((c : Thread nD τ).loc main_arg1)) (m ((c : Thread nD τ).loc main_arg2)) (m ((c : Thread nD τ).loc main_arg3))

/-- The keys of a device's arguments. -/
abbrev kkM (c : Dev nD) : Fin 16384 → Fin 2 → Fin 64 → EReal :=
  kk (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The values of a device's arguments. -/
abbrev vvM (c : Dev nD) : Fin 16384 → Fin 2 → Fin 64 → EReal :=
  vv (m ((c : Thread nD τ).loc main_arg0)) (m ((c : Thread nD τ).loc main_arg1)) (m ((c : Thread nD τ).loc main_arg2)) (m ((c : Thread nD τ).loc main_arg3))

/-- The tile's projection is the tokens'. -/
theorem tp_at (c : Dev nD) (t : Fin cfg0.N) (f : Fin 1280) (i : Fin 512) :
    tp (iblk m c 0 t) (iblk m c 1 t) (iblk m c 2 t) (bq m c) f i = prM m c (tok t i) f := by
  unfold tp
  rw [pay8_at]
  simp only [x_at, g_at, w_at]
  exact congrArg (· + bq m c f) (Finset.sum_congr rfl fun k _ => mul_comm _ _)

/-- A head's entry at a row of the queries' scratch, by head and place. -/
theorem head_at (T : Fin 1280 → Fin 512 → EReal) (r : Fin 1024) (i : Fin 512) (h : Fin 16) (d : Fin 64) (e : r.val = h.val * 64 + d.val) :
    headn (fun l => T ⟨r.val / 64 * 64 + l.val, by omega⟩ i) ⟨r.val % 64, by omega⟩ = headn (fun l => T ⟨h.val * 64 + l.val, by omega⟩ i) d := by
  have a : r.val / 64 = h.val := by omega
  have b : (⟨r.val % 64, by omega⟩ : Fin 64) = d := Fin.ext (by show r.val % 64 = d.val; omega)
  rw [b]
  simp only [a]

/-- The tile's queries. -/
theorem queries_at (c : Dev nD) (t : Fin cfg0.N) (h : Fin 16) (d : Fin 64) (r : Fin 1024) (e : r.val = h.val * 64 + d.val) (i : Fin 512) :
    View.canon (qPieces (iblk m c 0 t) (iblk m c 1 t) (iblk m c 2 t) (iblk m c 3 t)) (ix2 r i) = qnM m c (tok t i) h d := by
  rw [q_canon _ _ _ _ (bq m c) (b_at m c t)]
  refine (head_at (tp (iblk m c 0 t) (iblk m c 1 t) (iblk m c 2 t) (bq m c)) r i h d e).trans ?_
  simp only [tp_at]
  rfl

/-- A tile's own keys, past its halo. -/
theorem own_keys (c : Dev nD) (t : Fin cfg0.N) (h' : Vec Ideal S128x128 .bf16) (p : Fin 640) (u : ¬ p.val < 128) (g : Fin 2) (d : Fin 64)
    (q : Fin 128) (e : q.val = g.val * 64 + d.val) :
    View.canon (kPieces h' (iblk m c 0 t) (iblk m c 1 t) (iblk m c 2 t) (iblk m c 3 t) (iblk m c 4 t)) (ix2 p q)
      = kkM m c (tok t ⟨p.val - 128, by omega⟩) g d := by
  rw [k_canon _ _ _ _ (bq m c) (b_at m c t)]
  rw [dif_neg (show ¬ ((ix2 p q : S640x128.Idx) 0).val < 128 from u)]
  simp only [tp_at]
  have a : q.val / 64 = g.val := by omega
  have b : (⟨q.val % 64, by omega⟩ : Fin 64) = d := Fin.ext (by show q.val % 64 = d.val; omega)
  show headn (fun l => prM m c (tok t ⟨p.val - 128, _⟩) ⟨1024 + (q.val / 64 * 64 + l.val), _⟩) ⟨q.val % 64, _⟩ * iblk m c 4 t (ix2 0 q) = _
  rw [kg_at, b]
  simp only [a]
  rfl

/-- A tile's own values, past its halo. -/
theorem own_values (c : Dev nD) (t : Fin cfg0.N) (h' : Vec Ideal S128x128 .bf16) (p : Fin 640) (u : ¬ p.val < 128) (g : Fin 2) (d : Fin 64)
    (q : Fin 128) (e : q.val = g.val * 64 + d.val) :
    View.canon (vPieces h' (iblk m c 0 t) (iblk m c 1 t) (iblk m c 2 t) (iblk m c 3 t)) (ix2 q p)
      = vvM m c (tok t ⟨p.val - 128, by omega⟩) g d := by
  rw [v_canon _ _ _ _ (bq m c) (b_at m c t)]
  rw [dif_neg (show ¬ ((ix2 q p : S128x640.Idx) 1).val < 128 from u)]
  simp only [tp_at]
  show prM m c (tok t ⟨p.val - 128, _⟩) ⟨1152 + q.val, _⟩ = _
  simp only [e]
  rfl

/-- The keys a tile leaves, past its halo. -/
theorem left_keys (c : Dev nD) (t : Fin cfg0.N) (p : Fin 640) (u : ¬ p.val < 128) (g : Fin 2) (d : Fin 64) (q : Fin 128) (e : q.val = g.val * 64 + d.val) :
    (outsAt0 m c t.val t.isLt).2.1 (ix2 p q) = kkM m c (tok t ⟨p.val - 128, by omega⟩) g d := by
  by_cases t0 : t.val % 16 = 0
  · rw [keysA m c t t0, own_keys m c t _ p u g d q e]
  · rw [keysB m c t t0, own_keys m c t _ p u g d q e]

/-- The values a tile leaves, past its halo. -/
theorem left_values (c : Dev nD) (t : Fin cfg0.N) (p : Fin 640) (u : ¬ p.val < 128) (g : Fin 2) (d : Fin 64) (q : Fin 128) (e : q.val = g.val * 64 + d.val) :
    (outsAt0 m c t.val t.isLt).2.2 (ix2 q p) = vvM m c (tok t ⟨p.val - 128, by omega⟩) g d := by
  by_cases t0 : t.val % 16 = 0
  · rw [valuesA m c t t0, own_values m c t _ p u g d q e]
  · rw [valuesB m c t t0, own_values m c t _ p u g d q e]

/-- The token 128 before place `p` of tile `t`'s scratch. -/
abbrev back (t : Fin cfg0.N) (p : Fin 640) : Fin 16384 := ⟨t.val * 512 + p.val - 128, by have : t.val < 32 := t.isLt; omega⟩

/-- The keys of a tile at the start of a sequence: zero, then its own. -/
theorem keys_first (c : Dev nD) (t : Fin cfg0.N) (p : Fin 640) (g : Fin 2) (d : Fin 64) (q : Fin 128) (e : q.val = g.val * 64 + d.val) :
    View.canon (kPieces (k0_pay4 (F := Ideal)) (iblk m c 0 t) (iblk m c 1 t) (iblk m c 2 t) (iblk m c 3 t) (iblk m c 4 t)) (ix2 p q)
      = if 128 ≤ p.val then kkM m c (back t p) g d else 0 := by
  by_cases u : p.val < 128
  · rw [k_canon _ _ _ _ (bq m c) (b_at m c t), dif_pos (show ((ix2 p q : S640x128.Idx) 0).val < 128 from u), if_neg (by omega)]
    pointwise [k0_pay4]
  · rw [own_keys m c t _ p u g d q e, if_pos (by omega)]
    have a : tok t ⟨p.val - 128, by omega⟩ = back t p := Fin.ext (by show t.val * 512 + (p.val - 128) = t.val * 512 + p.val - 128; omega)
    rw [a]

/-- The values of a tile at the start of a sequence: zero, then its own. -/
theorem values_first (c : Dev nD) (t : Fin cfg0.N) (p : Fin 640) (g : Fin 2) (d : Fin 64) (q : Fin 128) (e : q.val = g.val * 64 + d.val) :
    View.canon (vPieces (k0_pay5 (F := Ideal)) (iblk m c 0 t) (iblk m c 1 t) (iblk m c 2 t) (iblk m c 3 t)) (ix2 q p)
      = if 128 ≤ p.val then vvM m c (back t p) g d else 0 := by
  by_cases u : p.val < 128
  · rw [v_canon _ _ _ _ (bq m c) (b_at m c t), dif_pos (show ((ix2 q p : S128x640.Idx) 1).val < 128 from u), if_neg (by omega)]
    pointwise [k0_pay5]
  · rw [own_values m c t _ p u g d q e, if_pos (by omega)]
    have a : tok t ⟨p.val - 128, by omega⟩ = back t p := Fin.ext (by show t.val * 512 + (p.val - 128) = t.val * 512 + p.val - 128; omega)
    rw [a]

/-- The keys of a tile inside a sequence: the 128 tokens before it, then its own. -/
theorem keys_next (c : Dev nD) (t : Fin cfg0.N) (t0 : ¬ t.val % 16 = 0) (p : Fin 640) (g : Fin 2) (d : Fin 64) (q : Fin 128) (e : q.val = g.val * 64 + d.val) :
    View.canon (kPieces (haloK (outsAt0 m c (t.val - 1) (Nat.lt_of_le_of_lt (Nat.sub_le _ _) t.isLt)).2.1)
      (iblk m c 0 t) (iblk m c 1 t) (iblk m c 2 t) (iblk m c 3 t) (iblk m c 4 t)) (ix2 p q) = kkM m c (back t p) g d := by
  by_cases u : p.val < 128
  · rw [k_canon _ _ _ _ (bq m c) (b_at m c t), dif_pos (show ((ix2 p q : S640x128.Idx) 0).val < 128 from u)]
    refine Eq.trans ?_ ((left_keys m c ⟨t.val - 1, Nat.lt_of_le_of_lt (Nat.sub_le _ _) t.isLt⟩ ⟨512 + p.val, by omega⟩ (by show ¬ 512 + p.val < 128; omega) g d q e).trans ?_)
    · generalize (outsAt0 m c (t.val - 1) _).2.1 = Y
      pointwise [haloK]
    · refine congrArg (kkM m c · g d) (Fin.ext ?_)
      show (t.val - 1) * 512 + (512 + p.val - 128) = t.val * 512 + p.val - 128
      omega
  · rw [own_keys m c t _ p u g d q e]
    have a : tok t ⟨p.val - 128, by omega⟩ = back t p := Fin.ext (by show t.val * 512 + (p.val - 128) = t.val * 512 + p.val - 128; omega)
    rw [a]

/-- The values of a tile inside a sequence: the 128 tokens before it, then its own. -/
theorem values_next (c : Dev nD) (t : Fin cfg0.N) (t0 : ¬ t.val % 16 = 0) (p : Fin 640) (g : Fin 2) (d : Fin 64) (q : Fin 128) (e : q.val = g.val * 64 + d.val) :
    View.canon (vPieces (haloV (outsAt0 m c (t.val - 1) (Nat.lt_of_le_of_lt (Nat.sub_le _ _) t.isLt)).2.2)
      (iblk m c 0 t) (iblk m c 1 t) (iblk m c 2 t) (iblk m c 3 t)) (ix2 q p) = vvM m c (back t p) g d := by
  by_cases u : p.val < 128
  · rw [v_canon _ _ _ _ (bq m c) (b_at m c t), dif_pos (show ((ix2 q p : S128x640.Idx) 1).val < 128 from u)]
    refine Eq.trans ?_ ((left_values m c ⟨t.val - 1, Nat.lt_of_le_of_lt (Nat.sub_le _ _) t.isLt⟩ ⟨512 + p.val, by omega⟩ (by show ¬ 512 + p.val < 128; omega) g d q e).trans ?_)
    · generalize (outsAt0 m c (t.val - 1) _).2.2 = Y
      pointwise [haloV]
    · refine congrArg (vvM m c · g d) (Fin.ext ?_)
      show (t.val - 1) * 512 + (512 + p.val - 128) = t.val * 512 + p.val - 128
      omega
  · rw [own_values m c t _ p u g d q e]
    have a : tok t ⟨p.val - 128, by omega⟩ = back t p := Fin.ext (by show t.val * 512 + (p.val - 128) = t.val * 512 + p.val - 128; omega)
    rw [a]

end Cert.AttnValue

end
-- ==== Proof.AttnPieces.lean ====
/- The pieces of the attention's output of a tile: each is one head's output of one block. -/
module

public import proofs.«01_k».proof.Proof.AttnHead

@[expose] public section

set_option maxRecDepth 16384

noncomputable section

namespace Cert.AttnValue

open Idealize.ShloMosaic Idealize.ShloMosaic.TcCoe Idealize.SL.Sem
open Cert.AttnIdeal Cert.AttnIdeal.Gen

/-- The piece of head 15, block 3. -/
theorem piece_1_7_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay2 (k0_pay343 k0_pay44 (k0_pay320 (k0_pay319 q0 q1 q2 q3 q4 q5 q6 q7) kw) b7 k7) (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) k7) : FVec Ideal S64x128 .bf16)
      = grp7 k0_pay44 q0 q1 q2 q3 q4 q5 q6 q7 kw b0 b1 b2 b3 b4 b5 b6 b7 v k0 k1 k2 k3 k4 k5 k6 k7 := by
  simp only [k0_pay2, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay47, grp7, headT, otT, probT, maxT, scoreT]
  all_goals rfl

/-- The piece of head 14, block 3. -/
theorem piece_1_6_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay1 (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) (k0_pay353 (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v)) (k0_pay354 (k0_pay341 k0_pay44 (k0_pay320 (k0_pay319 q0 q1 q2 q3 q4 q5 q6 q7) kw) b6 k6) k6)) : FVec Ideal S64x128 .bf16)
      = grp6 k0_pay44 q0 q1 q2 q3 q4 q5 q6 q7 kw b0 b1 b2 b3 b4 b5 b6 b7 v k0 k1 k2 k3 k4 k5 k6 k7 := by
  simp only [k0_pay1, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay353, k0_pay354, k0_pay47, grp6, headT, otT, probT, maxT, scoreT]
  all_goals rfl

/-- The piece of head 13, block 3. -/
theorem piece_1_5_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay352 (k0_pay339 (k0_pay338 k0_pay44 (k0_pay320 (k0_pay319 q0 q1 q2 q3 q4 q5 q6 q7) kw) b5) k5) (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) k5) : FVec Ideal S64x128 .bf16)
      = grp5 k0_pay44 q0 q1 q2 q3 q4 q5 q6 q7 kw b0 b1 b2 b3 b4 b5 b6 b7 v k0 k1 k2 k3 k4 k5 k6 k7 := by
  simp only [k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay352, k0_pay47, grp5, headT, otT, probT, maxT, scoreT]
  all_goals rfl

/-- The piece of head 12, block 3. -/
theorem piece_1_4_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay351 (k0_pay335 k0_pay44 (k0_pay320 (k0_pay319 q0 q1 q2 q3 q4 q5 q6 q7) kw) b4 k4) (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) k4) : FVec Ideal S64x128 .bf16)
      = grp4 k0_pay44 q0 q1 q2 q3 q4 q5 q6 q7 kw b0 b1 b2 b3 b4 b5 b6 b7 v k0 k1 k2 k3 k4 k5 k6 k7 := by
  simp only [k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay351, k0_pay47, grp4, headT, otT, probT, maxT, scoreT]
  all_goals rfl

/-- The piece of head 11, block 3. -/
theorem piece_1_3_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay350 (k0_pay332 k0_pay44 (k0_pay320 (k0_pay319 q0 q1 q2 q3 q4 q5 q6 q7) kw) b3 k3) (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) (k0_pay349 (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v)) k3) : FVec Ideal S64x128 .bf16)
      = grp3 k0_pay44 q0 q1 q2 q3 q4 q5 q6 q7 kw b0 b1 b2 b3 b4 b5 b6 b7 v k0 k1 k2 k3 k4 k5 k6 k7 := by
  simp only [k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay349, k0_pay350, k0_pay47, grp3, headT, otT, probT, maxT, scoreT]
  all_goals rfl

/-- The piece of head 10, block 3. -/
theorem piece_1_2_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay348 (k0_pay329 (k0_pay328 k0_pay44 (k0_pay319 q0 q1 q2 q3 q4 q5 q6 q7) kw b2) k2) (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) k2) : FVec Ideal S64x128 .bf16)
      = grp2 k0_pay44 q0 q1 q2 q3 q4 q5 q6 q7 kw b0 b1 b2 b3 b4 b5 b6 b7 v k0 k1 k2 k3 k4 k5 k6 k7 := by
  simp only [k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay348, k0_pay47, grp2, headT, otT, probT, maxT, scoreT]
  all_goals rfl

/-- The piece of head 9, block 3. -/
theorem piece_1_1_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay347 (k0_pay325 k0_pay44 (k0_pay319 q0 q1 q2 q3 q4 q5 q6 q7) kw b1 k1) (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) k1) : FVec Ideal S64x128 .bf16)
      = grp1 k0_pay44 q0 q1 q2 q3 q4 q5 q6 q7 kw b0 b1 b2 b3 b4 b5 b6 b7 v k0 k1 k2 k3 k4 k5 k6 k7 := by
  simp only [k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay347, k0_pay47, grp1, headT, otT, probT, maxT, scoreT]
  all_goals rfl

/-- The piece of head 8, block 3. -/
theorem piece_1_0_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay346 (k0_pay322 k0_pay44 (k0_pay319 q0 q1 q2 q3 q4 q5 q6 q7) kw b0 k0) (k0_pay344 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) (k0_pay345 k0_pay44 (k0_pay45 (F := Ideal)) (k0_pay320 (k0_pay319 q0 q1 q2 q3 q4 q5 q6 q7) kw) (k0_pay323 k0_pay44 (k0_pay319 q0 q1 q2 q3 q4 q5 q6 q7) kw b0 k0) (k0_pay326 k0_pay44 (k0_pay319 q0 q1 q2 q3 q4 q5 q6 q7) kw b1 k1) (k0_pay330 (k0_pay327 k0_pay44 (k0_pay319 q0 q1 q2 q3 q4 q5 q6 q7) kw b2) (k0_pay328 k0_pay44 (k0_pay319 q0 q1 q2 q3 q4 q5 q6 q7) kw b2) k2) (k0_pay333 k0_pay44 (k0_pay320 (k0_pay319 q0 q1 q2 q3 q4 q5 q6 q7) kw) b3 k3) (k0_pay336 k0_pay44 (k0_pay320 (k0_pay319 q0 q1 q2 q3 q4 q5 q6 q7) kw) b4 k4) (k0_pay337 k0_pay44 (k0_pay320 (k0_pay319 q0 q1 q2 q3 q4 q5 q6 q7) kw) b5) (k0_pay338 k0_pay44 (k0_pay320 (k0_pay319 q0 q1 q2 q3 q4 q5 q6 q7) kw) b5) k5 b6 k6 b7 k7 v) k0) : FVec Ideal S64x128 .bf16)
      = grp0 k0_pay44 q0 q1 q2 q3 q4 q5 q6 q7 kw b0 b1 b2 b3 b4 b5 b6 b7 v k0 k1 k2 k3 k4 k5 k6 k7 := by
  simp only [k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay47, grp0, headT, otT, probT, maxT, scoreT]
  all_goals rfl

/-- The piece of head 7, block 3. -/
theorem piece_0_7_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay318 (k0_pay306 k0_pay44 (k0_pay283 q0 q1 q2 q3 q4 q5 q6 q7 kw) b7 k7) (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) k7) : FVec Ideal S64x128 .bf16)
      = grp7 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay318, k0_pay47, grp7, headT, otT, probT, maxT, scoreT]
  all_goals rfl

/-- The piece of head 6, block 3. -/
theorem piece_0_6_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay317 (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) (k0_pay316 (k0_pay304 k0_pay44 (k0_pay283 q0 q1 q2 q3 q4 q5 q6 q7 kw) b6 k6) (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) k6)) : FVec Ideal S64x128 .bf16)
      = grp6 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay316, k0_pay317, k0_pay47, grp6, headT, otT, probT, maxT, scoreT]
  all_goals rfl

/-- The piece of head 5, block 3. -/
theorem piece_0_5_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay315 (k0_pay302 k0_pay44 (k0_pay283 q0 q1 q2 q3 q4 q5 q6 q7 kw) b5 k5) (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) k5) : FVec Ideal S64x128 .bf16)
      = grp5 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay315, k0_pay47, grp5, headT, otT, probT, maxT, scoreT]
  all_goals rfl

/-- The piece of head 4, block 3. -/
theorem piece_0_4_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay314 (k0_pay299 k0_pay44 (k0_pay283 q0 q1 q2 q3 q4 q5 q6 q7 kw) b4 k4) (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) k4) : FVec Ideal S64x128 .bf16)
      = grp4 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay314, k0_pay47, grp4, headT, otT, probT, maxT, scoreT]
  all_goals rfl

/-- The piece of head 3, block 3. -/
theorem piece_0_3_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay313 (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) (k0_pay312 (k0_pay296 k0_pay44 (k0_pay283 q0 q1 q2 q3 q4 q5 q6 q7 kw) b3 k3) (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) k3)) : FVec Ideal S64x128 .bf16)
      = grp3 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay312, k0_pay313, k0_pay47, grp3, headT, otT, probT, maxT, scoreT]
  all_goals rfl

/-- The piece of head 2, block 3. -/
theorem piece_0_2_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay311 (k0_pay292 k0_pay44 (k0_pay283 q0 q1 q2 q3 q4 q5 q6 q7 kw) b2 k2) (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) k2) : FVec Ideal S64x128 .bf16)
      = grp2 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay311, k0_pay47, grp2, headT, otT, probT, maxT, scoreT]
  all_goals rfl

/-- The piece of head 1, block 3. -/
theorem piece_0_1_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay310 (k0_pay289 k0_pay44 (k0_pay283 q0 q1 q2 q3 q4 q5 q6 q7 kw) b1 k1) (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) k1) : FVec Ideal S64x128 .bf16)
      = grp1 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay310, k0_pay47, grp1, headT, otT, probT, maxT, scoreT]
  all_goals rfl

/-- The piece of head 0, block 3. -/
theorem piece_0_0_3 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay309 (k0_pay307 k0_pay44 (k0_pay45 (F := Ideal)) (k0_pay283 q0 q1 q2 q3 q4 q5 q6 q7 kw) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v) (k0_pay308 k0_pay44 (k0_pay45 (F := Ideal)) (k0_pay283 q0 q1 q2 q3 q4 q5 q6 q7 kw) (k0_pay286 k0_pay44 (k0_pay284 q0 q1 q2 q3 q4 q5 q6 q7 kw) b0 k0) (k0_pay287 k0_pay44 (k0_pay284 q0 q1 q2 q3 q4 q5 q6 q7 kw) b0 k0) (k0_pay290 k0_pay44 (k0_pay283 q0 q1 q2 q3 q4 q5 q6 q7 kw) b1 k1) (k0_pay294 (k0_pay293 k0_pay44 (k0_pay283 q0 q1 q2 q3 q4 q5 q6 q7 kw) b2 k2)) (k0_pay297 k0_pay44 (k0_pay283 q0 q1 q2 q3 q4 q5 q6 q7 kw) b3 k3) (k0_pay300 k0_pay44 (k0_pay283 q0 q1 q2 q3 q4 q5 q6 q7 kw) b4 k4) (k0_pay301 k0_pay44 (k0_pay283 q0 q1 q2 q3 q4 q5 q6 q7 kw) b5) (k0_pay302 k0_pay44 (k0_pay283 q0 q1 q2 q3 q4 q5 q6 q7 kw) b5 k5) b6 k6 b7 k7 v k0)) : FVec Ideal S64x128 .bf16)
      = grp0 k0_pay44 q0 q1 q2 q3 q4 q5 q6 q7 kw b0 b1 b2 b3 b4 b5 b6 b7 v k0 k1 k2 k3 k4 k5 k6 k7 := by
  simp only [k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay47, grp0, headT, otT, probT, maxT, scoreT]
  all_goals rfl

/-- The piece of head 15, block 2. -/
theorem piece_1_7_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay282 (k0_pay267 k0_pay44 (k0_pay242 q0 q1 q2 q3 q4 q5 q6 q7 kw) b7 k7) (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) k7) : FVec Ideal S64x128 .bf16)
      = grp7 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay282, k0_pay47, grp7, headT, otT, probT, maxT, scoreT]
  all_goals rfl

/-- The piece of head 14, block 2. -/
theorem piece_1_6_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay281 (k0_pay279 (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v)) (k0_pay280 (k0_pay265 k0_pay44 (k0_pay263 (k0_pay242 q0 q1 q2 q3 q4 q5 q6 q7 kw)) b6 k6) (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) k6)) : FVec Ideal S64x128 .bf16)
      = grp6 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay279, k0_pay280, k0_pay281, k0_pay47, grp6, headT, otT, probT, maxT, scoreT]
  all_goals rfl

/-- The piece of head 13, block 2. -/
theorem piece_1_5_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay278 (k0_pay261 k0_pay44 (k0_pay242 q0 q1 q2 q3 q4 q5 q6 q7 kw) b5 k5) (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) k5) : FVec Ideal S64x128 .bf16)
      = grp5 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay278, k0_pay47, grp5, headT, otT, probT, maxT, scoreT]
  all_goals rfl

/-- The piece of head 12, block 2. -/
theorem piece_1_4_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay277 (k0_pay258 k0_pay44 (k0_pay242 q0 q1 q2 q3 q4 q5 q6 q7 kw) b4 k4) (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) k4) : FVec Ideal S64x128 .bf16)
      = grp4 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay277, k0_pay47, grp4, headT, otT, probT, maxT, scoreT]
  all_goals rfl

/-- The piece of head 11, block 2. -/
theorem piece_1_3_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay276 (k0_pay274 (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v)) (k0_pay275 (k0_pay255 k0_pay44 (k0_pay253 (k0_pay242 q0 q1 q2 q3 q4 q5 q6 q7 kw)) b3 k3) (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) k3)) : FVec Ideal S64x128 .bf16)
      = grp3 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay274, k0_pay275, k0_pay276, k0_pay47, grp3, headT, otT, probT, maxT, scoreT]
  all_goals rfl

/-- The piece of head 10, block 2. -/
theorem piece_1_2_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay273 (k0_pay251 k0_pay44 (k0_pay242 q0 q1 q2 q3 q4 q5 q6 q7 kw) b2 k2) (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) k2) : FVec Ideal S64x128 .bf16)
      = grp2 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay273, k0_pay47, grp2, headT, otT, probT, maxT, scoreT]
  all_goals rfl

/-- The piece of head 9, block 2. -/
theorem piece_1_1_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay272 (k0_pay248 k0_pay44 (k0_pay242 q0 q1 q2 q3 q4 q5 q6 q7 kw) b1 k1) (k0_pay268 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) k1) : FVec Ideal S64x128 .bf16)
      = grp1 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay272, k0_pay47, grp1, headT, otT, probT, maxT, scoreT]
  all_goals rfl

/-- The piece of head 8, block 2. -/
theorem piece_1_0_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay271 (k0_pay269 k0_pay44 (k0_pay45 (F := Ideal)) (k0_pay242 q0 q1 q2 q3 q4 q5 q6 q7 kw) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v) (k0_pay270 k0_pay44 (k0_pay45 (F := Ideal)) (k0_pay242 q0 q1 q2 q3 q4 q5 q6 q7 kw) (k0_pay245 k0_pay44 (k0_pay243 q0 q1 q2 q3 q4 q5 q6 q7 kw b0) k0) (k0_pay246 k0_pay44 (k0_pay243 q0 q1 q2 q3 q4 q5 q6 q7 kw b0) k0) (k0_pay249 k0_pay44 (k0_pay242 q0 q1 q2 q3 q4 q5 q6 q7 kw) b1 k1) (k0_pay252 k0_pay44 (k0_pay242 q0 q1 q2 q3 q4 q5 q6 q7 kw) b2 k2) (k0_pay256 k0_pay44 (k0_pay253 (k0_pay242 q0 q1 q2 q3 q4 q5 q6 q7 kw)) b3 k3) (k0_pay259 k0_pay44 (k0_pay242 q0 q1 q2 q3 q4 q5 q6 q7 kw) b4 k4) (k0_pay262 k0_pay44 (k0_pay242 q0 q1 q2 q3 q4 q5 q6 q7 kw) b5 k5) (k0_pay263 (k0_pay242 q0 q1 q2 q3 q4 q5 q6 q7 kw)) b6 k6 b7 k7 v k0)) : FVec Ideal S64x128 .bf16)
      = grp0 k0_pay44 q0 q1 q2 q3 q4 q5 q6 q7 kw b0 b1 b2 b3 b4 b5 b6 b7 v k0 k1 k2 k3 k4 k5 k6 k7 := by
  simp only [k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay47, grp0, headT, otT, probT, maxT, scoreT]
  all_goals rfl

/-- The piece of head 7, block 2. -/
theorem piece_0_7_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay241 (k0_pay229 k0_pay44 (k0_pay202 q0 q1 q2 q3 q4 q5 q6 q7 kw) b7 k7) (k0_pay230 k0_pay44 (k0_pay45 (F := Ideal)) (k0_pay202 q0 q1 q2 q3 q4 q5 q6 q7 kw) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v) k7) : FVec Ideal S64x128 .bf16)
      = grp7 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay241, k0_pay47, grp7, headT, otT, probT, maxT, scoreT]
  all_goals rfl

/-- The piece of head 6, block 2. -/
theorem piece_0_6_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay240 (k0_pay239 (k0_pay227 k0_pay44 (k0_pay224 (k0_pay202 q0 q1 q2 q3 q4 q5 q6 q7 kw)) (k0_pay225 b6) k6) (k0_pay230 k0_pay44 (k0_pay45 (F := Ideal)) (k0_pay202 q0 q1 q2 q3 q4 q5 q6 q7 kw) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v) k6)) : FVec Ideal S64x128 .bf16)
      = grp6 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay239, k0_pay240, k0_pay47, grp6, headT, otT, probT, maxT, scoreT]
  all_goals rfl

/-- The piece of head 5, block 2. -/
theorem piece_0_5_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay238 (k0_pay222 k0_pay44 (k0_pay202 q0 q1 q2 q3 q4 q5 q6 q7 kw) b5 k5) (k0_pay230 k0_pay44 (k0_pay45 (F := Ideal)) (k0_pay202 q0 q1 q2 q3 q4 q5 q6 q7 kw) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v) k5) : FVec Ideal S64x128 .bf16)
      = grp5 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay238, k0_pay47, grp5, headT, otT, probT, maxT, scoreT]
  all_goals rfl

/-- The piece of head 4, block 2. -/
theorem piece_0_4_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay237 (k0_pay219 k0_pay44 (k0_pay202 q0 q1 q2 q3 q4 q5 q6 q7 kw) b4 k4) (k0_pay230 k0_pay44 (k0_pay45 (F := Ideal)) (k0_pay202 q0 q1 q2 q3 q4 q5 q6 q7 kw) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v) k4) : FVec Ideal S64x128 .bf16)
      = grp4 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay237, k0_pay47, grp4, headT, otT, probT, maxT, scoreT]
  all_goals rfl

/-- The piece of head 3, block 2. -/
theorem piece_0_3_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay236 (k0_pay235 (k0_pay216 k0_pay44 (k0_pay213 (k0_pay202 q0 q1 q2 q3 q4 q5 q6 q7 kw) b3) k0_pay214 k3) (k0_pay230 k0_pay44 (k0_pay45 (F := Ideal)) (k0_pay202 q0 q1 q2 q3 q4 q5 q6 q7 kw) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v) k3)) : FVec Ideal S64x128 .bf16)
      = grp3 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay235, k0_pay236, k0_pay47, grp3, headT, otT, probT, maxT, scoreT]
  all_goals rfl

/-- The piece of head 2, block 2. -/
theorem piece_0_2_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay234 (k0_pay211 k0_pay44 (k0_pay202 q0 q1 q2 q3 q4 q5 q6 q7 kw) b2 k2) (k0_pay230 k0_pay44 (k0_pay45 (F := Ideal)) (k0_pay202 q0 q1 q2 q3 q4 q5 q6 q7 kw) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v) k2) : FVec Ideal S64x128 .bf16)
      = grp2 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay234, k0_pay47, grp2, headT, otT, probT, maxT, scoreT]
  all_goals rfl

/-- The piece of head 1, block 2. -/
theorem piece_0_1_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay233 (k0_pay208 k0_pay44 (k0_pay202 q0 q1 q2 q3 q4 q5 q6 q7 kw) b1 k1) (k0_pay230 k0_pay44 (k0_pay45 (F := Ideal)) (k0_pay202 q0 q1 q2 q3 q4 q5 q6 q7 kw) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v) k1) : FVec Ideal S64x128 .bf16)
      = grp1 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay233, k0_pay47, grp1, headT, otT, probT, maxT, scoreT]
  all_goals rfl

/-- The piece of head 0, block 2. -/
theorem piece_0_0_2 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay232 (k0_pay231 k0_pay44 (k0_pay45 (F := Ideal)) (k0_pay202 q0 q1 q2 q3 q4 q5 q6 q7 kw) (k0_pay205 (k0_pay204 k0_pay44 q0 q1 q2 q3 q4 q5 q6 q7 kw b0) k0) (k0_pay206 (k0_pay203 k0_pay44 q0 q1 q2 q3 q4 q5 q6 q7 kw b0) (k0_pay204 k0_pay44 q0 q1 q2 q3 q4 q5 q6 q7 kw b0) k0) (k0_pay209 k0_pay44 (k0_pay202 q0 q1 q2 q3 q4 q5 q6 q7 kw) b1 k1) (k0_pay212 k0_pay44 (k0_pay202 q0 q1 q2 q3 q4 q5 q6 q7 kw) b2 k2) (k0_pay217 k0_pay44 (k0_pay213 (k0_pay202 q0 q1 q2 q3 q4 q5 q6 q7 kw) b3) k0_pay214 k3) (k0_pay220 k0_pay44 (k0_pay202 q0 q1 q2 q3 q4 q5 q6 q7 kw) b4 k4) (k0_pay223 k0_pay44 (k0_pay202 q0 q1 q2 q3 q4 q5 q6 q7 kw) b5 k5) (k0_pay224 (k0_pay202 q0 q1 q2 q3 q4 q5 q6 q7 kw)) (k0_pay225 b6) k6 b7 k7 v k0)) : FVec Ideal S64x128 .bf16)
      = grp0 k0_pay44 q0 q1 q2 q3 q4 q5 q6 q7 kw b0 b1 b2 b3 b4 b5 b6 b7 v k0 k1 k2 k3 k4 k5 k6 k7 := by
  simp only [k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay47, grp0, headT, otT, probT, maxT, scoreT]
  all_goals rfl

/-- The piece of head 15, block 1. -/
theorem piece_1_7_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay201 (k0_pay189 k0_pay44 (k0_pay166 q0 q1 q2 q3 q4 q5 q6 q7 kw) b7 k7) (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) (k0_pay200 (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v)) k7) : FVec Ideal S64x128 .bf16)
      = grp7 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay200, k0_pay201, k0_pay47, grp7, headT, otT, probT, maxT, scoreT]
  all_goals rfl

/-- The piece of head 14, block 1. -/
theorem piece_1_6_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay199 (k0_pay187 (k0_pay186 k0_pay44 (k0_pay166 q0 q1 q2 q3 q4 q5 q6 q7 kw) b6) k6) (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) k6) : FVec Ideal S64x128 .bf16)
      = grp6 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay199, k0_pay47, grp6, headT, otT, probT, maxT, scoreT]
  all_goals rfl

/-- The piece of head 13, block 1. -/
theorem piece_1_5_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay198 (k0_pay184 k0_pay44 (k0_pay166 q0 q1 q2 q3 q4 q5 q6 q7 kw) b5 k5) (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) k5) : FVec Ideal S64x128 .bf16)
      = grp5 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay198, k0_pay47, grp5, headT, otT, probT, maxT, scoreT]
  all_goals rfl

/-- The piece of head 12, block 1. -/
theorem piece_1_4_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay197 (k0_pay181 k0_pay44 (k0_pay166 q0 q1 q2 q3 q4 q5 q6 q7 kw) b4 k4) (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) (k0_pay196 (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v)) k4) : FVec Ideal S64x128 .bf16)
      = grp4 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay196, k0_pay197, k0_pay47, grp4, headT, otT, probT, maxT, scoreT]
  all_goals rfl

/-- The piece of head 11, block 1. -/
theorem piece_1_3_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay195 (k0_pay178 (k0_pay177 k0_pay44 (k0_pay166 q0 q1 q2 q3 q4 q5 q6 q7 kw) b3) k3) (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) k3) : FVec Ideal S64x128 .bf16)
      = grp3 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay195, k0_pay47, grp3, headT, otT, probT, maxT, scoreT]
  all_goals rfl

/-- The piece of head 10, block 1. -/
theorem piece_1_2_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay194 (k0_pay174 k0_pay44 (k0_pay166 q0 q1 q2 q3 q4 q5 q6 q7 kw) b2 k2) (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) k2) : FVec Ideal S64x128 .bf16)
      = grp2 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay194, k0_pay47, grp2, headT, otT, probT, maxT, scoreT]
  all_goals rfl

/-- The piece of head 9, block 1. -/
theorem piece_1_1_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay193 (k0_pay171 k0_pay44 (k0_pay166 q0 q1 q2 q3 q4 q5 q6 q7 kw) b1 k1) (k0_pay190 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) (k0_pay192 k0_pay44 (k0_pay45 (F := Ideal)) (k0_pay166 q0 q1 q2 q3 q4 q5 q6 q7 kw) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v) k1) : FVec Ideal S64x128 .bf16)
      = grp1 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay192, k0_pay193, k0_pay47, grp1, headT, otT, probT, maxT, scoreT]
  all_goals rfl

/-- The piece of head 8, block 1. -/
theorem piece_1_0_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay191 k0_pay44 (k0_pay45 (F := Ideal)) (k0_pay166 q0 q1 q2 q3 q4 q5 q6 q7 kw) (k0_pay168 k0_pay44 q0 q1 q2 q3 q4 q5 q6 q7 kw b0 k0) (k0_pay169 (k0_pay167 k0_pay44 q0 q1 q2 q3 q4 q5 q6 q7 kw b0) (k0_pay168 k0_pay44 q0 q1 q2 q3 q4 q5 q6 q7 kw b0 k0)) (k0_pay172 k0_pay44 (k0_pay166 q0 q1 q2 q3 q4 q5 q6 q7 kw) b1 k1) (k0_pay175 k0_pay44 (k0_pay166 q0 q1 q2 q3 q4 q5 q6 q7 kw) b2 k2) (k0_pay179 (k0_pay176 k0_pay44 (k0_pay166 q0 q1 q2 q3 q4 q5 q6 q7 kw) b3) (k0_pay177 k0_pay44 (k0_pay166 q0 q1 q2 q3 q4 q5 q6 q7 kw) b3) k3) (k0_pay182 k0_pay44 (k0_pay166 q0 q1 q2 q3 q4 q5 q6 q7 kw) b4 k4) (k0_pay185 k0_pay44 (k0_pay166 q0 q1 q2 q3 q4 q5 q6 q7 kw) b5 k5) (k0_pay186 k0_pay44 (k0_pay166 q0 q1 q2 q3 q4 q5 q6 q7 kw) b6) k6 b7 k7 v k0) : FVec Ideal S64x128 .bf16)
      = grp0 k0_pay44 q0 q1 q2 q3 q4 q5 q6 q7 kw b0 b1 b2 b3 b4 b5 b6 b7 v k0 k1 k2 k3 k4 k5 k6 k7 := by
  simp only [k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay47, grp0, headT, otT, probT, maxT, scoreT]
  all_goals rfl

/-- The piece of head 7, block 1. -/
theorem piece_0_7_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay165 (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) (k0_pay164 (k0_pay153 k0_pay44 (k0_pay127 q0 q1 q2 q3 q4 q5 q6 q7 kw) b7 k7) (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) k7)) : FVec Ideal S64x128 .bf16)
      = grp7 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay164, k0_pay165, k0_pay47, grp7, headT, otT, probT, maxT, scoreT]
  all_goals rfl

/-- The piece of head 6, block 1. -/
theorem piece_0_6_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay163 (k0_pay151 (k0_pay149 k0_pay44 (k0_pay127 q0 q1 q2 q3 q4 q5 q6 q7 kw) b6) (k0_pay150 k6)) (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) k6) : FVec Ideal S64x128 .bf16)
      = grp6 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay163, k0_pay47, grp6, headT, otT, probT, maxT, scoreT]
  all_goals rfl

/-- The piece of head 5, block 1. -/
theorem piece_0_5_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay162 (k0_pay146 k0_pay44 (k0_pay127 q0 q1 q2 q3 q4 q5 q6 q7 kw) b5 k5) (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) k5) : FVec Ideal S64x128 .bf16)
      = grp5 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay162, k0_pay47, grp5, headT, otT, probT, maxT, scoreT]
  all_goals rfl

/-- The piece of head 4, block 1. -/
theorem piece_0_4_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay161 (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) (k0_pay160 (k0_pay143 k0_pay44 (k0_pay127 q0 q1 q2 q3 q4 q5 q6 q7 kw) b4 k4) (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) k4)) : FVec Ideal S64x128 .bf16)
      = grp4 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay160, k0_pay161, k0_pay47, grp4, headT, otT, probT, maxT, scoreT]
  all_goals rfl

/-- The piece of head 3, block 1. -/
theorem piece_0_3_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay159 (k0_pay139 k0_pay44 (k0_pay127 q0 q1 q2 q3 q4 q5 q6 q7 kw) b3 k3) (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) k3) : FVec Ideal S64x128 .bf16)
      = grp3 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay159, k0_pay47, grp3, headT, otT, probT, maxT, scoreT]
  all_goals rfl

/-- The piece of head 2, block 1. -/
theorem piece_0_2_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay158 (k0_pay136 k0_pay44 (k0_pay127 q0 q1 q2 q3 q4 q5 q6 q7 kw) b2 k2) (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) k2) : FVec Ideal S64x128 .bf16)
      = grp2 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay158, k0_pay47, grp2, headT, otT, probT, maxT, scoreT]
  all_goals rfl

/-- The piece of head 1, block 1. -/
theorem piece_0_1_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay157 (k0_pay154 k0_pay44 (k0_pay45 (F := Ideal)) (k0_pay127 q0 q1 q2 q3 q4 q5 q6 q7 kw) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v) (k0_pay156 k0_pay44 (k0_pay45 (F := Ideal)) (k0_pay127 q0 q1 q2 q3 q4 q5 q6 q7 kw) (k0_pay130 k0_pay44 q0 q1 q2 q3 q4 q5 q6 q7 kw b0 k0) (k0_pay133 k0_pay44 (k0_pay131 q0 q1 q2 q3 q4 q5 q6 q7 kw) b1 k1) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v k1)) : FVec Ideal S64x128 .bf16)
      = grp1 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay156, k0_pay157, k0_pay47, grp1, headT, otT, probT, maxT, scoreT]
  all_goals rfl

/-- The piece of head 0, block 1. -/
theorem piece_0_0_1 (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay155 k0_pay44 (k0_pay45 (F := Ideal)) (k0_pay127 q0 q1 q2 q3 q4 q5 q6 q7 kw) (k0_pay129 k0_pay44 q0 q1 q2 q3 q4 q5 q6 q7 kw b0 k0) (k0_pay130 k0_pay44 q0 q1 q2 q3 q4 q5 q6 q7 kw b0 k0) (k0_pay134 k0_pay44 (k0_pay131 q0 q1 q2 q3 q4 q5 q6 q7 kw) b1 k1) (k0_pay137 k0_pay44 (k0_pay127 q0 q1 q2 q3 q4 q5 q6 q7 kw) b2 k2) (k0_pay141 (k0_pay140 k0_pay44 (k0_pay127 q0 q1 q2 q3 q4 q5 q6 q7 kw) b3 k3)) (k0_pay144 k0_pay44 (k0_pay127 q0 q1 q2 q3 q4 q5 q6 q7 kw) b4 k4) (k0_pay147 k0_pay44 (k0_pay127 q0 q1 q2 q3 q4 q5 q6 q7 kw) b5 k5) (k0_pay148 k0_pay44 (k0_pay127 q0 q1 q2 q3 q4 q5 q6 q7 kw) b6) (k0_pay149 k0_pay44 (k0_pay127 q0 q1 q2 q3 q4 q5 q6 q7 kw) b6) (k0_pay150 k6) b7 k7 v k0) : FVec Ideal S64x128 .bf16)
      = grp0 k0_pay44 q0 q1 q2 q3 q4 q5 q6 q7 kw b0 b1 b2 b3 b4 b5 b6 b7 v k0 k1 k2 k3 k4 k5 k6 k7 := by
  simp only [k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay47, grp0, headT, otT, probT, maxT, scoreT]
  all_goals rfl

/-- The piece of head 15, block 0. -/
theorem piece_1_7_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay126 (k0_pay124 (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v)) (k0_pay125 (k0_pay111 M (k0_pay85 q0 q1 q2 q3 q4 q5 q6 q7 kw) b7 k7) (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v) k7)) : FVec Ideal S64x128 .bf16)
      = grp7 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay124, k0_pay125, k0_pay126, k0_pay47, k0_pay85, k0_pay86, k0_pay87, k0_pay88, k0_pay89, k0_pay90, k0_pay91, k0_pay92, k0_pay93, k0_pay94, k0_pay95, k0_pay96, k0_pay97, k0_pay98, k0_pay99, grp7, headT, otT, probT, maxT, scoreT]
  all_goals rfl

/-- The piece of head 14, block 0. -/
theorem piece_1_6_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay123 (k0_pay108 M (k0_pay85 q0 q1 q2 q3 q4 q5 q6 q7 kw) b6 k6) (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v) k6) : FVec Ideal S64x128 .bf16)
      = grp6 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay123, k0_pay47, k0_pay85, k0_pay86, k0_pay87, k0_pay88, k0_pay89, k0_pay90, k0_pay91, k0_pay92, k0_pay93, k0_pay94, k0_pay95, k0_pay96, k0_pay97, k0_pay98, k0_pay99, grp6, headT, otT, probT, maxT, scoreT]
  all_goals rfl

/-- The piece of head 13, block 0. -/
theorem piece_1_5_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay122 (k0_pay105 M (k0_pay85 q0 q1 q2 q3 q4 q5 q6 q7 kw) b5 k5) (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v) k5) : FVec Ideal S64x128 .bf16)
      = grp5 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay122, k0_pay47, k0_pay85, k0_pay86, k0_pay87, k0_pay88, k0_pay89, k0_pay90, k0_pay91, k0_pay92, k0_pay93, k0_pay94, k0_pay95, k0_pay96, k0_pay97, k0_pay98, k0_pay99, grp5, headT, otT, probT, maxT, scoreT]
  all_goals rfl

/-- The piece of head 12, block 0. -/
theorem piece_1_4_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay121 (k0_pay119 (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v)) (k0_pay120 (k0_pay102 M (k0_pay100 (k0_pay85 q0 q1 q2 q3 q4 q5 q6 q7 kw)) b4 k4) (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v) k4)) : FVec Ideal S64x128 .bf16)
      = grp4 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay119, k0_pay120, k0_pay121, k0_pay47, k0_pay85, k0_pay86, k0_pay87, k0_pay88, k0_pay89, k0_pay90, k0_pay91, k0_pay92, k0_pay93, k0_pay94, k0_pay95, k0_pay96, k0_pay97, k0_pay98, k0_pay99, grp4, headT, otT, probT, maxT, scoreT]
  all_goals rfl

/-- The piece of head 11, block 0. -/
theorem piece_1_3_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay118 (k0_pay98 M (k0_pay85 q0 q1 q2 q3 q4 q5 q6 q7 kw) b3 k3) (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v) k3) : FVec Ideal S64x128 .bf16)
      = grp3 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay118, k0_pay47, k0_pay85, k0_pay86, k0_pay87, k0_pay88, k0_pay89, k0_pay90, k0_pay91, k0_pay92, k0_pay93, k0_pay94, k0_pay95, k0_pay96, k0_pay97, k0_pay98, k0_pay99, grp3, headT, otT, probT, maxT, scoreT]
  all_goals rfl

/-- The piece of head 10, block 0. -/
theorem piece_1_2_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay117 (k0_pay95 M (k0_pay85 q0 q1 q2 q3 q4 q5 q6 q7 kw) b2 k2) (k0_pay112 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v) k2) : FVec Ideal S64x128 .bf16)
      = grp2 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay117, k0_pay47, k0_pay85, k0_pay86, k0_pay87, k0_pay88, k0_pay89, k0_pay90, k0_pay91, k0_pay92, k0_pay93, k0_pay94, k0_pay95, k0_pay96, k0_pay97, k0_pay98, k0_pay99, grp2, headT, otT, probT, maxT, scoreT]
  all_goals rfl

/-- The piece of head 9, block 0. -/
theorem piece_1_1_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay116 (k0_pay114 (k0_pay45 (F := Ideal)) M (k0_pay85 q0 q1 q2 q3 q4 q5 q6 q7 kw) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v) (k0_pay115 (k0_pay45 (F := Ideal)) M (k0_pay85 q0 q1 q2 q3 q4 q5 q6 q7 kw) (k0_pay88 M q0 q1 q2 q3 q4 q5 q6 q7 kw b0 k0) (k0_pay92 M (k0_pay89 q0 q1 q2 q3 q4 q5 q6 q7 kw) (k0_pay90 b1) k1) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v k1)) : FVec Ideal S64x128 .bf16)
      = grp1 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay114, k0_pay115, k0_pay116, k0_pay47, k0_pay85, k0_pay86, k0_pay87, k0_pay88, k0_pay89, k0_pay90, k0_pay91, k0_pay92, k0_pay93, k0_pay94, k0_pay95, k0_pay96, k0_pay97, k0_pay98, k0_pay99, grp1, headT, otT, probT, maxT, scoreT]
  all_goals rfl

/-- The piece of head 8, block 0. -/
theorem piece_1_0_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay113 (k0_pay45 (F := Ideal)) M (k0_pay85 q0 q1 q2 q3 q4 q5 q6 q7 kw) (k0_pay87 M q0 q1 q2 q3 q4 q5 q6 q7 kw b0 k0) (k0_pay88 M q0 q1 q2 q3 q4 q5 q6 q7 kw b0 k0) (k0_pay93 M (k0_pay89 q0 q1 q2 q3 q4 q5 q6 q7 kw) (k0_pay90 b1) k1) (k0_pay96 M (k0_pay85 q0 q1 q2 q3 q4 q5 q6 q7 kw) b2 k2) (k0_pay99 M (k0_pay85 q0 q1 q2 q3 q4 q5 q6 q7 kw) b3 k3) (k0_pay103 M (k0_pay100 (k0_pay85 q0 q1 q2 q3 q4 q5 q6 q7 kw)) b4 k4) (k0_pay106 M (k0_pay85 q0 q1 q2 q3 q4 q5 q6 q7 kw) b5 k5) (k0_pay109 M (k0_pay85 q0 q1 q2 q3 q4 q5 q6 q7 kw) b6 k6) b7 k7 v k0) : FVec Ideal S64x128 .bf16)
      = grp0 M q0 q1 q2 q3 q4 q5 q6 q7 kw b0 b1 b2 b3 b4 b5 b6 b7 v k0 k1 k2 k3 k4 k5 k6 k7 := by
  simp only [k0_pay100, k0_pay101, k0_pay102, k0_pay103, k0_pay104, k0_pay105, k0_pay106, k0_pay107, k0_pay108, k0_pay109, k0_pay110, k0_pay111, k0_pay112, k0_pay113, k0_pay47, k0_pay85, k0_pay86, k0_pay87, k0_pay88, k0_pay89, k0_pay90, k0_pay91, k0_pay92, k0_pay93, k0_pay94, k0_pay95, k0_pay96, k0_pay97, k0_pay98, k0_pay99, grp0, headT, otT, probT, maxT, scoreT]
  all_goals rfl

/-- The piece of head 7, block 0. -/
theorem piece_0_7_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay84 (k0_pay83 (k0_pay72 M (k0_pay70 (k0_pay47 q0 q1 q2 q3 q4 q5 q6 q7 kw)) b7 k7) (k0_pay73 (k0_pay45 (F := Ideal)) M (k0_pay50 M q0 q1 q2 q3 q4 q5 q6 q7 kw b0 k0) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v) k7)) : FVec Ideal S64x128 .bf16)
      = grp7 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay83, k0_pay84, grp7, headT, otT, probT, maxT, scoreT]
  all_goals rfl

/-- The piece of head 6, block 0. -/
theorem piece_0_6_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay82 (k0_pay68 M (k0_pay47 q0 q1 q2 q3 q4 q5 q6 q7 kw) b6 k6) (k0_pay73 (k0_pay45 (F := Ideal)) M (k0_pay50 M q0 q1 q2 q3 q4 q5 q6 q7 kw b0 k0) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v) k6) : FVec Ideal S64x128 .bf16)
      = grp6 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay82, grp6, headT, otT, probT, maxT, scoreT]
  all_goals rfl

/-- The piece of head 5, block 0. -/
theorem piece_0_5_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay81 (k0_pay65 M (k0_pay47 q0 q1 q2 q3 q4 q5 q6 q7 kw) b5 k5) (k0_pay73 (k0_pay45 (F := Ideal)) M (k0_pay50 M q0 q1 q2 q3 q4 q5 q6 q7 kw b0 k0) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v) k5) : FVec Ideal S64x128 .bf16)
      = grp5 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay81, grp5, headT, otT, probT, maxT, scoreT]
  all_goals rfl

/-- The piece of head 4, block 0. -/
theorem piece_0_4_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay80 (k0_pay79 (k0_pay62 M (k0_pay60 (k0_pay47 q0 q1 q2 q3 q4 q5 q6 q7 kw) b4) (FloatOps.ofBits (F := Ideal) FTy.f32 4048155338#32) k4) (k0_pay73 (k0_pay45 (F := Ideal)) M (k0_pay50 M q0 q1 q2 q3 q4 q5 q6 q7 kw b0 k0) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v) k4)) : FVec Ideal S64x128 .bf16)
      = grp4 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay79, k0_pay80, grp4, headT, otT, probT, maxT, scoreT]
  all_goals rfl

/-- The piece of head 3, block 0. -/
theorem piece_0_3_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay78 (k0_pay58 M (k0_pay47 q0 q1 q2 q3 q4 q5 q6 q7 kw) b3 k3) (k0_pay73 (k0_pay45 (F := Ideal)) M (k0_pay50 M q0 q1 q2 q3 q4 q5 q6 q7 kw b0 k0) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v) k3) : FVec Ideal S64x128 .bf16)
      = grp3 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay78, grp3, headT, otT, probT, maxT, scoreT]
  all_goals rfl

/-- The piece of head 2, block 0. -/
theorem piece_0_2_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay77 (k0_pay55 M (k0_pay47 q0 q1 q2 q3 q4 q5 q6 q7 kw) b2 k2) (k0_pay73 (k0_pay45 (F := Ideal)) M (k0_pay50 M q0 q1 q2 q3 q4 q5 q6 q7 kw b0 k0) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v) k2) : FVec Ideal S64x128 .bf16)
      = grp2 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay77, grp2, headT, otT, probT, maxT, scoreT]
  all_goals rfl

/-- The piece of head 1, block 0. -/
theorem piece_0_1_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay76 (k0_pay75 (k0_pay45 (F := Ideal)) M (k0_pay50 M q0 q1 q2 q3 q4 q5 q6 q7 kw b0 k0) (k0_pay52 (k0_pay51 M q0 q1 q2 q3 q4 q5 q6 q7 kw b1) k1) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v k1)) : FVec Ideal S64x128 .bf16)
      = grp1 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay75, k0_pay76, grp1, headT, otT, probT, maxT, scoreT]
  all_goals rfl

/-- The piece of head 0, block 0. -/
theorem piece_0_0_0 (M : IVec S256x128 1) (q0 q1 q2 q3 q4 q5 q6 q7 : FVec Ideal S64x128 .bf16) (kw : FVec Ideal S256x64 .bf16) (b0 b1 b2 b3 b4 b5 b6 b7 : FVec Ideal S1x256x128 .f32)
    (v : FVec Ideal S64x256 .bf16) (k0 k1 k2 k3 k4 k5 k6 k7 : Elt Ideal .f32) :
    ((k0_pay74 (k0_pay45 (F := Ideal)) M (k0_pay49 M q0 q1 q2 q3 q4 q5 q6 q7 kw b0 k0) (k0_pay50 M q0 q1 q2 q3 q4 q5 q6 q7 kw b0 k0) (k0_pay53 (k0_pay51 M q0 q1 q2 q3 q4 q5 q6 q7 kw b1) k1) (k0_pay56 M (k0_pay47 q0 q1 q2 q3 q4 q5 q6 q7 kw) b2 k2) (k0_pay59 M (k0_pay47 q0 q1 q2 q3 q4 q5 q6 q7 kw) b3 k3) (k0_pay63 M (k0_pay60 (k0_pay47 q0 q1 q2 q3 q4 q5 q6 q7 kw) b4) (FloatOps.ofBits (F := Ideal) FTy.f32 4048155338#32) k4) (k0_pay66 M (k0_pay47 q0 q1 q2 q3 q4 q5 q6 q7 kw) b5 k5) (k0_pay69 M (k0_pay47 q0 q1 q2 q3 q4 q5 q6 q7 kw) b6 k6) (k0_pay70 (k0_pay47 q0 q1 q2 q3 q4 q5 q6 q7 kw)) b7 k7 v k0) : FVec Ideal S64x128 .bf16)
      = grp0 M q0 q1 q2 q3 q4 q5 q6 q7 kw b0 b1 b2 b3 b4 b5 b6 b7 v k0 k1 k2 k3 k4 k5 k6 k7 := by
  simp only [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, grp0, headT, otT, probT, maxT, scoreT]
  all_goals rfl

end Cert.AttnValue

end
-- ==== Proof.AttnTileA.lean ====
/- The attention's output of a tile. -/
module

public import proofs.«01_k».proof.Proof.Gen.AttnIdeal.Frame
public import proofs.«01_k».proof.Proof.Gen.AttnIdeal.Value
public import Idealize.ShloMosaic.Lib.Claim
public import proofs.«01_k».proof.Proof.AttnPieces
public import proofs.«01_k».proof.Proof.AttnPoint

@[expose] public section

set_option maxRecDepth 16384

noncomputable section

namespace Cert.AttnValue

open Idealize.ShloMosaic Idealize.ShloMosaic.TcCoe Idealize.SL.Sem
open Idealize.ShloMosaic.Pipeline (Dat)
open Cert.AttnIdeal Cert.AttnIdeal.Gen Cert.AttnMath

variable (m : (ℓ : Loc nD τ sig) → Buf (Elt Ideal) ℓ)

set_option maxHeartbeats 4000000 in
/-- The tile at the start of a sequence. -/
theorem tileA (c : Dev nD) (t : Fin cfg0.N) (t0 : t.val % 16 = 0) (y : S512x1024.Idx) :
    (outsAt0 m c t.val t.isLt).1 y = tileOut (iblk m c 0 t) (iblk m c 7 t) (iblk m c 8 t)
      (View.canon (kPieces (k0_pay4 (F := Ideal)) (iblk m c 0 t) (iblk m c 1 t) (iblk m c 2 t) (iblk m c 3 t) (iblk m c 4 t)))
      (View.canon (qPieces (iblk m c 0 t) (iblk m c 1 t) (iblk m c 2 t) (iblk m c 3 t)))
      (View.canon (vPieces (k0_pay5 (F := Ideal)) (iblk m c 0 t) (iblk m c 1 t) (iblk m c 2 t) (iblk m c 3 t)))
      (iblk m c 5 t) (iblk m c 6 t) 1#1 (y 0) (y 1) := by
  have hf := (flag_eq t).trans (if_pos t0)
  rw [outsAt0_A m c t t0 (fun h => h t0)]
  dsimp only
  frame_out
  simp only [View.readCov_eq_canon']
  rw [hf]
  clear hf
  generalize hQ : View.canon (qPieces (iblk m c 0 t) (iblk m c 1 t) (iblk m c 2 t) (iblk m c 3 t)) = Q
  unfold qPieces at hQ
  rw [hQ]
  clear hQ
  generalize hK : View.canon (kPieces (k0_pay4 (F := Ideal)) (iblk m c 0 t) (iblk m c 1 t) (iblk m c 2 t) (iblk m c 3 t) (iblk m c 4 t)) = K
  unfold kPieces at hK
  rw [hK]
  clear hK
  generalize hV : View.canon (vPieces (k0_pay5 (F := Ideal)) (iblk m c 0 t) (iblk m c 1 t) (iblk m c 2 t) (iblk m c 3 t)) = V
  unfold vPieces at hV
  rw [hV]
  clear hV
  generalize iblk m c 5 t = B
  generalize iblk m c 6 t = S

  refine Eq.trans (b := k0_pay3 (iblk m c 0 t) (iblk m c 7 t) _ (iblk m c 8 t) y) rfl ?_
  generalize iblk m c 0 t = x
  generalize iblk m c 7 t = wo
  generalize iblk m c 8 t = bo
  obtain ⟨i, f, rfl⟩ : ∃ i f, y = ix2 i f := ⟨y 0, y 1, ValueIdx.eq_ix2 (n0 := 512) (n1 := 1024) y⟩
  refine tileOut_of x wo _ bo K Q V B S 1#1 i f fun r => ?_
  rw [rect2 (A := 1024) (B := 512) 0 0 inb_S1024x512_S1024x512_0_0 r i (by omega) (by omega)]
  generalize hy : (ix2 ⟨0 + r.val, _⟩ ⟨0 + i.val, _⟩ : S1024x512.Idx) = y
  have hr : r = y 0 := by rw [← hy]; exact Fin.ext (Nat.zero_add _).symm
  have hi : i = y 1 := by rw [← hy]; exact Fin.ext (Nat.zero_add _).symm
  rw [hr, hi]
  clear hy hr hi
  canon_tiles x h
  · rw [piece_1_7_3]
    obtain ⟨d, q, rfl⟩ : ∃ d q, x = ix2 d q := ⟨x 0, x 1, ValueIdx.eq_ix2 (n0 := 64) (n1 := 128) x⟩
    rw [grp7_at]
    exact heads_in K Q V B S 1#1 (y 0) (y 1) 1 7 3 (by decide) (by decide) (by decide) (by decide) d q h0 h1 _ _ _ _ _ _
  · rw [piece_1_6_3]
    obtain ⟨d, q, rfl⟩ : ∃ d q, x = ix2 d q := ⟨x 0, x 1, ValueIdx.eq_ix2 (n0 := 64) (n1 := 128) x⟩
    rw [grp6_at]
    exact heads_in K Q V B S 1#1 (y 0) (y 1) 1 6 3 (by decide) (by decide) (by decide) (by decide) d q h0 h1 _ _ _ _ _ _
  · rw [piece_1_5_3]
    obtain ⟨d, q, rfl⟩ : ∃ d q, x = ix2 d q := ⟨x 0, x 1, ValueIdx.eq_ix2 (n0 := 64) (n1 := 128) x⟩
    rw [grp5_at]
    exact heads_in K Q V B S 1#1 (y 0) (y 1) 1 5 3 (by decide) (by decide) (by decide) (by decide) d q h0 h1 _ _ _ _ _ _
  · rw [piece_1_4_3]
    obtain ⟨d, q, rfl⟩ : ∃ d q, x = ix2 d q := ⟨x 0, x 1, ValueIdx.eq_ix2 (n0 := 64) (n1 := 128) x⟩
    rw [grp4_at]
    exact heads_in K Q V B S 1#1 (y 0) (y 1) 1 4 3 (by decide) (by decide) (by decide) (by decide) d q h0 h1 _ _ _ _ _ _
  · rw [piece_1_3_3]
    obtain ⟨d, q, rfl⟩ : ∃ d q, x = ix2 d q := ⟨x 0, x 1, ValueIdx.eq_ix2 (n0 := 64) (n1 := 128) x⟩
    rw [grp3_at]
    exact heads_in K Q V B S 1#1 (y 0) (y 1) 1 3 3 (by decide) (by decide) (by decide) (by decide) d q h0 h1 _ _ _ _ _ _
  · rw [piece_1_2_3]
    obtain ⟨d, q, rfl⟩ : ∃ d q, x = ix2 d q := ⟨x 0, x 1, ValueIdx.eq_ix2 (n0 := 64) (n1 := 128) x⟩
    rw [grp2_at]
    exact heads_in K Q V B S 1#1 (y 0) (y 1) 1 2 3 (by decide) (by decide) (by decide) (by decide) d q h0 h1 _ _ _ _ _ _
  · rw [piece_1_1_3]
    obtain ⟨d, q, rfl⟩ : ∃ d q, x = ix2 d q := ⟨x 0, x 1, ValueIdx.eq_ix2 (n0 := 64) (n1 := 128) x⟩
    rw [grp1_at]
    exact heads_in K Q V B S 1#1 (y 0) (y 1) 1 1 3 (by decide) (by decide) (by decide) (by decide) d q h0 h1 _ _ _ _ _ _
  · rw [piece_1_0_3]
    obtain ⟨d, q, rfl⟩ : ∃ d q, x = ix2 d q := ⟨x 0, x 1, ValueIdx.eq_ix2 (n0 := 64) (n1 := 128) x⟩
    rw [grp0_at]
    exact heads_in K Q V B S 1#1 (y 0) (y 1) 1 0 3 (by decide) (by decide) (by decide) (by decide) d q h0 h1 _ _ _ _ _ _
  · rw [piece_0_7_3]
    obtain ⟨d, q, rfl⟩ : ∃ d q, x = ix2 d q := ⟨x 0, x 1, ValueIdx.eq_ix2 (n0 := 64) (n1 := 128) x⟩
    rw [grp7_at]
    exact heads_in K Q V B S 1#1 (y 0) (y 1) 0 7 3 (by decide) (by decide) (by decide) (by decide) d q h0 h1 _ _ _ _ _ _
  · rw [piece_0_6_3]
    obtain ⟨d, q, rfl⟩ : ∃ d q, x = ix2 d q := ⟨x 0, x 1, ValueIdx.eq_ix2 (n0 := 64) (n1 := 128) x⟩
    rw [grp6_at]
    exact heads_in K Q V B S 1#1 (y 0) (y 1) 0 6 3 (by decide) (by decide) (by decide) (by decide) d q h0 h1 _ _ _ _ _ _
  · rw [piece_0_5_3]
    obtain ⟨d, q, rfl⟩ : ∃ d q, x = ix2 d q := ⟨x 0, x 1, ValueIdx.eq_ix2 (n0 := 64) (n1 := 128) x⟩
    rw [grp5_at]
    exact heads_in K Q V B S 1#1 (y 0) (y 1) 0 5 3 (by decide) (by decide) (by decide) (by decide) d q h0 h1 _ _ _ _ _ _
  · rw [piece_0_4_3]
    obtain ⟨d, q, rfl⟩ : ∃ d q, x = ix2 d q := ⟨x 0, x 1, ValueIdx.eq_ix2 (n0 := 64) (n1 := 128) x⟩
    rw [grp4_at]
    exact heads_in K Q V B S 1#1 (y 0) (y 1) 0 4 3 (by decide) (by decide) (by decide) (by decide) d q h0 h1 _ _ _ _ _ _
  · rw [piece_0_3_3]
    obtain ⟨d, q, rfl⟩ : ∃ d q, x = ix2 d q := ⟨x 0, x 1, ValueIdx.eq_ix2 (n0 := 64) (n1 := 128) x⟩
    rw [grp3_at]
    exact heads_in K Q V B S 1#1 (y 0) (y 1) 0 3 3 (by decide) (by decide) (by decide) (by decide) d q h0 h1 _ _ _ _ _ _
  · rw [piece_0_2_3]
    obtain ⟨d, q, rfl⟩ : ∃ d q, x = ix2 d q := ⟨x 0, x 1, ValueIdx.eq_ix2 (n0 := 64) (n1 := 128) x⟩
    rw [grp2_at]
    exact heads_in K Q V B S 1#1 (y 0) (y 1) 0 2 3 (by decide) (by decide) (by decide) (by decide) d q h0 h1 _ _ _ _ _ _
  · rw [piece_0_1_3]
    obtain ⟨d, q, rfl⟩ : ∃ d q, x = ix2 d q := ⟨x 0, x 1, ValueIdx.eq_ix2 (n0 := 64) (n1 := 128) x⟩
    rw [grp1_at]
    exact heads_in K Q V B S 1#1 (y 0) (y 1) 0 1 3 (by decide) (by decide) (by decide) (by decide) d q h0 h1 _ _ _ _ _ _
  · rw [piece_0_0_3]
    obtain ⟨d, q, rfl⟩ : ∃ d q, x = ix2 d q := ⟨x 0, x 1, ValueIdx.eq_ix2 (n0 := 64) (n1 := 128) x⟩
    rw [grp0_at]
    exact heads_in K Q V B S 1#1 (y 0) (y 1) 0 0 3 (by decide) (by decide) (by decide) (by decide) d q (h0.trans (Nat.zero_add _).symm) h1 _ _ _ _ _ _
  · rw [piece_1_7_2]
    obtain ⟨d, q, rfl⟩ : ∃ d q, x = ix2 d q := ⟨x 0, x 1, ValueIdx.eq_ix2 (n0 := 64) (n1 := 128) x⟩
    rw [grp7_at]
    exact heads_in K Q V B S 1#1 (y 0) (y 1) 1 7 2 (by decide) (by decide) (by decide) (by decide) d q h0 h1 _ _ _ _ _ _
  · rw [piece_1_6_2]
    obtain ⟨d, q, rfl⟩ : ∃ d q, x = ix2 d q := ⟨x 0, x 1, ValueIdx.eq_ix2 (n0 := 64) (n1 := 128) x⟩
    rw [grp6_at]
    exact heads_in K Q V B S 1#1 (y 0) (y 1) 1 6 2 (by decide) (by decide) (by decide) (by decide) d q h0 h1 _ _ _ _ _ _
  · rw [piece_1_5_2]
    obtain ⟨d, q, rfl⟩ : ∃ d q, x = ix2 d q := ⟨x 0, x 1, ValueIdx.eq_ix2 (n0 := 64) (n1 := 128) x⟩
    rw [grp5_at]
    exact heads_in K Q V B S 1#1 (y 0) (y 1) 1 5 2 (by decide) (by decide) (by decide) (by decide) d q h0 h1 _ _ _ _ _ _
  · rw [piece_1_4_2]
    obtain ⟨d, q, rfl⟩ : ∃ d q, x = ix2 d q := ⟨x 0, x 1, ValueIdx.eq_ix2 (n0 := 64) (n1 := 128) x⟩
    rw [grp4_at]
    exact heads_in K Q V B S 1#1 (y 0) (y 1) 1 4 2 (by decide) (by decide) (by decide) (by decide) d q h0 h1 _ _ _ _ _ _
  · rw [piece_1_3_2]
    obtain ⟨d, q, rfl⟩ : ∃ d q, x = ix2 d q := ⟨x 0, x 1, ValueIdx.eq_ix2 (n0 := 64) (n1 := 128) x⟩
    rw [grp3_at]
    exact heads_in K Q V B S 1#1 (y 0) (y 1) 1 3 2 (by decide) (by decide) (by decide) (by decide) d q h0 h1 _ _ _ _ _ _
  · rw [piece_1_2_2]
    obtain ⟨d, q, rfl⟩ : ∃ d q, x = ix2 d q := ⟨x 0, x 1, ValueIdx.eq_ix2 (n0 := 64) (n1 := 128) x⟩
    rw [grp2_at]
    exact heads_in K Q V B S 1#1 (y 0) (y 1) 1 2 2 (by decide) (by decide) (by decide) (by decide) d q h0 h1 _ _ _ _ _ _
  · rw [piece_1_1_2]
    obtain ⟨d, q, rfl⟩ : ∃ d q, x = ix2 d q := ⟨x 0, x 1, ValueIdx.eq_ix2 (n0 := 64) (n1 := 128) x⟩
    rw [grp1_at]
    exact heads_in K Q V B S 1#1 (y 0) (y 1) 1 1 2 (by decide) (by decide) (by decide) (by decide) d q h0 h1 _ _ _ _ _ _
  · rw [piece_1_0_2]
    obtain ⟨d, q, rfl⟩ : ∃ d q, x = ix2 d q := ⟨x 0, x 1, ValueIdx.eq_ix2 (n0 := 64) (n1 := 128) x⟩
    rw [grp0_at]
    exact heads_in K Q V B S 1#1 (y 0) (y 1) 1 0 2 (by decide) (by decide) (by decide) (by decide) d q h0 h1 _ _ _ _ _ _
  · rw [piece_0_7_2]
    obtain ⟨d, q, rfl⟩ : ∃ d q, x = ix2 d q := ⟨x 0, x 1, ValueIdx.eq_ix2 (n0 := 64) (n1 := 128) x⟩
    rw [grp7_at]
    exact heads_in K Q V B S 1#1 (y 0) (y 1) 0 7 2 (by decide) (by decide) (by decide) (by decide) d q h0 h1 _ _ _ _ _ _
  · rw [piece_0_6_2]
    obtain ⟨d, q, rfl⟩ : ∃ d q, x = ix2 d q := ⟨x 0, x 1, ValueIdx.eq_ix2 (n0 := 64) (n1 := 128) x⟩
    rw [grp6_at]
    exact heads_in K Q V B S 1#1 (y 0) (y 1) 0 6 2 (by decide) (by decide) (by decide) (by decide) d q h0 h1 _ _ _ _ _ _
  · rw [piece_0_5_2]
    obtain ⟨d, q, rfl⟩ : ∃ d q, x = ix2 d q := ⟨x 0, x 1, ValueIdx.eq_ix2 (n0 := 64) (n1 := 128) x⟩
    rw [grp5_at]
    exact heads_in K Q V B S 1#1 (y 0) (y 1) 0 5 2 (by decide) (by decide) (by decide) (by decide) d q h0 h1 _ _ _ _ _ _
  · rw [piece_0_4_2]
    obtain ⟨d, q, rfl⟩ : ∃ d q, x = ix2 d q := ⟨x 0, x 1, ValueIdx.eq_ix2 (n0 := 64) (n1 := 128) x⟩
    rw [grp4_at]
    exact heads_in K Q V B S 1#1 (y 0) (y 1) 0 4 2 (by decide) (by decide) (by decide) (by decide) d q h0 h1 _ _ _ _ _ _
  · rw [piece_0_3_2]
    obtain ⟨d, q, rfl⟩ : ∃ d q, x = ix2 d q := ⟨x 0, x 1, ValueIdx.eq_ix2 (n0 := 64) (n1 := 128) x⟩
    rw [grp3_at]
    exact heads_in K Q V B S 1#1 (y 0) (y 1) 0 3 2 (by decide) (by decide) (by decide) (by decide) d q h0 h1 _ _ _ _ _ _
  · rw [piece_0_2_2]
    obtain ⟨d, q, rfl⟩ : ∃ d q, x = ix2 d q := ⟨x 0, x 1, ValueIdx.eq_ix2 (n0 := 64) (n1 := 128) x⟩
    rw [grp2_at]
    exact heads_in K Q V B S 1#1 (y 0) (y 1) 0 2 2 (by decide) (by decide) (by decide) (by decide) d q h0 h1 _ _ _ _ _ _
  · rw [piece_0_1_2]
    obtain ⟨d, q, rfl⟩ : ∃ d q, x = ix2 d q := ⟨x 0, x 1, ValueIdx.eq_ix2 (n0 := 64) (n1 := 128) x⟩
    rw [grp1_at]
    exact heads_in K Q V B S 1#1 (y 0) (y 1) 0 1 2 (by decide) (by decide) (by decide) (by decide) d q h0 h1 _ _ _ _ _ _
  · rw [piece_0_0_2]
    obtain ⟨d, q, rfl⟩ : ∃ d q, x = ix2 d q := ⟨x 0, x 1, ValueIdx.eq_ix2 (n0 := 64) (n1 := 128) x⟩
    rw [grp0_at]
    exact heads_in K Q V B S 1#1 (y 0) (y 1) 0 0 2 (by decide) (by decide) (by decide) (by decide) d q (h0.trans (Nat.zero_add _).symm) h1 _ _ _ _ _ _
  · rw [piece_1_7_1]
    obtain ⟨d, q, rfl⟩ : ∃ d q, x = ix2 d q := ⟨x 0, x 1, ValueIdx.eq_ix2 (n0 := 64) (n1 := 128) x⟩
    rw [grp7_at]
    exact heads_in K Q V B S 1#1 (y 0) (y 1) 1 7 1 (by decide) (by decide) (by decide) (by decide) d q h0 h1 _ _ _ _ _ _
  · rw [piece_1_6_1]
    obtain ⟨d, q, rfl⟩ : ∃ d q, x = ix2 d q := ⟨x 0, x 1, ValueIdx.eq_ix2 (n0 := 64) (n1 := 128) x⟩
    rw [grp6_at]
    exact heads_in K Q V B S 1#1 (y 0) (y 1) 1 6 1 (by decide) (by decide) (by decide) (by decide) d q h0 h1 _ _ _ _ _ _
  · rw [piece_1_5_1]
    obtain ⟨d, q, rfl⟩ : ∃ d q, x = ix2 d q := ⟨x 0, x 1, ValueIdx.eq_ix2 (n0 := 64) (n1 := 128) x⟩
    rw [grp5_at]
    exact heads_in K Q V B S 1#1 (y 0) (y 1) 1 5 1 (by decide) (by decide) (by decide) (by decide) d q h0 h1 _ _ _ _ _ _
  · rw [piece_1_4_1]
    obtain ⟨d, q, rfl⟩ : ∃ d q, x = ix2 d q := ⟨x 0, x 1, ValueIdx.eq_ix2 (n0 := 64) (n1 := 128) x⟩
    rw [grp4_at]
    exact heads_in K Q V B S 1#1 (y 0) (y 1) 1 4 1 (by decide) (by decide) (by decide) (by decide) d q h0 h1 _ _ _ _ _ _
  · rw [piece_1_3_1]
    obtain ⟨d, q, rfl⟩ : ∃ d q, x = ix2 d q := ⟨x 0, x 1, ValueIdx.eq_ix2 (n0 := 64) (n1 := 128) x⟩
    rw [grp3_at]
    exact heads_in K Q V B S 1#1 (y 0) (y 1) 1 3 1 (by decide) (by decide) (by decide) (by decide) d q h0 h1 _ _ _ _ _ _
  · rw [piece_1_2_1]
    obtain ⟨d, q, rfl⟩ : ∃ d q, x = ix2 d q := ⟨x 0, x 1, ValueIdx.eq_ix2 (n0 := 64) (n1 := 128) x⟩
    rw [grp2_at]
    exact heads_in K Q V B S 1#1 (y 0) (y 1) 1 2 1 (by decide) (by decide) (by decide) (by decide) d q h0 h1 _ _ _ _ _ _
  · rw [piece_1_1_1]
    obtain ⟨d, q, rfl⟩ : ∃ d q, x = ix2 d q := ⟨x 0, x 1, ValueIdx.eq_ix2 (n0 := 64) (n1 := 128) x⟩
    rw [grp1_at]
    exact heads_in K Q V B S 1#1 (y 0) (y 1) 1 1 1 (by decide) (by decide) (by decide) (by decide) d q h0 h1 _ _ _ _ _ _
  · rw [piece_1_0_1]
    obtain ⟨d, q, rfl⟩ : ∃ d q, x = ix2 d q := ⟨x 0, x 1, ValueIdx.eq_ix2 (n0 := 64) (n1 := 128) x⟩
    rw [grp0_at]
    exact heads_in K Q V B S 1#1 (y 0) (y 1) 1 0 1 (by decide) (by decide) (by decide) (by decide) d q h0 h1 _ _ _ _ _ _
  · rw [piece_0_7_1]
    obtain ⟨d, q, rfl⟩ : ∃ d q, x = ix2 d q := ⟨x 0, x 1, ValueIdx.eq_ix2 (n0 := 64) (n1 := 128) x⟩
    rw [grp7_at]
    exact heads_in K Q V B S 1#1 (y 0) (y 1) 0 7 1 (by decide) (by decide) (by decide) (by decide) d q h0 h1 _ _ _ _ _ _
  · rw [piece_0_6_1]
    obtain ⟨d, q, rfl⟩ : ∃ d q, x = ix2 d q := ⟨x 0, x 1, ValueIdx.eq_ix2 (n0 := 64) (n1 := 128) x⟩
    rw [grp6_at]
    exact heads_in K Q V B S 1#1 (y 0) (y 1) 0 6 1 (by decide) (by decide) (by decide) (by decide) d q h0 h1 _ _ _ _ _ _
  · rw [piece_0_5_1]
    obtain ⟨d, q, rfl⟩ : ∃ d q, x = ix2 d q := ⟨x 0, x 1, ValueIdx.eq_ix2 (n0 := 64) (n1 := 128) x⟩
    rw [grp5_at]
    exact heads_in K Q V B S 1#1 (y 0) (y 1) 0 5 1 (by decide) (by decide) (by decide) (by decide) d q h0 h1 _ _ _ _ _ _
  · rw [piece_0_4_1]
    obtain ⟨d, q, rfl⟩ : ∃ d q, x = ix2 d q := ⟨x 0, x 1, ValueIdx.eq_ix2 (n0 := 64) (n1 := 128) x⟩
    rw [grp4_at]
    exact heads_in K Q V B S 1#1 (y 0) (y 1) 0 4 1 (by decide) (by decide) (by decide) (by decide) d q h0 h1 _ _ _ _ _ _
  · rw [piece_0_3_1]
    obtain ⟨d, q, rfl⟩ : ∃ d q, x = ix2 d q := ⟨x 0, x 1, ValueIdx.eq_ix2 (n0 := 64) (n1 := 128) x⟩
    rw [grp3_at]
    exact heads_in K Q V B S 1#1 (y 0) (y 1) 0 3 1 (by decide) (by decide) (by decide) (by decide) d q h0 h1 _ _ _ _ _ _
  · rw [piece_0_2_1]
    obtain ⟨d, q, rfl⟩ : ∃ d q, x = ix2 d q := ⟨x 0, x 1, ValueIdx.eq_ix2 (n0 := 64) (n1 := 128) x⟩
    rw [grp2_at]
    exact heads_in K Q V B S 1#1 (y 0) (y 1) 0 2 1 (by decide) (by decide) (by decide) (by decide) d q h0 h1 _ _ _ _ _ _
  · rw [piece_0_1_1]
    obtain ⟨d, q, rfl⟩ : ∃ d q, x = ix2 d q := ⟨x 0, x 1, ValueIdx.eq_ix2 (n0 := 64) (n1 := 128) x⟩
    rw [grp1_at]
    exact heads_in K Q V B S 1#1 (y 0) (y 1) 0 1 1 (by decide) (by decide) (by decide) (by decide) d q h0 h1 _ _ _ _ _ _
  · rw [piece_0_0_1]
    obtain ⟨d, q, rfl⟩ : ∃ d q, x = ix2 d q := ⟨x 0, x 1, ValueIdx.eq_ix2 (n0 := 64) (n1 := 128) x⟩
    rw [grp0_at]
    exact heads_in K Q V B S 1#1 (y 0) (y 1) 0 0 1 (by decide) (by decide) (by decide) (by decide) d q (h0.trans (Nat.zero_add _).symm) h1 _ _ _ _ _ _
  · rw [piece_1_7_0]
    obtain ⟨d, q, rfl⟩ : ∃ d q, x = ix2 d q := ⟨x 0, x 1, ValueIdx.eq_ix2 (n0 := 64) (n1 := 128) x⟩
    rw [grp7_at]
    exact heads_first K Q V B S 1#1 (y 0) (y 1) 1 7 (by decide) (by decide) d q h0 (h1.trans (Nat.zero_add _).symm) _ _ _ _ _ _
  · rw [piece_1_6_0]
    obtain ⟨d, q, rfl⟩ : ∃ d q, x = ix2 d q := ⟨x 0, x 1, ValueIdx.eq_ix2 (n0 := 64) (n1 := 128) x⟩
    rw [grp6_at]
    exact heads_first K Q V B S 1#1 (y 0) (y 1) 1 6 (by decide) (by decide) d q h0 (h1.trans (Nat.zero_add _).symm) _ _ _ _ _ _
  · rw [piece_1_5_0]
    obtain ⟨d, q, rfl⟩ : ∃ d q, x = ix2 d q := ⟨x 0, x 1, ValueIdx.eq_ix2 (n0 := 64) (n1 := 128) x⟩
    rw [grp5_at]
    exact heads_first K Q V B S 1#1 (y 0) (y 1) 1 5 (by decide) (by decide) d q h0 (h1.trans (Nat.zero_add _).symm) _ _ _ _ _ _
  · rw [piece_1_4_0]
    obtain ⟨d, q, rfl⟩ : ∃ d q, x = ix2 d q := ⟨x 0, x 1, ValueIdx.eq_ix2 (n0 := 64) (n1 := 128) x⟩
    rw [grp4_at]
    exact heads_first K Q V B S 1#1 (y 0) (y 1) 1 4 (by decide) (by decide) d q h0 (h1.trans (Nat.zero_add _).symm) _ _ _ _ _ _
  · rw [piece_1_3_0]
    obtain ⟨d, q, rfl⟩ : ∃ d q, x = ix2 d q := ⟨x 0, x 1, ValueIdx.eq_ix2 (n0 := 64) (n1 := 128) x⟩
    rw [grp3_at]
    exact heads_first K Q V B S 1#1 (y 0) (y 1) 1 3 (by decide) (by decide) d q h0 (h1.trans (Nat.zero_add _).symm) _ _ _ _ _ _
  · rw [piece_1_2_0]
    obtain ⟨d, q, rfl⟩ : ∃ d q, x = ix2 d q := ⟨x 0, x 1, ValueIdx.eq_ix2 (n0 := 64) (n1 := 128) x⟩
    rw [grp2_at]
    exact heads_first K Q V B S 1#1 (y 0) (y 1) 1 2 (by decide) (by decide) d q h0 (h1.trans (Nat.zero_add _).symm) _ _ _ _ _ _
  · rw [piece_1_1_0]
    obtain ⟨d, q, rfl⟩ : ∃ d q, x = ix2 d q := ⟨x 0, x 1, ValueIdx.eq_ix2 (n0 := 64) (n1 := 128) x⟩
    rw [grp1_at]
    exact heads_first K Q V B S 1#1 (y 0) (y 1) 1 1 (by decide) (by decide) d q h0 (h1.trans (Nat.zero_add _).symm) _ _ _ _ _ _
  · rw [piece_1_0_0]
    obtain ⟨d, q, rfl⟩ : ∃ d q, x = ix2 d q := ⟨x 0, x 1, ValueIdx.eq_ix2 (n0 := 64) (n1 := 128) x⟩
    rw [grp0_at]
    exact heads_first K Q V B S 1#1 (y 0) (y 1) 1 0 (by decide) (by decide) d q h0 (h1.trans (Nat.zero_add _).symm) _ _ _ _ _ _
  · rw [piece_0_7_0]
    obtain ⟨d, q, rfl⟩ : ∃ d q, x = ix2 d q := ⟨x 0, x 1, ValueIdx.eq_ix2 (n0 := 64) (n1 := 128) x⟩
    rw [grp7_at]
    exact heads_first K Q V B S 1#1 (y 0) (y 1) 0 7 (by decide) (by decide) d q h0 (h1.trans (Nat.zero_add _).symm) _ _ _ _ _ _
  · rw [piece_0_6_0]
    obtain ⟨d, q, rfl⟩ : ∃ d q, x = ix2 d q := ⟨x 0, x 1, ValueIdx.eq_ix2 (n0 := 64) (n1 := 128) x⟩
    rw [grp6_at]
    exact heads_first K Q V B S 1#1 (y 0) (y 1) 0 6 (by decide) (by decide) d q h0 (h1.trans (Nat.zero_add _).symm) _ _ _ _ _ _
  · rw [piece_0_5_0]
    obtain ⟨d, q, rfl⟩ : ∃ d q, x = ix2 d q := ⟨x 0, x 1, ValueIdx.eq_ix2 (n0 := 64) (n1 := 128) x⟩
    rw [grp5_at]
    exact heads_first K Q V B S 1#1 (y 0) (y 1) 0 5 (by decide) (by decide) d q h0 (h1.trans (Nat.zero_add _).symm) _ _ _ _ _ _
  · rw [piece_0_4_0]
    obtain ⟨d, q, rfl⟩ : ∃ d q, x = ix2 d q := ⟨x 0, x 1, ValueIdx.eq_ix2 (n0 := 64) (n1 := 128) x⟩
    rw [grp4_at]
    exact heads_first K Q V B S 1#1 (y 0) (y 1) 0 4 (by decide) (by decide) d q h0 (h1.trans (Nat.zero_add _).symm) _ _ _ _ _ _
  · rw [piece_0_3_0]
    obtain ⟨d, q, rfl⟩ : ∃ d q, x = ix2 d q := ⟨x 0, x 1, ValueIdx.eq_ix2 (n0 := 64) (n1 := 128) x⟩
    rw [grp3_at]
    exact heads_first K Q V B S 1#1 (y 0) (y 1) 0 3 (by decide) (by decide) d q h0 (h1.trans (Nat.zero_add _).symm) _ _ _ _ _ _
  · rw [piece_0_2_0]
    obtain ⟨d, q, rfl⟩ : ∃ d q, x = ix2 d q := ⟨x 0, x 1, ValueIdx.eq_ix2 (n0 := 64) (n1 := 128) x⟩
    rw [grp2_at]
    exact heads_first K Q V B S 1#1 (y 0) (y 1) 0 2 (by decide) (by decide) d q h0 (h1.trans (Nat.zero_add _).symm) _ _ _ _ _ _
  · rw [piece_0_1_0]
    obtain ⟨d, q, rfl⟩ : ∃ d q, x = ix2 d q := ⟨x 0, x 1, ValueIdx.eq_ix2 (n0 := 64) (n1 := 128) x⟩
    rw [grp1_at]
    exact heads_first K Q V B S 1#1 (y 0) (y 1) 0 1 (by decide) (by decide) d q h0 (h1.trans (Nat.zero_add _).symm) _ _ _ _ _ _
  · rw [piece_0_0_0]
    obtain ⟨d, q, rfl⟩ : ∃ d q, x = ix2 d q := ⟨x 0, x 1, ValueIdx.eq_ix2 (n0 := 64) (n1 := 128) x⟩
    rw [grp0_at]
    exact heads_first K Q V B S 1#1 (y 0) (y 1) 0 0 (by decide) (by decide) d q (h0.trans (Nat.zero_add _).symm) (h1.trans (Nat.zero_add _).symm) _ _ _ _ _ _

end Cert.AttnValue

end
-- ==== Proof.AttnTileB.lean ====
/- The attention's output of a tile. -/
module

public import proofs.«01_k».proof.Proof.Gen.AttnIdeal.Frame
public import proofs.«01_k».proof.Proof.Gen.AttnIdeal.Value
public import Idealize.ShloMosaic.Lib.Claim
public import proofs.«01_k».proof.Proof.AttnPieces
public import proofs.«01_k».proof.Proof.AttnPoint

@[expose] public section

set_option maxRecDepth 16384

noncomputable section

namespace Cert.AttnValue

open Idealize.ShloMosaic Idealize.ShloMosaic.TcCoe Idealize.SL.Sem
open Idealize.ShloMosaic.Pipeline (Dat)
open Cert.AttnIdeal Cert.AttnIdeal.Gen Cert.AttnMath

variable (m : (ℓ : Loc nD τ sig) → Buf (Elt Ideal) ℓ)

set_option maxHeartbeats 4000000 in
/-- A tile inside a sequence. -/
theorem tileB (c : Dev nD) (t : Fin cfg0.N) (t0 : ¬ t.val % 16 = 0) (y : S512x1024.Idx) :
    (outsAt0 m c t.val t.isLt).1 y = tileOut (iblk m c 0 t) (iblk m c 7 t) (iblk m c 8 t)
      (View.canon (kPieces (haloK (outsAt0 m c (t.val - 1) (Nat.lt_of_le_of_lt (Nat.sub_le _ _) t.isLt)).2.1) (iblk m c 0 t) (iblk m c 1 t) (iblk m c 2 t) (iblk m c 3 t) (iblk m c 4 t)))
      (View.canon (qPieces (iblk m c 0 t) (iblk m c 1 t) (iblk m c 2 t) (iblk m c 3 t)))
      (View.canon (vPieces (haloV (outsAt0 m c (t.val - 1) (Nat.lt_of_le_of_lt (Nat.sub_le _ _) t.isLt)).2.2) (iblk m c 0 t) (iblk m c 1 t) (iblk m c 2 t) (iblk m c 3 t)))
      (iblk m c 5 t) (iblk m c 6 t) 0#1 (y 0) (y 1) := by
  have hf := (flag_eq t).trans (if_neg t0)
  rw [outsAt0_B m c t t0 t0]
  dsimp only
  frame_out
  simp only [View.readCov_eq_canon', readK, readV, pay6_eq, pay7_eq]
  generalize (outsAt0 m c (t.val - 1) _).2.1 = XK
  generalize (outsAt0 m c (t.val - 1) _).2.2 = XV
  rw [hf]
  clear hf
  generalize hQ : View.canon (qPieces (iblk m c 0 t) (iblk m c 1 t) (iblk m c 2 t) (iblk m c 3 t)) = Q
  unfold qPieces at hQ
  rw [hQ]
  clear hQ
  generalize hK : View.canon (kPieces (haloK XK) (iblk m c 0 t) (iblk m c 1 t) (iblk m c 2 t) (iblk m c 3 t) (iblk m c 4 t)) = K
  unfold kPieces at hK
  rw [hK]
  clear hK
  generalize hV : View.canon (vPieces (haloV XV) (iblk m c 0 t) (iblk m c 1 t) (iblk m c 2 t) (iblk m c 3 t)) = V
  unfold vPieces at hV
  rw [hV]
  clear hV
  generalize iblk m c 5 t = B
  generalize iblk m c 6 t = S

  refine Eq.trans (b := k0_pay3 (iblk m c 0 t) (iblk m c 7 t) _ (iblk m c 8 t) y) rfl ?_
  generalize iblk m c 0 t = x
  generalize iblk m c 7 t = wo
  generalize iblk m c 8 t = bo
  obtain ⟨i, f, rfl⟩ : ∃ i f, y = ix2 i f := ⟨y 0, y 1, ValueIdx.eq_ix2 (n0 := 512) (n1 := 1024) y⟩
  refine tileOut_of x wo _ bo K Q V B S 0#1 i f fun r => ?_
  rw [rect2 (A := 1024) (B := 512) 0 0 inb_S1024x512_S1024x512_0_0 r i (by omega) (by omega)]
  generalize hy : (ix2 ⟨0 + r.val, _⟩ ⟨0 + i.val, _⟩ : S1024x512.Idx) = y
  have hr : r = y 0 := by rw [← hy]; exact Fin.ext (Nat.zero_add _).symm
  have hi : i = y 1 := by rw [← hy]; exact Fin.ext (Nat.zero_add _).symm
  rw [hr, hi]
  clear hy hr hi
  canon_tiles x h
  · rw [piece_1_7_3]
    obtain ⟨d, q, rfl⟩ : ∃ d q, x = ix2 d q := ⟨x 0, x 1, ValueIdx.eq_ix2 (n0 := 64) (n1 := 128) x⟩
    rw [grp7_at]
    exact heads_in K Q V B S 0#1 (y 0) (y 1) 1 7 3 (by decide) (by decide) (by decide) (by decide) d q h0 h1 _ _ _ _ _ _
  · rw [piece_1_6_3]
    obtain ⟨d, q, rfl⟩ : ∃ d q, x = ix2 d q := ⟨x 0, x 1, ValueIdx.eq_ix2 (n0 := 64) (n1 := 128) x⟩
    rw [grp6_at]
    exact heads_in K Q V B S 0#1 (y 0) (y 1) 1 6 3 (by decide) (by decide) (by decide) (by decide) d q h0 h1 _ _ _ _ _ _
  · rw [piece_1_5_3]
    obtain ⟨d, q, rfl⟩ : ∃ d q, x = ix2 d q := ⟨x 0, x 1, ValueIdx.eq_ix2 (n0 := 64) (n1 := 128) x⟩
    rw [grp5_at]
    exact heads_in K Q V B S 0#1 (y 0) (y 1) 1 5 3 (by decide) (by decide) (by decide) (by decide) d q h0 h1 _ _ _ _ _ _
  · rw [piece_1_4_3]
    obtain ⟨d, q, rfl⟩ : ∃ d q, x = ix2 d q := ⟨x 0, x 1, ValueIdx.eq_ix2 (n0 := 64) (n1 := 128) x⟩
    rw [grp4_at]
    exact heads_in K Q V B S 0#1 (y 0) (y 1) 1 4 3 (by decide) (by decide) (by decide) (by decide) d q h0 h1 _ _ _ _ _ _
  · rw [piece_1_3_3]
    obtain ⟨d, q, rfl⟩ : ∃ d q, x = ix2 d q := ⟨x 0, x 1, ValueIdx.eq_ix2 (n0 := 64) (n1 := 128) x⟩
    rw [grp3_at]
    exact heads_in K Q V B S 0#1 (y 0) (y 1) 1 3 3 (by decide) (by decide) (by decide) (by decide) d q h0 h1 _ _ _ _ _ _
  · rw [piece_1_2_3]
    obtain ⟨d, q, rfl⟩ : ∃ d q, x = ix2 d q := ⟨x 0, x 1, ValueIdx.eq_ix2 (n0 := 64) (n1 := 128) x⟩
    rw [grp2_at]
    exact heads_in K Q V B S 0#1 (y 0) (y 1) 1 2 3 (by decide) (by decide) (by decide) (by decide) d q h0 h1 _ _ _ _ _ _
  · rw [piece_1_1_3]
    obtain ⟨d, q, rfl⟩ : ∃ d q, x = ix2 d q := ⟨x 0, x 1, ValueIdx.eq_ix2 (n0 := 64) (n1 := 128) x⟩
    rw [grp1_at]
    exact heads_in K Q V B S 0#1 (y 0) (y 1) 1 1 3 (by decide) (by decide) (by decide) (by decide) d q h0 h1 _ _ _ _ _ _
  · rw [piece_1_0_3]
    obtain ⟨d, q, rfl⟩ : ∃ d q, x = ix2 d q := ⟨x 0, x 1, ValueIdx.eq_ix2 (n0 := 64) (n1 := 128) x⟩
    rw [grp0_at]
    exact heads_in K Q V B S 0#1 (y 0) (y 1) 1 0 3 (by decide) (by decide) (by decide) (by decide) d q h0 h1 _ _ _ _ _ _
  · rw [piece_0_7_3]
    obtain ⟨d, q, rfl⟩ : ∃ d q, x = ix2 d q := ⟨x 0, x 1, ValueIdx.eq_ix2 (n0 := 64) (n1 := 128) x⟩
    rw [grp7_at]
    exact heads_in K Q V B S 0#1 (y 0) (y 1) 0 7 3 (by decide) (by decide) (by decide) (by decide) d q h0 h1 _ _ _ _ _ _
  · rw [piece_0_6_3]
    obtain ⟨d, q, rfl⟩ : ∃ d q, x = ix2 d q := ⟨x 0, x 1, ValueIdx.eq_ix2 (n0 := 64) (n1 := 128) x⟩
    rw [grp6_at]
    exact heads_in K Q V B S 0#1 (y 0) (y 1) 0 6 3 (by decide) (by decide) (by decide) (by decide) d q h0 h1 _ _ _ _ _ _
  · rw [piece_0_5_3]
    obtain ⟨d, q, rfl⟩ : ∃ d q, x = ix2 d q := ⟨x 0, x 1, ValueIdx.eq_ix2 (n0 := 64) (n1 := 128) x⟩
    rw [grp5_at]
    exact heads_in K Q V B S 0#1 (y 0) (y 1) 0 5 3 (by decide) (by decide) (by decide) (by decide) d q h0 h1 _ _ _ _ _ _
  · rw [piece_0_4_3]
    obtain ⟨d, q, rfl⟩ : ∃ d q, x = ix2 d q := ⟨x 0, x 1, ValueIdx.eq_ix2 (n0 := 64) (n1 := 128) x⟩
    rw [grp4_at]
    exact heads_in K Q V B S 0#1 (y 0) (y 1) 0 4 3 (by decide) (by decide) (by decide) (by decide) d q h0 h1 _ _ _ _ _ _
  · rw [piece_0_3_3]
    obtain ⟨d, q, rfl⟩ : ∃ d q, x = ix2 d q := ⟨x 0, x 1, ValueIdx.eq_ix2 (n0 := 64) (n1 := 128) x⟩
    rw [grp3_at]
    exact heads_in K Q V B S 0#1 (y 0) (y 1) 0 3 3 (by decide) (by decide) (by decide) (by decide) d q h0 h1 _ _ _ _ _ _
  · rw [piece_0_2_3]
    obtain ⟨d, q, rfl⟩ : ∃ d q, x = ix2 d q := ⟨x 0, x 1, ValueIdx.eq_ix2 (n0 := 64) (n1 := 128) x⟩
    rw [grp2_at]
    exact heads_in K Q V B S 0#1 (y 0) (y 1) 0 2 3 (by decide) (by decide) (by decide) (by decide) d q h0 h1 _ _ _ _ _ _
  · rw [piece_0_1_3]
    obtain ⟨d, q, rfl⟩ : ∃ d q, x = ix2 d q := ⟨x 0, x 1, ValueIdx.eq_ix2 (n0 := 64) (n1 := 128) x⟩
    rw [grp1_at]
    exact heads_in K Q V B S 0#1 (y 0) (y 1) 0 1 3 (by decide) (by decide) (by decide) (by decide) d q h0 h1 _ _ _ _ _ _
  · rw [piece_0_0_3]
    obtain ⟨d, q, rfl⟩ : ∃ d q, x = ix2 d q := ⟨x 0, x 1, ValueIdx.eq_ix2 (n0 := 64) (n1 := 128) x⟩
    rw [grp0_at]
    exact heads_in K Q V B S 0#1 (y 0) (y 1) 0 0 3 (by decide) (by decide) (by decide) (by decide) d q (h0.trans (Nat.zero_add _).symm) h1 _ _ _ _ _ _
  · rw [piece_1_7_2]
    obtain ⟨d, q, rfl⟩ : ∃ d q, x = ix2 d q := ⟨x 0, x 1, ValueIdx.eq_ix2 (n0 := 64) (n1 := 128) x⟩
    rw [grp7_at]
    exact heads_in K Q V B S 0#1 (y 0) (y 1) 1 7 2 (by decide) (by decide) (by decide) (by decide) d q h0 h1 _ _ _ _ _ _
  · rw [piece_1_6_2]
    obtain ⟨d, q, rfl⟩ : ∃ d q, x = ix2 d q := ⟨x 0, x 1, ValueIdx.eq_ix2 (n0 := 64) (n1 := 128) x⟩
    rw [grp6_at]
    exact heads_in K Q V B S 0#1 (y 0) (y 1) 1 6 2 (by decide) (by decide) (by decide) (by decide) d q h0 h1 _ _ _ _ _ _
  · rw [piece_1_5_2]
    obtain ⟨d, q, rfl⟩ : ∃ d q, x = ix2 d q := ⟨x 0, x 1, ValueIdx.eq_ix2 (n0 := 64) (n1 := 128) x⟩
    rw [grp5_at]
    exact heads_in K Q V B S 0#1 (y 0) (y 1) 1 5 2 (by decide) (by decide) (by decide) (by decide) d q h0 h1 _ _ _ _ _ _
  · rw [piece_1_4_2]
    obtain ⟨d, q, rfl⟩ : ∃ d q, x = ix2 d q := ⟨x 0, x 1, ValueIdx.eq_ix2 (n0 := 64) (n1 := 128) x⟩
    rw [grp4_at]
    exact heads_in K Q V B S 0#1 (y 0) (y 1) 1 4 2 (by decide) (by decide) (by decide) (by decide) d q h0 h1 _ _ _ _ _ _
  · rw [piece_1_3_2]
    obtain ⟨d, q, rfl⟩ : ∃ d q, x = ix2 d q := ⟨x 0, x 1, ValueIdx.eq_ix2 (n0 := 64) (n1 := 128) x⟩
    rw [grp3_at]
    exact heads_in K Q V B S 0#1 (y 0) (y 1) 1 3 2 (by decide) (by decide) (by decide) (by decide) d q h0 h1 _ _ _ _ _ _
  · rw [piece_1_2_2]
    obtain ⟨d, q, rfl⟩ : ∃ d q, x = ix2 d q := ⟨x 0, x 1, ValueIdx.eq_ix2 (n0 := 64) (n1 := 128) x⟩
    rw [grp2_at]
    exact heads_in K Q V B S 0#1 (y 0) (y 1) 1 2 2 (by decide) (by decide) (by decide) (by decide) d q h0 h1 _ _ _ _ _ _
  · rw [piece_1_1_2]
    obtain ⟨d, q, rfl⟩ : ∃ d q, x = ix2 d q := ⟨x 0, x 1, ValueIdx.eq_ix2 (n0 := 64) (n1 := 128) x⟩
    rw [grp1_at]
    exact heads_in K Q V B S 0#1 (y 0) (y 1) 1 1 2 (by decide) (by decide) (by decide) (by decide) d q h0 h1 _ _ _ _ _ _
  · rw [piece_1_0_2]
    obtain ⟨d, q, rfl⟩ : ∃ d q, x = ix2 d q := ⟨x 0, x 1, ValueIdx.eq_ix2 (n0 := 64) (n1 := 128) x⟩
    rw [grp0_at]
    exact heads_in K Q V B S 0#1 (y 0) (y 1) 1 0 2 (by decide) (by decide) (by decide) (by decide) d q h0 h1 _ _ _ _ _ _
  · rw [piece_0_7_2]
    obtain ⟨d, q, rfl⟩ : ∃ d q, x = ix2 d q := ⟨x 0, x 1, ValueIdx.eq_ix2 (n0 := 64) (n1 := 128) x⟩
    rw [grp7_at]
    exact heads_in K Q V B S 0#1 (y 0) (y 1) 0 7 2 (by decide) (by decide) (by decide) (by decide) d q h0 h1 _ _ _ _ _ _
  · rw [piece_0_6_2]
    obtain ⟨d, q, rfl⟩ : ∃ d q, x = ix2 d q := ⟨x 0, x 1, ValueIdx.eq_ix2 (n0 := 64) (n1 := 128) x⟩
    rw [grp6_at]
    exact heads_in K Q V B S 0#1 (y 0) (y 1) 0 6 2 (by decide) (by decide) (by decide) (by decide) d q h0 h1 _ _ _ _ _ _
  · rw [piece_0_5_2]
    obtain ⟨d, q, rfl⟩ : ∃ d q, x = ix2 d q := ⟨x 0, x 1, ValueIdx.eq_ix2 (n0 := 64) (n1 := 128) x⟩
    rw [grp5_at]
    exact heads_in K Q V B S 0#1 (y 0) (y 1) 0 5 2 (by decide) (by decide) (by decide) (by decide) d q h0 h1 _ _ _ _ _ _
  · rw [piece_0_4_2]
    obtain ⟨d, q, rfl⟩ : ∃ d q, x = ix2 d q := ⟨x 0, x 1, ValueIdx.eq_ix2 (n0 := 64) (n1 := 128) x⟩
    rw [grp4_at]
    exact heads_in K Q V B S 0#1 (y 0) (y 1) 0 4 2 (by decide) (by decide) (by decide) (by decide) d q h0 h1 _ _ _ _ _ _
  · rw [piece_0_3_2]
    obtain ⟨d, q, rfl⟩ : ∃ d q, x = ix2 d q := ⟨x 0, x 1, ValueIdx.eq_ix2 (n0 := 64) (n1 := 128) x⟩
    rw [grp3_at]
    exact heads_in K Q V B S 0#1 (y 0) (y 1) 0 3 2 (by decide) (by decide) (by decide) (by decide) d q h0 h1 _ _ _ _ _ _
  · rw [piece_0_2_2]
    obtain ⟨d, q, rfl⟩ : ∃ d q, x = ix2 d q := ⟨x 0, x 1, ValueIdx.eq_ix2 (n0 := 64) (n1 := 128) x⟩
    rw [grp2_at]
    exact heads_in K Q V B S 0#1 (y 0) (y 1) 0 2 2 (by decide) (by decide) (by decide) (by decide) d q h0 h1 _ _ _ _ _ _
  · rw [piece_0_1_2]
    obtain ⟨d, q, rfl⟩ : ∃ d q, x = ix2 d q := ⟨x 0, x 1, ValueIdx.eq_ix2 (n0 := 64) (n1 := 128) x⟩
    rw [grp1_at]
    exact heads_in K Q V B S 0#1 (y 0) (y 1) 0 1 2 (by decide) (by decide) (by decide) (by decide) d q h0 h1 _ _ _ _ _ _
  · rw [piece_0_0_2]
    obtain ⟨d, q, rfl⟩ : ∃ d q, x = ix2 d q := ⟨x 0, x 1, ValueIdx.eq_ix2 (n0 := 64) (n1 := 128) x⟩
    rw [grp0_at]
    exact heads_in K Q V B S 0#1 (y 0) (y 1) 0 0 2 (by decide) (by decide) (by decide) (by decide) d q (h0.trans (Nat.zero_add _).symm) h1 _ _ _ _ _ _
  · rw [piece_1_7_1]
    obtain ⟨d, q, rfl⟩ : ∃ d q, x = ix2 d q := ⟨x 0, x 1, ValueIdx.eq_ix2 (n0 := 64) (n1 := 128) x⟩
    rw [grp7_at]
    exact heads_in K Q V B S 0#1 (y 0) (y 1) 1 7 1 (by decide) (by decide) (by decide) (by decide) d q h0 h1 _ _ _ _ _ _
  · rw [piece_1_6_1]
    obtain ⟨d, q, rfl⟩ : ∃ d q, x = ix2 d q := ⟨x 0, x 1, ValueIdx.eq_ix2 (n0 := 64) (n1 := 128) x⟩
    rw [grp6_at]
    exact heads_in K Q V B S 0#1 (y 0) (y 1) 1 6 1 (by decide) (by decide) (by decide) (by decide) d q h0 h1 _ _ _ _ _ _
  · rw [piece_1_5_1]
    obtain ⟨d, q, rfl⟩ : ∃ d q, x = ix2 d q := ⟨x 0, x 1, ValueIdx.eq_ix2 (n0 := 64) (n1 := 128) x⟩
    rw [grp5_at]
    exact heads_in K Q V B S 0#1 (y 0) (y 1) 1 5 1 (by decide) (by decide) (by decide) (by decide) d q h0 h1 _ _ _ _ _ _
  · rw [piece_1_4_1]
    obtain ⟨d, q, rfl⟩ : ∃ d q, x = ix2 d q := ⟨x 0, x 1, ValueIdx.eq_ix2 (n0 := 64) (n1 := 128) x⟩
    rw [grp4_at]
    exact heads_in K Q V B S 0#1 (y 0) (y 1) 1 4 1 (by decide) (by decide) (by decide) (by decide) d q h0 h1 _ _ _ _ _ _
  · rw [piece_1_3_1]
    obtain ⟨d, q, rfl⟩ : ∃ d q, x = ix2 d q := ⟨x 0, x 1, ValueIdx.eq_ix2 (n0 := 64) (n1 := 128) x⟩
    rw [grp3_at]
    exact heads_in K Q V B S 0#1 (y 0) (y 1) 1 3 1 (by decide) (by decide) (by decide) (by decide) d q h0 h1 _ _ _ _ _ _
  · rw [piece_1_2_1]
    obtain ⟨d, q, rfl⟩ : ∃ d q, x = ix2 d q := ⟨x 0, x 1, ValueIdx.eq_ix2 (n0 := 64) (n1 := 128) x⟩
    rw [grp2_at]
    exact heads_in K Q V B S 0#1 (y 0) (y 1) 1 2 1 (by decide) (by decide) (by decide) (by decide) d q h0 h1 _ _ _ _ _ _
  · rw [piece_1_1_1]
    obtain ⟨d, q, rfl⟩ : ∃ d q, x = ix2 d q := ⟨x 0, x 1, ValueIdx.eq_ix2 (n0 := 64) (n1 := 128) x⟩
    rw [grp1_at]
    exact heads_in K Q V B S 0#1 (y 0) (y 1) 1 1 1 (by decide) (by decide) (by decide) (by decide) d q h0 h1 _ _ _ _ _ _
  · rw [piece_1_0_1]
    obtain ⟨d, q, rfl⟩ : ∃ d q, x = ix2 d q := ⟨x 0, x 1, ValueIdx.eq_ix2 (n0 := 64) (n1 := 128) x⟩
    rw [grp0_at]
    exact heads_in K Q V B S 0#1 (y 0) (y 1) 1 0 1 (by decide) (by decide) (by decide) (by decide) d q h0 h1 _ _ _ _ _ _
  · rw [piece_0_7_1]
    obtain ⟨d, q, rfl⟩ : ∃ d q, x = ix2 d q := ⟨x 0, x 1, ValueIdx.eq_ix2 (n0 := 64) (n1 := 128) x⟩
    rw [grp7_at]
    exact heads_in K Q V B S 0#1 (y 0) (y 1) 0 7 1 (by decide) (by decide) (by decide) (by decide) d q h0 h1 _ _ _ _ _ _
  · rw [piece_0_6_1]
    obtain ⟨d, q, rfl⟩ : ∃ d q, x = ix2 d q := ⟨x 0, x 1, ValueIdx.eq_ix2 (n0 := 64) (n1 := 128) x⟩
    rw [grp6_at]
    exact heads_in K Q V B S 0#1 (y 0) (y 1) 0 6 1 (by decide) (by decide) (by decide) (by decide) d q h0 h1 _ _ _ _ _ _
  · rw [piece_0_5_1]
    obtain ⟨d, q, rfl⟩ : ∃ d q, x = ix2 d q := ⟨x 0, x 1, ValueIdx.eq_ix2 (n0 := 64) (n1 := 128) x⟩
    rw [grp5_at]
    exact heads_in K Q V B S 0#1 (y 0) (y 1) 0 5 1 (by decide) (by decide) (by decide) (by decide) d q h0 h1 _ _ _ _ _ _
  · rw [piece_0_4_1]
    obtain ⟨d, q, rfl⟩ : ∃ d q, x = ix2 d q := ⟨x 0, x 1, ValueIdx.eq_ix2 (n0 := 64) (n1 := 128) x⟩
    rw [grp4_at]
    exact heads_in K Q V B S 0#1 (y 0) (y 1) 0 4 1 (by decide) (by decide) (by decide) (by decide) d q h0 h1 _ _ _ _ _ _
  · rw [piece_0_3_1]
    obtain ⟨d, q, rfl⟩ : ∃ d q, x = ix2 d q := ⟨x 0, x 1, ValueIdx.eq_ix2 (n0 := 64) (n1 := 128) x⟩
    rw [grp3_at]
    exact heads_in K Q V B S 0#1 (y 0) (y 1) 0 3 1 (by decide) (by decide) (by decide) (by decide) d q h0 h1 _ _ _ _ _ _
  · rw [piece_0_2_1]
    obtain ⟨d, q, rfl⟩ : ∃ d q, x = ix2 d q := ⟨x 0, x 1, ValueIdx.eq_ix2 (n0 := 64) (n1 := 128) x⟩
    rw [grp2_at]
    exact heads_in K Q V B S 0#1 (y 0) (y 1) 0 2 1 (by decide) (by decide) (by decide) (by decide) d q h0 h1 _ _ _ _ _ _
  · rw [piece_0_1_1]
    obtain ⟨d, q, rfl⟩ : ∃ d q, x = ix2 d q := ⟨x 0, x 1, ValueIdx.eq_ix2 (n0 := 64) (n1 := 128) x⟩
    rw [grp1_at]
    exact heads_in K Q V B S 0#1 (y 0) (y 1) 0 1 1 (by decide) (by decide) (by decide) (by decide) d q h0 h1 _ _ _ _ _ _
  · rw [piece_0_0_1]
    obtain ⟨d, q, rfl⟩ : ∃ d q, x = ix2 d q := ⟨x 0, x 1, ValueIdx.eq_ix2 (n0 := 64) (n1 := 128) x⟩
    rw [grp0_at]
    exact heads_in K Q V B S 0#1 (y 0) (y 1) 0 0 1 (by decide) (by decide) (by decide) (by decide) d q (h0.trans (Nat.zero_add _).symm) h1 _ _ _ _ _ _
  · rw [piece_1_7_0]
    obtain ⟨d, q, rfl⟩ : ∃ d q, x = ix2 d q := ⟨x 0, x 1, ValueIdx.eq_ix2 (n0 := 64) (n1 := 128) x⟩
    rw [grp7_at]
    exact heads_first K Q V B S 0#1 (y 0) (y 1) 1 7 (by decide) (by decide) d q h0 (h1.trans (Nat.zero_add _).symm) _ _ _ _ _ _
  · rw [piece_1_6_0]
    obtain ⟨d, q, rfl⟩ : ∃ d q, x = ix2 d q := ⟨x 0, x 1, ValueIdx.eq_ix2 (n0 := 64) (n1 := 128) x⟩
    rw [grp6_at]
    exact heads_first K Q V B S 0#1 (y 0) (y 1) 1 6 (by decide) (by decide) d q h0 (h1.trans (Nat.zero_add _).symm) _ _ _ _ _ _
  · rw [piece_1_5_0]
    obtain ⟨d, q, rfl⟩ : ∃ d q, x = ix2 d q := ⟨x 0, x 1, ValueIdx.eq_ix2 (n0 := 64) (n1 := 128) x⟩
    rw [grp5_at]
    exact heads_first K Q V B S 0#1 (y 0) (y 1) 1 5 (by decide) (by decide) d q h0 (h1.trans (Nat.zero_add _).symm) _ _ _ _ _ _
  · rw [piece_1_4_0]
    obtain ⟨d, q, rfl⟩ : ∃ d q, x = ix2 d q := ⟨x 0, x 1, ValueIdx.eq_ix2 (n0 := 64) (n1 := 128) x⟩
    rw [grp4_at]
    exact heads_first K Q V B S 0#1 (y 0) (y 1) 1 4 (by decide) (by decide) d q h0 (h1.trans (Nat.zero_add _).symm) _ _ _ _ _ _
  · rw [piece_1_3_0]
    obtain ⟨d, q, rfl⟩ : ∃ d q, x = ix2 d q := ⟨x 0, x 1, ValueIdx.eq_ix2 (n0 := 64) (n1 := 128) x⟩
    rw [grp3_at]
    exact heads_first K Q V B S 0#1 (y 0) (y 1) 1 3 (by decide) (by decide) d q h0 (h1.trans (Nat.zero_add _).symm) _ _ _ _ _ _
  · rw [piece_1_2_0]
    obtain ⟨d, q, rfl⟩ : ∃ d q, x = ix2 d q := ⟨x 0, x 1, ValueIdx.eq_ix2 (n0 := 64) (n1 := 128) x⟩
    rw [grp2_at]
    exact heads_first K Q V B S 0#1 (y 0) (y 1) 1 2 (by decide) (by decide) d q h0 (h1.trans (Nat.zero_add _).symm) _ _ _ _ _ _
  · rw [piece_1_1_0]
    obtain ⟨d, q, rfl⟩ : ∃ d q, x = ix2 d q := ⟨x 0, x 1, ValueIdx.eq_ix2 (n0 := 64) (n1 := 128) x⟩
    rw [grp1_at]
    exact heads_first K Q V B S 0#1 (y 0) (y 1) 1 1 (by decide) (by decide) d q h0 (h1.trans (Nat.zero_add _).symm) _ _ _ _ _ _
  · rw [piece_1_0_0]
    obtain ⟨d, q, rfl⟩ : ∃ d q, x = ix2 d q := ⟨x 0, x 1, ValueIdx.eq_ix2 (n0 := 64) (n1 := 128) x⟩
    rw [grp0_at]
    exact heads_first K Q V B S 0#1 (y 0) (y 1) 1 0 (by decide) (by decide) d q h0 (h1.trans (Nat.zero_add _).symm) _ _ _ _ _ _
  · rw [piece_0_7_0]
    obtain ⟨d, q, rfl⟩ : ∃ d q, x = ix2 d q := ⟨x 0, x 1, ValueIdx.eq_ix2 (n0 := 64) (n1 := 128) x⟩
    rw [grp7_at]
    exact heads_first K Q V B S 0#1 (y 0) (y 1) 0 7 (by decide) (by decide) d q h0 (h1.trans (Nat.zero_add _).symm) _ _ _ _ _ _
  · rw [piece_0_6_0]
    obtain ⟨d, q, rfl⟩ : ∃ d q, x = ix2 d q := ⟨x 0, x 1, ValueIdx.eq_ix2 (n0 := 64) (n1 := 128) x⟩
    rw [grp6_at]
    exact heads_first K Q V B S 0#1 (y 0) (y 1) 0 6 (by decide) (by decide) d q h0 (h1.trans (Nat.zero_add _).symm) _ _ _ _ _ _
  · rw [piece_0_5_0]
    obtain ⟨d, q, rfl⟩ : ∃ d q, x = ix2 d q := ⟨x 0, x 1, ValueIdx.eq_ix2 (n0 := 64) (n1 := 128) x⟩
    rw [grp5_at]
    exact heads_first K Q V B S 0#1 (y 0) (y 1) 0 5 (by decide) (by decide) d q h0 (h1.trans (Nat.zero_add _).symm) _ _ _ _ _ _
  · rw [piece_0_4_0]
    obtain ⟨d, q, rfl⟩ : ∃ d q, x = ix2 d q := ⟨x 0, x 1, ValueIdx.eq_ix2 (n0 := 64) (n1 := 128) x⟩
    rw [grp4_at]
    exact heads_first K Q V B S 0#1 (y 0) (y 1) 0 4 (by decide) (by decide) d q h0 (h1.trans (Nat.zero_add _).symm) _ _ _ _ _ _
  · rw [piece_0_3_0]
    obtain ⟨d, q, rfl⟩ : ∃ d q, x = ix2 d q := ⟨x 0, x 1, ValueIdx.eq_ix2 (n0 := 64) (n1 := 128) x⟩
    rw [grp3_at]
    exact heads_first K Q V B S 0#1 (y 0) (y 1) 0 3 (by decide) (by decide) d q h0 (h1.trans (Nat.zero_add _).symm) _ _ _ _ _ _
  · rw [piece_0_2_0]
    obtain ⟨d, q, rfl⟩ : ∃ d q, x = ix2 d q := ⟨x 0, x 1, ValueIdx.eq_ix2 (n0 := 64) (n1 := 128) x⟩
    rw [grp2_at]
    exact heads_first K Q V B S 0#1 (y 0) (y 1) 0 2 (by decide) (by decide) d q h0 (h1.trans (Nat.zero_add _).symm) _ _ _ _ _ _
  · rw [piece_0_1_0]
    obtain ⟨d, q, rfl⟩ : ∃ d q, x = ix2 d q := ⟨x 0, x 1, ValueIdx.eq_ix2 (n0 := 64) (n1 := 128) x⟩
    rw [grp1_at]
    exact heads_first K Q V B S 0#1 (y 0) (y 1) 0 1 (by decide) (by decide) d q h0 (h1.trans (Nat.zero_add _).symm) _ _ _ _ _ _
  · rw [piece_0_0_0]
    obtain ⟨d, q, rfl⟩ : ∃ d q, x = ix2 d q := ⟨x 0, x 1, ValueIdx.eq_ix2 (n0 := 64) (n1 := 128) x⟩
    rw [grp0_at]
    exact heads_first K Q V B S 0#1 (y 0) (y 1) 0 0 (by decide) (by decide) d q (h0.trans (Nat.zero_add _).symm) (h1.trans (Nat.zero_add _).symm) _ _ _ _ _ _

end Cert.AttnValue

end
-- ==== Proof.AttnValue.lean ====
/- What the attention kernel leaves in its result array, as one function of the arguments. -/
module

public import proofs.«01_k».proof.Proof.AttnKeys
public import proofs.«01_k».proof.Proof.AttnTileA
public import proofs.«01_k».proof.Proof.AttnTileB

@[expose] public section

set_option maxRecDepth 16384

noncomputable section

namespace Cert.AttnMath

open Idealize.ShloMosaic Idealize.ShloMosaic.TcCoe Idealize.SL.Sem
open Cert.AttnIdeal Cert.AttnValue

/-- Position `s` of block `n`'s band in sequence `b`: the entry 128 tokens before its place, zero before the sequence. -/
def band (F : Fin 16384 → Fin 2 → Fin 64 → EReal) (b : Fin 2) (n : Fin 64) (s : Fin 256) (g : Fin 2) (d : Fin 64) : EReal :=
  if 128 ≤ n.val * 128 + s.val then F ⟨b.val * 8192 + (n.val * 128 + s.val - 128), by omega⟩ g d else 0

/-- A head's output entry for the query at place `q` of block `n` in sequence `b`. -/
def headK (Kf Vf : Fin 16384 → Fin 2 → Fin 64 → EReal) (Qf : Fin 16384 → Fin 16 → Fin 64 → EReal) (B : S2x256x1024.Idx → EReal) (S : S16.Idx → EReal)
    (b : Fin 2) (n : Fin 64) (q : Fin 128) (h : Fin 16) (d : Fin 64) : EReal :=
  att (fun s => sc (if q.val < s.val ∧ s.val ≤ q.val + 128 ∧ 128 ≤ n.val * 128 + s.val then 1#1 else 0#1)
      (∑ e : Fin 64, band Kf b n s ⟨h.val / 8, by omega⟩ e * Qf ⟨b.val * 8192 + (n.val * 128 + q.val), by omega⟩ h e)
      (B (ix3 ⟨h.val / 8, by omega⟩ s ⟨h.val % 8 * 128 + q.val, by omega⟩)))
    (fun s => band Vf b n s ⟨h.val / 8, by omega⟩ d) (S (ix1 h))

/-- A tile's heads are those of its tokens, when its scratches hold the tokens' keys, values and queries. -/
theorem heads_tok (K : S640x128.Idx → EReal) (Q : S1024x512.Idx → EReal) (V : S128x640.Idx → EReal) (B B' : S2x256x1024.Idx → EReal) (S S' : S16.Idx → EReal)
    (c : BitVec 1) (Kf Vf : Fin 16384 → Fin 2 → Fin 64 → EReal) (Qf : Fin 16384 → Fin 16 → Fin 64 → EReal) (t : ℕ) (lt : t < 32)
    (cE : c = if t % 16 = 0 then 1#1 else 0#1)
    (eK : ∀ (p : Fin 640) (g : Fin 2) (d : Fin 64), K (ix2 p ⟨g.val * 64 + d.val, by omega⟩)
      = if t % 16 = 0 → 128 ≤ p.val then Kf ⟨t * 512 + p.val - 128, by omega⟩ g d else 0)
    (eV : ∀ (p : Fin 640) (g : Fin 2) (d : Fin 64), V (ix2 ⟨g.val * 64 + d.val, by omega⟩ p)
      = if t % 16 = 0 → 128 ≤ p.val then Vf ⟨t * 512 + p.val - 128, by omega⟩ g d else 0)
    (eQ : ∀ (i : Fin 512) (h : Fin 16) (d : Fin 64), Q (ix2 ⟨h.val * 64 + d.val, by omega⟩ i) = Qf ⟨t * 512 + i.val, by omega⟩ h d)
    (eB : ∀ g s q, B (ix3 g s q) = B' (ix3 g s q)) (eS : ∀ h, S (ix1 h) = S' (ix1 h))
    (b : Fin 2) (n : Fin 64) (q : Fin 128) (h : Fin 16) (d : Fin 64) (r : Fin 1024) (i : Fin 512) (er : r.val = h.val * 64 + d.val)
    (eb : b.val = t / 16) (en : n.val = t % 16 * 4 + i.val / 128) (eq : q.val = i.val % 128) :
    heads K Q V B S c r i = headK Kf Vf Qf B' S' b n q h d := by
  have r1 : r.val / 512 = h.val / 8 := by omega
  have r2 : r.val / 64 = h.val := by omega
  have r3 : r.val % 64 = d.val := by omega
  have kB : ∀ (s : Fin 256) (e : Fin 64), K (ix2 ⟨i.val / 128 * 128 + s.val, by omega⟩ ⟨h.val / 8 * 64 + e.val, by omega⟩) = band Kf b n s ⟨h.val / 8, by omega⟩ e := by
    intro s e
    rw [eK ⟨i.val / 128 * 128 + s.val, by omega⟩ ⟨h.val / 8, by omega⟩ e]
    unfold band
    by_cases u : 128 ≤ n.val * 128 + s.val
    · rw [if_pos u, if_pos (fun _ => by show 128 ≤ i.val / 128 * 128 + s.val; omega)]
      exact congrArg (Kf · _ _) (Fin.ext (by show t * 512 + (i.val / 128 * 128 + s.val) - 128 = b.val * 8192 + (n.val * 128 + s.val - 128); omega))
    · have a : t % 16 = 0 := by omega
      rw [if_neg u, if_neg (fun f => by have := f a; change 128 ≤ i.val / 128 * 128 + s.val at this; omega)]
  have vB : ∀ (s : Fin 256), V (ix2 ⟨h.val / 8 * 64 + d.val, by omega⟩ ⟨i.val / 128 * 128 + s.val, by omega⟩) = band Vf b n s ⟨h.val / 8, by omega⟩ d := by
    intro s
    rw [eV ⟨i.val / 128 * 128 + s.val, by omega⟩ ⟨h.val / 8, by omega⟩ d]
    unfold band
    by_cases u : 128 ≤ n.val * 128 + s.val
    · rw [if_pos u, if_pos (fun _ => by show 128 ≤ i.val / 128 * 128 + s.val; omega)]
      exact congrArg (Vf · _ _) (Fin.ext (by show t * 512 + (i.val / 128 * 128 + s.val) - 128 = b.val * 8192 + (n.val * 128 + s.val - 128); omega))
    · have a : t % 16 = 0 := by omega
      rw [if_neg u, if_neg (fun f => by have := f a; change 128 ≤ i.val / 128 * 128 + s.val at this; omega)]
  have qB : ∀ e : Fin 64, Q (ix2 ⟨h.val * 64 + e.val, by omega⟩ i) = Qf ⟨b.val * 8192 + (n.val * 128 + q.val), by omega⟩ h e := by
    intro e
    rw [eQ i h e]
    exact congrArg (Qf · _ _) (Fin.ext (by show t * 512 + i.val = b.val * 8192 + (n.val * 128 + q.val); omega))
  have mB : ∀ s : Fin 256, (if i.val % 128 < s.val ∧ s.val ≤ i.val % 128 + 128 ∧ (i.val < 128 → c = 1#1 → 128 ≤ s.val) then 1#1 else 0#1 : BitVec 1)
      = if q.val < s.val ∧ s.val ≤ q.val + 128 ∧ 128 ≤ n.val * 128 + s.val then 1#1 else 0#1 := by
    intro s
    have w : (i.val < 128 → c = 1#1 → 128 ≤ s.val) ↔ 128 ≤ n.val * 128 + s.val := by
      subst cE
      by_cases a : t % 16 = 0
      · rw [if_pos a]
        constructor
        · intro f
          by_cases l : i.val < 128
          · have := f l rfl
            omega
          · omega
        · intro f l _
          omega
      · rw [if_neg a]
        exact ⟨fun _ => by omega, fun _ _ x => absurd x (by decide)⟩
    simp only [w, eq]
  unfold heads headK
  simp only [r1, r2, r3, kB, vB, qB, mB, eB, eS, eq]

variable (X : FVec Ideal S16384x1024 .f32) (G : FVec Ideal S1024 .f32) (W : FVec Ideal S1024x1280 .f32) (Bq : FVec Ideal S1280 .f32)
  (qg kg : FVec Ideal S64 .f32) (S : FVec Ideal S16 .f32) (Wo : FVec Ideal S1024x1024 .f32) (Bo : FVec Ideal S1024 .f32) (B : FVec Ideal S2x256x1024 .f32)

/-- The attention of whole arrays at token `q` of block `n` of sequence `b`, as the kernel computes it. -/
def attnK (b : Fin 2) (n : Fin 64) (q : Fin 128) (f : Fin 1024) : EReal :=
  X (ix2 ⟨b.val * 8192 + (n.val * 128 + q.val), by omega⟩ f)
    + (∑ r : Fin 1024, Wo (ix2 r f) * headK (kk X G W Bq qg kg) (vv X G W Bq) (qn X G W Bq) B S b n q ⟨r.val / 64, by omega⟩ ⟨r.val % 64, by omega⟩)
    + Bo (ix1 f)

/-- The kernel's result as one array. -/
def attnG : FVec Ideal S16384x1024 .f32 := fun j =>
  attnK X G W Bq qg kg S Wo Bo B ⟨(j 0).val / 8192, by have : (j 0).val < 16384 := (j 0).isLt; omega⟩ ⟨(j 0).val % 8192 / 128, by omega⟩
    ⟨(j 0).val % 128, by omega⟩ (j 1)

end Cert.AttnMath

namespace Cert.AttnValue

open Idealize.ShloMosaic Idealize.ShloMosaic.TcCoe Idealize.SL.Sem
open Idealize.ShloMosaic.Pipeline (Dat)
open Cert.AttnIdeal Cert.AttnIdeal.Gen Cert.AttnMath

variable (m : (ℓ : Loc nD τ sig) → Buf (Elt Ideal) ℓ)

/-- The kernel's result out of a device's arguments. -/
abbrev attnM (c : Dev nD) : FVec Ideal S16384x1024 .f32 :=
  attnG (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- A tile's output is the result's at its tokens, when its keys and values are its tokens'. -/
theorem tile_tok (c : Dev nD) (t : Fin cfg0.N) (K : S640x128.Idx → EReal) (V : S128x640.Idx → EReal) (w : BitVec 1)
    (wE : w = if t.val % 16 = 0 then 1#1 else 0#1)
    (eK : ∀ (p : Fin 640) (g : Fin 2) (d : Fin 64), K (ix2 p ⟨g.val * 64 + d.val, by omega⟩) = if t.val % 16 = 0 → 128 ≤ p.val then kkM m c (back t p) g d else 0)
    (eV : ∀ (p : Fin 640) (g : Fin 2) (d : Fin 64), V (ix2 ⟨g.val * 64 + d.val, by omega⟩ p) = if t.val % 16 = 0 → 128 ≤ p.val then vvM m c (back t p) g d else 0)
    (i : Fin 512) (f : Fin 1024) :
    tileOut (iblk m c 0 t) (iblk m c 7 t) (iblk m c 8 t) K (View.canon (qPieces (iblk m c 0 t) (iblk m c 1 t) (iblk m c 2 t) (iblk m c 3 t))) V
      (iblk m c 5 t) (iblk m c 6 t) w i f = attnM m c (ix2 (tok t i) f) := by
  have lt : t.val < 32 := t.isLt
  have eq : ∀ r : Fin 1024, heads K (View.canon (qPieces (iblk m c 0 t) (iblk m c 1 t) (iblk m c 2 t) (iblk m c 3 t))) V (iblk m c 5 t) (iblk m c 6 t) w r i
      = headK (kkM m c) (vvM m c) (qnM m c) (m ((c : Thread nD τ).loc main_arg9)) (m ((c : Thread nD τ).loc main_arg6))
          ⟨(tok t i).val / 8192, by omega⟩ ⟨(tok t i).val % 8192 / 128, by omega⟩ ⟨(tok t i).val % 128, by omega⟩ ⟨r.val / 64, by omega⟩ ⟨r.val % 64, by omega⟩ := by
    intro r
    refine heads_tok K _ V _ (m ((c : Thread nD τ).loc main_arg9)) _ (m ((c : Thread nD τ).loc main_arg6)) w _ _ _ t.val lt wE eK eV
      (fun i h d => queries_at m c t h d _ rfl i) (bias_at m c t) (sink_at m c t) _ _ _ _ _ r i ?_ ?_ ?_ ?_
    · show r.val = r.val / 64 * 64 + r.val % 64
      omega
    · show (t.val * 512 + i.val) / 8192 = t.val / 16
      omega
    · show (t.val * 512 + i.val) % 8192 / 128 = t.val % 16 * 4 + i.val / 128
      omega
    · show (t.val * 512 + i.val) % 128 = i.val % 128
      omega
  unfold tileOut
  simp only [eq, x_at, wo_at, bo_at]
  unfold attnM attnG attnK
  refine congrArg (· + _ + _) (congrArg (fun r => m ((c : Thread nD τ).loc main_arg0) (ix2 r f)) (Fin.ext ?_))
  show t.val * 512 + i.val = (t.val * 512 + i.val) / 8192 * 8192 + ((t.val * 512 + i.val) % 8192 / 128 * 128 + (t.val * 512 + i.val) % 128)
  omega

/-- A tile's output is the result's at its tokens. -/
theorem tile (c : Dev nD) (t : Fin cfg0.N) (y : S512x1024.Idx) : (outsAt0 m c t.val t.isLt).1 y = attnM m c (ix2 (tok t (y 0)) (y 1)) := by
  by_cases t0 : t.val % 16 = 0
  · rw [tileA m c t t0]
    refine tile_tok m c t _ _ 1#1 (if_pos t0).symm (fun p g d => ?_) (fun p g d => ?_) (y 0) (y 1)
    · rw [keys_first m c t p g d _ rfl]
      exact if_congr ⟨fun a _ => a, fun a => a t0⟩ rfl rfl
    · rw [values_first m c t p g d _ rfl]
      exact if_congr ⟨fun a _ => a, fun a => a t0⟩ rfl rfl
  · rw [tileB m c t t0]
    refine tile_tok m c t _ _ 0#1 (if_neg t0).symm (fun p g d => ?_) (fun p g d => ?_) (y 0) (y 1)
    · rw [keys_next m c t t0 p g d _ rfl, if_pos (fun a => absurd a t0)]
    · rw [values_next m c t t0 p g d _ rfl, if_pos (fun a => absurd a t0)]

/-- What the kernel leaves in the result array. -/
theorem final (c : Dev nD) : (dats m 0 c).arrAt 9 (cfgs 0).N = attnM m c := by
  refine (dats m 0 c).arrAt_eq_of_covers 9 _ (by decide +kernel) fun t _ y => ?_
  blk_simp
  rw [after0_9, tile]
  generalize attnM m c = Y
  idx_vars y
  blk_point [idx t]

end Cert.AttnValue

end
-- ==== Proof.AttnRef.lean ====
/- The attention reference from its scores on, read at an index. -/
module

public import proofs.«01_k».proof.Proof.AttnRefProj
public import proofs.«01_k».proof.Proof.AttnHead
public import Idealize.ShloMosaic.Lib.ValueIdxRank6

@[expose] public section

set_option maxRecDepth 16384

noncomputable section

namespace Cert.AttnMath

open Idealize.ShloMosaic Idealize.ShloMosaic.TcCoe Idealize.SL.Sem

/-- The largest of a row of scores. -/
def topR (z : Fin 257 → EReal) : EReal :=
  max (Ideal.ofBits .f32 0xFF800000#32) (Finset.univ.fold max (Ideal.ofBits .f32 0xFF800000#32) z)

/-- A maximum over the entries that drop to one index, when those are one row. -/
theorem reduce_fiber {s t u : Shape} {axes : List (Fin s.rank)} {κ : Type} [Fintype κ] (x : FVec Ideal s .f32) (init : FVec Ideal u .f32)
    (h : s.ReducesTo axes t) (hu : 0 < u.numel) (row : κ → s.Idx) (inj : Function.Injective row) (j : t.Idx)
    (fiber : ∀ i, h.drop i = j ↔ ∃ k, row k = i) :
    Host.reduce (FloatOps.maximumf (F := Ideal) (φ := .f32)) x init h hu j
      = (Finset.univ : Finset κ).fold max (init (Shape.Idx.first hu)) (fun k => x (row k)) :=
  (Host.reduce_eq_fold (max : EReal → EReal → EReal) x init h hu j).trans (Finset.fold_filter_eq_fold_of_fiber max _ row inj fiber _ x)

/-- The softmax of a row of scores, its last entry the sink's, applied to the values. -/
def attR (z : Fin 257 → EReal) (v : Fin 256 → EReal) : EReal :=
  ∑ s : Fin 256, v s * Ideal.div (Ideal.exp (z ⟨s.val, by omega⟩ - topR z)) (∑ k, Ideal.exp (z k - topR z))

end Cert.AttnMath

namespace Cert.AttnRefIdeal.Read

open Cert.AttnRefIdeal Cert.AttnRefIdeal.Gen Idealize.ShloMosaic Idealize.ShloMosaic.TcCoe Idealize.SL.Sem Cert.AttnMath Cert.AttnValue

variable (x0 : FVec Ideal S16384x1024 .f32) (x1 : FVec Ideal S1024 .f32) (x2 : FVec Ideal S1024x1280 .f32)
  (x3 : FVec Ideal S1280 .f32) (x4 x5 : FVec Ideal S64 .f32) (x6 : FVec Ideal S16 .f32) (x7 : FVec Ideal S1024x1024 .f32)
  (x8 : FVec Ideal S1024 .f32) (x9 : FVec Ideal S2x256x1024 .f32)

/-- The queries by block. -/
theorem qblock_at (b : Fin 2) (n : Fin 64) (q : Fin 128) (g : Fin 2) (h : Fin 8) (d : Fin 64) :
    val_main_v49 (F := Ideal) x0 x1 x2 x3 x4 (ix6 b n q g h d)
      = val_main_v35 (F := Ideal) x0 x1 x2 x3 x4 (ix4 b ⟨n.val * 128 + q.val, by omega⟩ ⟨g.val * 8 + h.val, by omega⟩ d) := by
  pointwise [val_main_v49]

/-- A raw score. -/
theorem dot_at (b : Fin 2) (n : Fin 64) (g : Fin 2) (h : Fin 8) (q : Fin 128) (s : Fin 256) :
    val_main_v83 (F := Ideal) x0 x1 x2 x3 x4 x5 (ix6 b n g h q s)
      = ∑ d, val_main_v54 (F := Ideal) x0 x1 x2 x3 x5 (ix5 b n s g d) * val_main_v49 (F := Ideal) x0 x1 x2 x3 x4 (ix6 b n q g h d) := by
  pointwise [val_main_v83, val_main_v82]

/-- A masked score. -/
theorem score_at (b : Fin 2) (n : Fin 64) (g : Fin 2) (h : Fin 8) (q : Fin 128) (s : Fin 256) :
    val_main_v90 (F := Ideal) x0 x1 x2 x3 x4 x5 x9 (ix6 b n g h q s)
      = sc (val_main_v79 (F := Ideal) (ix3 n q s)) (val_main_v83 (F := Ideal) x0 x1 x2 x3 x4 x5 (ix6 b n g h q s) * Ideal.ofBits .f32 0x3E000000#32)
          (x9 (ix3 g s ⟨h.val * 128 + q.val, by omega⟩)) := by
  pointwise [val_main_v90, val_main_v89, val_main_v88, val_main_v87, val_main_v86, val_main_v85, val_main_v84, val_main_v81, val_main_v80, val_main_cst_15, val_main_cst_16, val_main_call2_v0, val_main_call2_v1, val_main_call2_v2, sc]
  rfl

/-- The scores and the sink. -/
theorem row_at (b : Fin 2) (n : Fin 64) (g : Fin 2) (h : Fin 8) (q : Fin 128) (k : Fin 257) :
    val_main_v93 (F := Ideal) x0 x1 x2 x3 x4 x5 x6 x9 (ix6 b n g h q k)
      = if u : k.val < 256 then val_main_v90 (F := Ideal) x0 x1 x2 x3 x4 x5 x9 (ix6 b n g h q ⟨k.val, u⟩) else x6 (ix1 ⟨g.val * 8 + h.val, by omega⟩) := by
  pointwise [val_main_v93, val_main_v92, val_main_v91]

/-- The entries a query's reduction meets: its own row. -/
theorem fiber_at (b : Fin 2) (n : Fin 64) (g : Fin 2) (h : Fin 8) (q : Fin 128) (i : S2x64x2x8x128x257.Idx) :
    reducesTo_S2x64x2x8x128x257_S2x64x2x8x128_d5.drop i = ix5 b n g h q ↔ ∃ k : Fin 257, ix6 b n g h q k = i := by
  constructor
  · intro e
    refine ⟨i 5, ?_⟩
    funext a
    match a with
    | ⟨0, _⟩ => exact (congrFun e 0).symm
    | ⟨1, _⟩ => exact (congrFun e 1).symm
    | ⟨2, _⟩ => exact (congrFun e 2).symm
    | ⟨3, _⟩ => exact (congrFun e 3).symm
    | ⟨4, _⟩ => exact (congrFun e 4).symm
    | ⟨5, _⟩ => rfl
  · rintro ⟨k, rfl⟩
    funext a
    match a with
    | ⟨0, _⟩ => rfl
    | ⟨1, _⟩ => rfl
    | ⟨2, _⟩ => rfl
    | ⟨3, _⟩ => rfl
    | ⟨4, _⟩ => rfl

/-- A query's largest score, the sink's included. -/
theorem top_at (b : Fin 2) (n : Fin 64) (g : Fin 2) (h : Fin 8) (q : Fin 128) :
    val_main_v96 (F := Ideal) x0 x1 x2 x3 x4 x5 x6 x9 (ix5 b n g h q)
      = topR (fun k => val_main_v93 (F := Ideal) x0 x1 x2 x3 x4 x5 x6 x9 (ix6 b n g h q k)) := by
  rw [val_main_v96_apply, val_main_v95_apply]
  unfold val_main_v94 topR
  exact congrArg (max (Ideal.ofBits .f32 0xFF800000#32)) (reduce_fiber _ _ _ _ (fun k : Fin 257 => ix6 b n g h q k)
    (fun _ _ e => congrFun e 5) _ (fiber_at b n g h q))

/-- A weight before its division. -/
theorem exp_at (b : Fin 2) (n : Fin 64) (g : Fin 2) (h : Fin 8) (q : Fin 128) (k : Fin 257) :
    val_main_v100 (F := Ideal) x0 x1 x2 x3 x4 x5 x6 x9 (ix6 b n g h q k)
      = Ideal.exp (val_main_v93 (F := Ideal) x0 x1 x2 x3 x4 x5 x6 x9 (ix6 b n g h q k) - val_main_v96 (F := Ideal) x0 x1 x2 x3 x4 x5 x6 x9 (ix5 b n g h q)) := by
  pointwise [val_main_v100, val_main_v99, val_main_v98, val_main_v97]

/-- The sum of the weights. -/
theorem sum_at (b : Fin 2) (n : Fin 64) (g : Fin 2) (h : Fin 8) (q : Fin 128) :
    val_main_v101 (F := Ideal) x0 x1 x2 x3 x4 x5 x6 x9 (ix5 b n g h q)
      = ∑ k : Fin 257, val_main_v100 (F := Ideal) x0 x1 x2 x3 x4 x5 x6 x9 (ix6 b n g h q k) := by
  rw [val_main_v101_apply]
  generalize val_main_v100 (F := Ideal) x0 x1 x2 x3 x4 x5 x6 x9 = z
  refine Eq.trans (congrArg₂ (· + ·) (show val_main_cst_19 (F := Ideal) (Shape.Idx.first h_S_) = 0 from ?_) (Finset.sum_congr rfl fun k _ => congrArg z ?_)) (zero_add _)
  · pointwise [val_main_cst_19]
  · funext a
    match a with
    | ⟨0, _⟩ => rfl
    | ⟨1, _⟩ => rfl
    | ⟨2, _⟩ => rfl
    | ⟨3, _⟩ => rfl
    | ⟨4, _⟩ => rfl
    | ⟨5, _⟩ => rfl

/-- A weight. -/
theorem weight_at (b : Fin 2) (n : Fin 64) (g : Fin 2) (h : Fin 8) (q : Fin 128) (s : Fin 256) :
    val_main_v105 (F := Ideal) x0 x1 x2 x3 x4 x5 x6 x9 (ix6 b n g h q s)
      = Ideal.div (val_main_v100 (F := Ideal) x0 x1 x2 x3 x4 x5 x6 x9 (ix6 b n g h q ⟨s.val, by omega⟩)) (val_main_v101 (F := Ideal) x0 x1 x2 x3 x4 x5 x6 x9 (ix5 b n g h q)) := by
  pointwise [val_main_v105, val_main_v104, val_main_v103, val_main_v102]

/-- A head's output. -/
theorem head_at (b : Fin 2) (n : Fin 64) (q : Fin 128) (g : Fin 2) (h : Fin 8) (d : Fin 64) :
    val_main_v107 (F := Ideal) x0 x1 x2 x3 x4 x5 x6 x9 (ix6 b n q g h d)
      = attR (fun k => val_main_v93 (F := Ideal) x0 x1 x2 x3 x4 x5 x6 x9 (ix6 b n g h q k)) (fun s => val_main_v59 (F := Ideal) x0 x1 x2 x3 (ix5 b n s g d)) := by
  pointwise [val_main_v107, val_main_v106]
  simp only [weight_at, sum_at, exp_at, top_at]
  rfl

/-- The heads' outputs of one token in one row. -/
theorem heads_at (r : Fin 16384) (c : Fin 1024) :
    val_main_v108 (F := Ideal) x0 x1 x2 x3 x4 x5 x6 x9 (ix2 r c)
      = val_main_v107 (F := Ideal) x0 x1 x2 x3 x4 x5 x6 x9 (ix6 ⟨r.val / 8192, by omega⟩ ⟨r.val % 8192 / 128, by omega⟩ ⟨r.val % 128, by omega⟩
          ⟨c.val / 512, by omega⟩ ⟨c.val / 64 % 8, by omega⟩ ⟨c.val % 64, by omega⟩) := by
  pointwise [val_main_v108]
  have e : (⟨r.val / 128 % 64, by omega⟩ : Fin 64) = ⟨r.val % 8192 / 128, by omega⟩ := Fin.ext (by show r.val / 128 % 64 = r.val % 8192 / 128; omega)
  rw [e]

/-- The reference's result. -/
theorem result_at (r : Fin 16384) (f : Fin 1024) :
    val_main_v113 (F := Ideal) x0 x1 x2 x3 x4 x5 x6 x7 x8 x9 (ix2 r f)
      = x0 (ix2 r f) + ((∑ c, val_main_v108 (F := Ideal) x0 x1 x2 x3 x4 x5 x6 x9 (ix2 r c) * x7 (ix2 c f)) + x8 (ix1 f)) := by
  pointwise [val_main_v113, val_main_v112, val_main_v111, val_main_v110, val_main_v109]

end Cert.AttnRefIdeal.Read

end
-- ==== Proof.AttnSoftmax.lean ====
/- The softmax with a sink, normalised after or before the values are summed, and the range of the scores. -/
module

public import proofs.«01_k».proof.Proof.AttnRef
public import Idealize.ShloMosaic.Lib.IdealHost

@[expose] public section

set_option maxRecDepth 16384

noncomputable section

namespace Cert.AttnMath

open Idealize.ShloMosaic Idealize.ShloMosaic.TcCoe Idealize.SL.Sem Cert.AttnValue

/-- A factor neither negative nor infinite leaves a sum. -/
theorem sum_mul_out {ι : Type} (s : Finset ι) (f : ι → EReal) {r : EReal} (h0 : 0 ≤ r) (ht : r ≠ ⊤) : ∑ i ∈ s, f i * r = (∑ i ∈ s, f i) * r := by
  classical
  induction s using Finset.induction_on with
  | empty => simp
  | insert a s ha ih => rw [Finset.sum_insert ha, Finset.sum_insert ha, ih, EReal.right_distrib_of_nonneg_of_ne_top h0 ht]

/-- The word of one eighth is neither negative nor infinite. -/
theorem eighth : (0 : EReal) ≤ Ideal.ofBits .f32 0x3E000000#32 ∧ Ideal.ofBits .f32 0x3E000000#32 ≠ ⊤ := by
  have e : Ideal.ofBits .f32 0x3E000000#32 = (((1 : ℝ) / 8 : ℝ) : EReal) := by
    simp [Ideal.ofBits, Ideal.ieee]
    norm_cast
    norm_num
  rw [e]
  exact ⟨EReal.coe_nonneg.2 (by norm_num), EReal.coe_ne_top _⟩

/-- The word of 64 is that number. -/
theorem head64 : Ideal.ofBits .f32 0x42800000#32 = ((64 : ℝ) : EReal) := by
  simp [Ideal.ofBits, Ideal.ieee]
  norm_cast
  norm_num

/-- The small word under the root is a positive real. -/
theorem small : ∃ e : ℝ, 0 < e ∧ Ideal.ofBits .f32 0x358637BD#32 = (e : EReal) := by
  refine ⟨(2 ^ 23 + 407485 : Nat) * (2 : ℝ) ^ ((107 : Int) - 127 - 23), by positivity, ?_⟩
  simp [Ideal.ofBits, Ideal.ieee]

/-- The masked score's word is a real. -/
theorem masked : ∃ e : ℝ, Ideal.ofBits .f32 0xF149F2CA#32 = (e : EReal) := by
  refine ⟨(-1) * (2 ^ 23 + 4846282 : Nat) * (2 : ℝ) ^ ((226 : Int) - 127 - 23), ?_⟩
  simp [Ideal.ofBits, Ideal.ieee]

/-- The largest of the scores and the sink, taken at once or the sink last. -/
theorem top_eq (z : Fin 257 → EReal) : topR z = mx (fun s => z ⟨s.val, by omega⟩) (z ⟨256, by omega⟩) := by
  refine eq_of_forall_ge_iff fun c => ?_
  unfold topR mx
  simp only [max_le_iff, Finset.fold_max_le, Finset.mem_univ, true_imp_iff]
  constructor
  · rintro ⟨a, _, b⟩
    exact ⟨⟨a, fun s => b _⟩, b _⟩
  · rintro ⟨⟨a, b⟩, d⟩
    refine ⟨a, a, fun k => ?_⟩
    by_cases u : k.val < 256
    · exact b ⟨k.val, u⟩
    · have e : k = ⟨256, by omega⟩ := Fin.ext (by show k.val = 256; omega)
      rw [e]
      exact d

/-- Every entry is at most the largest. -/
theorem le_topR (z : Fin 257 → EReal) (k : Fin 257) : z k ≤ topR z :=
  le_max_of_le_right ((Finset.le_fold_max _).2 (Or.inr ⟨k, Finset.mem_univ k, le_refl _⟩))

/-- Entries under infinity have their largest under infinity. -/
theorem topR_ne_top (z : Fin 257 → EReal) (h : ∀ k, z k ≠ ⊤) : topR z ≠ ⊤ := by
  have b : Ideal.ofBits .f32 0xFF800000#32 < ⊤ := by simp [Ideal.ofBits, Ideal.ieee]
  exact (max_lt b ((Finset.fold_max_lt _).2 ⟨b, fun k _ => lt_top_iff_ne_top.2 (h k)⟩)).ne

/-- An exponential is never negative. -/
theorem exp_nonneg (x : EReal) : 0 ≤ Ideal.exp x := by
  induction x using EReal.rec with
  | bot => simp
  | top => simp
  | coe r => rw [Ideal.exp_coe]; exact EReal.coe_nonneg.2 (Real.exp_pos r).le

/-- The softmax of the reference is the kernel's, when no score is plus infinity and one score is a real. -/
theorem attR_eq (z : Fin 257 → EReal) (v : Fin 256 → EReal) (h : ∀ k, z k ≠ ⊤) (k0 : Fin 257) (e : ℝ) (h0 : z k0 = e) :
    attR z v = att (fun s => z ⟨s.val, by omega⟩) v (z ⟨256, by omega⟩) := by
  have ht := topR_ne_top z h
  have hb : topR z ≠ ⊥ := fun u => by
    have := le_topR z k0
    rw [u, h0] at this
    exact absurd this (not_le.2 (EReal.bot_lt_coe e))
  obtain ⟨M, hM⟩ : ∃ M : ℝ, topR z = M := ⟨(topR z).toReal, (EReal.coe_toReal ht hb).symm⟩
  have sum : ∑ k, Ideal.exp (z k - topR z) = (∑ i : Fin 256, Ideal.exp (z ⟨i.val, by omega⟩ - topR z)) + Ideal.exp (z ⟨256, by omega⟩ - topR z) :=
    Fin.sum_univ_castSucc (n := 256) fun k : Fin 257 => Ideal.exp (z k - topR z)
  have pos : 0 < ∑ k, Ideal.exp (z k - topR z) := by
    refine lt_of_lt_of_le ?_ (Finset.single_le_sum (fun k _ => exp_nonneg _) (Finset.mem_univ k0))
    rw [h0, hM, ← EReal.coe_sub, Ideal.exp_coe]
    exact EReal.coe_pos.2 (Real.exp_pos _)
  unfold attR att
  rw [← top_eq z, ← sum]
  generalize ∑ k, Ideal.exp (z k - topR z) = D at pos
  have d : ∀ x : EReal, Ideal.div x D = x * D⁻¹ := fun x => if_neg pos.ne'
  rw [Ideal.ofBits_one_f32, d 1, one_mul, ← sum_mul_out _ _ (EReal.inv_nonneg_of_nonneg pos.le) (EReal.inv_lt_top D).ne]
  refine Finset.sum_congr rfl fun s _ => ?_
  rw [d, mul_assoc]

/-- A product of an extended real with itself is not negative. -/
theorem sq_nonneg' (x : EReal) : 0 ≤ x * x := by
  induction x using EReal.rec with
  | bot => simp
  | top => simp
  | coe r => rw [← EReal.coe_mul]; exact EReal.coe_nonneg.2 (mul_self_nonneg r)

/-- An entry over the root of its head's mean square is a real, whatever the head holds. -/
theorem headn_real (p : Fin 64 → EReal) (d : Fin 64) : ∃ r : ℝ, headn p d = r := by
  obtain ⟨e, he, w⟩ := small
  have n0 : ∀ s : Finset (Fin 64), 0 ≤ ∑ l ∈ s, p l * p l := fun s => Finset.sum_nonneg fun l _ => sq_nonneg' _
  unfold headn
  rw [w, head64, Ideal.div_coe (by norm_num)]
  have s0 := n0 Finset.univ
  have hd : p d * p d ≤ ∑ l, p l * p l := Finset.single_le_sum (f := fun l => p l * p l) (fun l _ => sq_nonneg' _) (Finset.mem_univ d)
  generalize ∑ l, p l * p l = S at s0 hd
  induction S using EReal.rec with
  | bot => exact absurd s0 (by simp)
  | top =>
    refine ⟨0, ?_⟩
    rw [EReal.top_mul_of_pos (EReal.coe_pos.2 (by norm_num)), EReal.top_add_coe, Ideal.rsqrt_top]
    simp
  | coe s =>
    have t : p d ≠ ⊤ := fun u => by rw [u] at hd; simp at hd
    have b : p d ≠ ⊥ := fun u => by rw [u] at hd; simp at hd
    have s1 : 0 ≤ s := EReal.coe_nonneg.1 s0
    have q : 0 < s * (1 / 64) + e := by positivity
    refine ⟨(p d).toReal * (Real.sqrt (s * (1 / 64) + e))⁻¹, ?_⟩
    rw [← EReal.coe_mul, ← EReal.coe_add, Ideal.rsqrt_coe, if_neg (not_lt.2 q.le), if_neg q.ne', EReal.coe_mul, EReal.coe_toReal t b]

/-- A sum of reals is a real. -/
theorem sum_real {ι : Type} (s : Finset ι) (f : ι → EReal) (h : ∀ i, ∃ r : ℝ, f i = r) : ∃ r : ℝ, ∑ i ∈ s, f i = r := by
  choose g hg using h
  classical
  refine ⟨∑ i ∈ s, g i, ?_⟩
  induction s using Finset.induction_on with
  | empty => simp
  | insert a s ha ih => rw [Finset.sum_insert ha, Finset.sum_insert ha, ih, hg a, EReal.coe_add]

/-- A product of reals is a real. -/
theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- A masked score of a real and a bias under plus infinity is under plus infinity. -/
theorem sc_ne_top (M : BitVec 1) {p b : EReal} (hp : ∃ r : ℝ, p = r) (hb : b ≠ ⊤) : sc M p b ≠ ⊤ := by
  obtain ⟨r, rfl⟩ := hp
  obtain ⟨e, w⟩ := masked
  unfold sc
  split
  · exact EReal.add_ne_top (EReal.coe_ne_top r) hb
  · rw [w]
    exact EReal.coe_ne_top e

end Cert.AttnMath

end
-- ==== Proof.AttnAlgebraic.lean ====
/- The attention kernel and its reference leave equal results. -/
module

public import proofs.«01_k».proof.Defs
public import proofs.«01_k».proof.Proof.AttnValue
public import proofs.«01_k».proof.Proof.AttnSoftmax

@[expose] public section

set_option maxRecDepth 16384

noncomputable section

namespace Cert.AttnMath

open Idealize.ShloMosaic Idealize.ShloMosaic.TcCoe Idealize.SL.Sem
open Cert.AttnRefIdeal Cert.AttnRefIdeal.Read Cert.AttnValue

variable (x0 : FVec Ideal S16384x1024 .f32) (x1 : FVec Ideal S1024 .f32) (x2 : FVec Ideal S1024x1280 .f32)
  (x3 : FVec Ideal S1280 .f32) (x4 x5 : FVec Ideal S64 .f32) (x6 : FVec Ideal S16 .f32) (x7 : FVec Ideal S1024x1024 .f32)
  (x8 : FVec Ideal S1024 .f32) (x9 : FVec Ideal S2x256x1024 .f32)

/-- One product of a score: the gains and the eighth together on the key, or each in its place. -/
theorem gains (a qg kg c b : EReal) : a * kg * (b * qg) * c = a * (qg * kg * c) * b := by
  ac_rfl

/-- A raw score in eighths is the sum over the keys that carry the gains. -/
theorem dot_eq (b : Fin 2) (n : Fin 64) (g : Fin 2) (h : Fin 8) (q : Fin 128) (s : Fin 256) :
    val_main_v83 (F := Ideal) x0 x1 x2 x3 x4 x5 (ix6 b n g h q s) * Ideal.ofBits .f32 0x3E000000#32
      = ∑ e : Fin 64, band (kk x0 x1 x2 x3 x4 x5) b n s g e
          * qn x0 x1 x2 x3 ⟨b.val * 8192 + (n.val * 128 + q.val), by omega⟩ ⟨g.val * 8 + h.val, by omega⟩ e := by
  rw [dot_at, ← sum_mul_out _ _ eighth.1 eighth.2]
  refine Finset.sum_congr rfl fun e _ => ?_
  rw [kband_at, qblock_at, q_at]
  unfold band
  split
  · rw [k_at]
    simp only [qkv_at]
    exact gains _ _ _ _ _
  · rw [zero_mul, zero_mul, zero_mul]

/-- A masked score is the kernel's. -/
theorem row_eq (b : Fin 2) (n : Fin 64) (g : Fin 2) (h : Fin 8) (q : Fin 128) (s : Fin 256) :
    val_main_v93 (F := Ideal) x0 x1 x2 x3 x4 x5 x6 x9 (ix6 b n g h q ⟨s.val, by omega⟩)
      = sc (if q.val < s.val ∧ s.val ≤ q.val + 128 ∧ 128 ≤ n.val * 128 + s.val then 1#1 else 0#1)
          (∑ e : Fin 64, band (kk x0 x1 x2 x3 x4 x5) b n s g e
            * qn x0 x1 x2 x3 ⟨b.val * 8192 + (n.val * 128 + q.val), by omega⟩ ⟨g.val * 8 + h.val, by omega⟩ e)
          (x9 (ix3 g s ⟨h.val * 128 + q.val, by omega⟩)) := by
  rw [row_at, dif_pos s.isLt, score_at, dot_eq, Cert.AttnRefIdeal.Read.mask_at]

/-- The last of a row is the sink. -/
theorem row_last (b : Fin 2) (n : Fin 64) (g : Fin 2) (h : Fin 8) (q : Fin 128) :
    val_main_v93 (F := Ideal) x0 x1 x2 x3 x4 x5 x6 x9 (ix6 b n g h q ⟨256, by omega⟩) = x6 (ix1 ⟨g.val * 8 + h.val, by omega⟩) := by
  rw [row_at, dif_neg (by decide)]

/-- A value at a band's place. -/
theorem band_v (b : Fin 2) (n : Fin 64) (s : Fin 256) (g : Fin 2) (d : Fin 64) :
    val_main_v59 (F := Ideal) x0 x1 x2 x3 (ix5 b n s g d) = band (vv x0 x1 x2 x3) b n s g d := by
  rw [vband_at]
  unfold band
  split
  · rw [v_at, qkv_at]
    rfl
  · rfl

/-- The products of a raw score are reals when the gains are. -/
theorem dot_real (h4 : ∀ d, ∃ r : ℝ, x4 (ix1 d) = r) (h5 : ∀ d, ∃ r : ℝ, x5 (ix1 d) = r) (b : Fin 2) (n : Fin 64) (s : Fin 256) (g : Fin 2)
    (r : Fin 16384) (h : Fin 16) : ∃ u : ℝ, ∑ e : Fin 64, band (kk x0 x1 x2 x3 x4 x5) b n s g e * qn x0 x1 x2 x3 r h e = u := by
  refine sum_real _ _ fun e => mul_real ?_ (headn_real _ _)
  unfold band
  split
  · refine mul_real (headn_real _ _) (mul_real (mul_real (h4 e) (h5 e)) ⟨(Ideal.ofBits .f32 0x3E000000#32).toReal, (EReal.coe_toReal eighth.2 ?_).symm⟩)
    exact fun u => absurd eighth.1 (by rw [u]; simp)
  · exact ⟨0, rfl⟩

/-- A head's output is the kernel's. -/
theorem head_eq (h4 : ∀ d, ∃ r : ℝ, x4 (ix1 d) = r) (h5 : ∀ d, ∃ r : ℝ, x5 (ix1 d) = r) (h6 : ∀ h, x6 (ix1 h) ≠ ⊤) (h9 : ∀ g s j, x9 (ix3 g s j) ≠ ⊤)
    (b : Fin 2) (n : Fin 64) (q : Fin 128) (g : Fin 2) (h : Fin 8) (d : Fin 64) :
    val_main_v107 (F := Ideal) x0 x1 x2 x3 x4 x5 x6 x9 (ix6 b n q g h d)
      = headK (kk x0 x1 x2 x3 x4 x5) (vv x0 x1 x2 x3) (qn x0 x1 x2 x3) x9 x6 b n q ⟨g.val * 8 + h.val, by omega⟩ d := by
  obtain ⟨e, w⟩ := masked
  have low : val_main_v93 (F := Ideal) x0 x1 x2 x3 x4 x5 x6 x9 (ix6 b n g h q ⟨0, by omega⟩) = e := by
    refine (row_eq x0 x1 x2 x3 x4 x5 x6 x9 b n g h q ⟨0, by omega⟩).trans ?_
    rw [if_neg (fun u => absurd u.1 (Nat.not_lt_zero _)), ← w]
    rfl
  have top : ∀ k, val_main_v93 (F := Ideal) x0 x1 x2 x3 x4 x5 x6 x9 (ix6 b n g h q k) ≠ ⊤ := fun k => by
    by_cases u : k.val < 256
    · rw [row_eq x0 x1 x2 x3 x4 x5 x6 x9 b n g h q ⟨k.val, u⟩]
      exact sc_ne_top _ (dot_real x0 x1 x2 x3 x4 x5 h4 h5 _ _ _ _ _ _) (h9 _ _ _)
    · have w : k = ⟨256, by omega⟩ := Fin.ext (by show k.val = 256; omega)
      rw [w, row_last]
      exact h6 _
  have eg : (⟨(g.val * 8 + h.val) / 8, by omega⟩ : Fin 2) = g := Fin.ext (by show (g.val * 8 + h.val) / 8 = g.val; omega)
  have eh : ∀ p, (⟨(g.val * 8 + h.val) % 8 * 128 + q.val, p⟩ : Fin 1024) = ⟨h.val * 128 + q.val, by omega⟩ := fun p =>
    Fin.ext (by show (g.val * 8 + h.val) % 8 * 128 + q.val = h.val * 128 + q.val; omega)
  rw [Cert.AttnRefIdeal.Read.head_at, attR_eq _ _ top _ e low]
  unfold headK
  simp only [row_eq, row_last, band_v, eg, eh]

/-- The reference's result is the kernel's. -/
theorem ref (h4 : ∀ d, ∃ r : ℝ, x4 (ix1 d) = r) (h5 : ∀ d, ∃ r : ℝ, x5 (ix1 d) = r) (h6 : ∀ h, x6 (ix1 h) ≠ ⊤) (h9 : ∀ g s j, x9 (ix3 g s j) ≠ ⊤) :
    val_main_v113 (F := Ideal) x0 x1 x2 x3 x4 x5 x6 x7 x8 x9 = attnG x0 x1 x2 x3 x4 x5 x6 x7 x8 x9 := by
  funext j
  obtain ⟨r, f, rfl⟩ : ∃ (r : Fin 16384) (f : Fin 1024), j = ix2 r f := ⟨j 0, j 1, eq_ix2 j⟩
  rw [result_at]
  unfold attnG attnK
  have er : ∀ p, (⟨r.val / 8192 * 8192 + (r.val % 8192 / 128 * 128 + r.val % 128), p⟩ : Fin 16384) = r := fun p =>
    Fin.ext (by show r.val / 8192 * 8192 + (r.val % 8192 / 128 * 128 + r.val % 128) = r.val; omega)
  rw [← add_assoc]
  refine congrArg₂ (· + ·) (congrArg₂ (· + ·) ?_ ?_) ?_
  · exact congrArg (fun k => x0 (ix2 k f)) (er _).symm
  · refine Finset.sum_congr rfl fun c _ => ?_
    have ec : (⟨c.val / 512 * 8 + c.val / 64 % 8, by omega⟩ : Fin 16) = ⟨c.val / 64, by omega⟩ :=
      Fin.ext (by show c.val / 512 * 8 + c.val / 64 % 8 = c.val / 64; omega)
    rw [heads_at, head_eq x0 x1 x2 x3 x4 x5 x6 x9 h4 h5 h6 h9, mul_comm, ec]
    rfl
  · rfl

end Cert.AttnMath

namespace Cert.AttnValue

open Idealize.ShloMosaic Idealize.ShloMosaic.TcCoe Idealize.SL.Sem Cert.AttnMath

/-- The shape relations of the precondition. -/
instance preFacts : Cert.Pre_below_inf.Facts where
  bcast_S_S64 := by decide
  bcast_S_S16 := by decide
  bcast_S_S2x256x1024 := by decide

/-- A comparison with plus infinity that holds keeps its operand under it. -/
theorem olt_top (x : EReal) (h : FloatOps.cmpf (F := Ideal) (φ := .f32) .olt x (Ideal.ofBits .f32 0x7F800000#32) = 1#1) : x ≠ ⊤ := by
  rintro rfl
  have e : Ideal.ofBits .f32 0x7F800000#32 = ⊤ := by simp [Ideal.ofBits, Ideal.ieee]
  rw [e] at h
  exact absurd h (by show ¬ Ideal.cmp .olt ⊤ ⊤ = 1#1; simp [Ideal.cmp])

/-- A comparison with minus infinity that holds keeps its operand over it. -/
theorem ogt_bot (x : EReal) (h : FloatOps.cmpf (F := Ideal) (φ := .f32) .ogt x (Ideal.ofBits .f32 0xFF800000#32) = 1#1) : x ≠ ⊥ := by
  rintro rfl
  have e : Ideal.ofBits .f32 0xFF800000#32 = ⊥ := by simp [Ideal.ofBits, Ideal.ieee]
  rw [e] at h
  exact absurd h (by show ¬ Ideal.cmp .ogt ⊥ ⊥ = 1#1; simp [Ideal.cmp])

/-- Two bits whose conjunction is one are one. -/
theorem and_one (a b : BitVec 1) (h : a &&& b = 1#1) : a = 1#1 ∧ b = 1#1 := by
  revert a b
  decide

/-- An operand between the infinities is a real. -/
theorem between (x : EReal) (h : FloatOps.cmpf (F := Ideal) (φ := .f32) .olt x (Ideal.ofBits .f32 0x7F800000#32)
    &&& FloatOps.cmpf (F := Ideal) (φ := .f32) .ogt x (Ideal.ofBits .f32 0xFF800000#32) = 1#1) : ∃ r : ℝ, x = r :=
  ⟨x.toReal, (EReal.coe_toReal (olt_top x (and_one _ _ h).1) (ogt_bot x (and_one _ _ h).2)).symm⟩

section

variable (x0 : FVec Ideal Cert.AttnRefIdeal.S16384x1024 .f32) (x1 : FVec Ideal Cert.AttnRefIdeal.S1024 .f32) (x2 : FVec Ideal Cert.AttnRefIdeal.S1024x1280 .f32)
  (x3 : FVec Ideal Cert.AttnRefIdeal.S1280 .f32) (x4 x5 : FVec Ideal Cert.AttnRefIdeal.S64 .f32) (x6 : FVec Ideal Cert.AttnRefIdeal.S16 .f32)
  (x7 : FVec Ideal Cert.AttnRefIdeal.S1024x1024 .f32) (x8 : FVec Ideal Cert.AttnRefIdeal.S1024 .f32) (x9 : FVec Ideal Cert.AttnRefIdeal.S2x256x1024 .f32)

/-- The precondition's first bit at an entry of the query gain. -/
theorem pre4 (d : Fin 64) : (Cert.Pre_below_inf.fn (F := Ideal) x0 x1 x2 x3 x4 x5 x6 x7 x8 x9).1 (ix1 d)
    = FloatOps.cmpf (F := Ideal) (φ := .f32) .olt (x4 (ix1 d)) (Ideal.ofBits .f32 0x7F800000#32)
      &&& FloatOps.cmpf (F := Ideal) (φ := .f32) .ogt (x4 (ix1 d)) (Ideal.ofBits .f32 0xFF800000#32) := rfl

/-- The precondition's second bit at an entry of the key gain. -/
theorem pre5 (d : Fin 64) : (Cert.Pre_below_inf.fn (F := Ideal) x0 x1 x2 x3 x4 x5 x6 x7 x8 x9).2.1 (ix1 d)
    = FloatOps.cmpf (F := Ideal) (φ := .f32) .olt (x5 (ix1 d)) (Ideal.ofBits .f32 0x7F800000#32)
      &&& FloatOps.cmpf (F := Ideal) (φ := .f32) .ogt (x5 (ix1 d)) (Ideal.ofBits .f32 0xFF800000#32) := rfl

/-- The precondition's third bit at a sink. -/
theorem pre6 (h : Fin 16) : (Cert.Pre_below_inf.fn (F := Ideal) x0 x1 x2 x3 x4 x5 x6 x7 x8 x9).2.2.1 (ix1 h)
    = FloatOps.cmpf (F := Ideal) (φ := .f32) .olt (x6 (ix1 h)) (Ideal.ofBits .f32 0x7F800000#32) := rfl

/-- The precondition's fourth bit at a bias. -/
theorem pre9 (g : Fin 2) (s : Fin 256) (j : Fin 1024) : (Cert.Pre_below_inf.fn (F := Ideal) x0 x1 x2 x3 x4 x5 x6 x7 x8 x9).2.2.2 (ix3 g s j)
    = FloatOps.cmpf (F := Ideal) (φ := .f32) .olt (x9 (ix3 g s j)) (Ideal.ofBits .f32 0x7F800000#32) := rfl

end

/-- Over the extended reals the attention kernel's result array is the reference's, when the head gains are finite and no sink or bias is plus infinity. -/
theorem algebraic : Cert.algebraic_AttnIdeal_AttnRefIdeal_pre_below_inf (hPre_below_inf := preFacts) := by
  pair_intro
  · run_from Cert.AttnIdeal.Gen.run_main m g
  · run_from Cert.AttnRefIdeal.Value.run m' g'
    refine Eq.trans ?_ (final m c).symm
    rw [Cert.AttnRefIdeal.Read.val_main_v113_eq]
    have p := hpre c
    obtain ⟨a0, a1, a2, a3, a4, a5, a6, a7, a8, a9⟩ := hagree c
    rw [a0, a1, a2, a3, a4, a5, a6, a7, a8, a9]
    exact ref _ _ _ _ _ _ _ _ _ _ (fun d => between _ ((pre4 _ _ _ _ _ _ _ _ _ _ d).symm.trans (congrFun p.1 (ix1 d))))
      (fun d => between _ ((pre5 _ _ _ _ _ _ _ _ _ _ d).symm.trans (congrFun p.2.1 (ix1 d))))
      (fun h => olt_top _ ((pre6 _ _ _ _ _ _ _ _ _ _ h).symm.trans (congrFun p.2.2.1 (ix1 h))))
      (fun g s j => olt_top _ ((pre9 _ _ _ _ _ _ _ _ _ _ g s j).symm.trans (congrFun p.2.2.2 (ix3 g s j))))

end Cert.AttnValue

end
-- ==== Proof.BiasRef.lean ====
/- The bias reference, read at an index. -/
module

public import proofs.«01_k».proof.Proof.Gen.BiasRefIdeal.Run
public import Idealize.ShloMosaic.Lib.Pipeline.ValueKit
public import Idealize.ShloMosaic.Lib.Pointwise

@[expose] public section

set_option maxRecDepth 16384

noncomputable section

namespace Cert.BiasRef

open Idealize.ShloMosaic Idealize.ShloMosaic.TcCoe Idealize.SL.Sem
open Cert.BiasRefIdeal Cert.BiasRefIdeal.Gen

/-- A row taken by its number, read at one of its entries. -/
theorem take_at (X : FVec Ideal S32x16 .f32) (I : IVec S128x256x1 32) (q : Fin 128) (s : Fin 256) (h : Fin 16) (b : Fin 32)
    (hb : I (ix3 q s 0) = BitVec.ofNat 32 b.val) :
    Host.gather gather_S32x16_S128x256x1_S128x256x16_2_0_n_n_0_2_116 X I (ix3 q s h) = X (ix2 b h) := by
  unfold Host.gather
  refine congrArg X (funext fun a => Fin.ext ?_)
  show GatherDims.start _ (ix3 q s h) I a + GatherDims.batchCoord _ (ix3 q s h) a + GatherDims.offCoord _ (ix3 q s h) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 q s h) ⟨List.idxOf (0 : Fin 2) [0], by decide⟩ = ix3 q s 0 := by
      funext b
      refine Fin.ext ?_
      match b with
      | ⟨0, _⟩ => rfl
      | ⟨1, _⟩ => rfl
      | ⟨2, _⟩ => rfl
    refine (congrArg (fun v => min (BitVec.toInt v).toNat 31) ((congrArg I hsi).trans hb)).trans ?_
    exact (by decide : ∀ b : Fin 32, min (BitVec.ofNat 32 b.val).toInt.toNat 31 = b.val) b
  · rw [GatherDims.batchCoord_eq_zero _ _ _ List.not_mem_nil]
    unfold GatherDims.start
    rw [dif_neg (show (1 : Fin 2) ∉ gather_S32x16_S128x256x1_S128x256x16_2_0_n_n_0_2_116.startIndexMap from (by decide : (1 : Fin 2) ∉ [(0 : Fin 2)]))]
    simp only [Nat.zero_add]
    unfold GatherDims.offCoord
    rw [dif_pos ((GatherDims.mem_sKept _ _).mpr ⟨show (1 : Fin 2) ∉ [(0 : Fin 2)] by decide, List.not_mem_nil⟩)]
    rfl

/-- A number under 32 is not negative, so it stays. -/
theorem keep (L : IVec S128x256 32) (q : Fin 128) (s : Fin 256) (b : Fin 32) (hb : L (ix2 q s) = BitVec.ofNat 32 b.val) :
    broadcastInDim S128x256x1 ![0, 1] bcast_S128x256_S128x256x1_0_1 (select (cmpi .slt L (broadcastInDim S128x256 ![] bcast_S_S128x256 (constantI S_ 32 0#32)))
      (addi L (broadcastInDim S128x256 ![] bcast_S_S128x256 (constantI S_ 32 32#32))) L) (ix3 q s 0) = BitVec.ofNat 32 b.val := by
  pointwise []
  rw [hb]
  fin_cases b <;> rfl

/-- The reference's table over any table of bucket numbers. -/
def tab (X : FVec Ideal S32x16 .f32) (L : IVec S128x256 32) : FVec Ideal S2x256x1024 .f32 :=
  shapeCast _ (transpose S2x256x8x128 [0, 3, 1, 2] (shapeCast _ (transpose S16x128x256 [2, 0, 1] (Host.gather gather_S32x16_S128x256x1_S128x256x16_2_0_n_n_0_2_116 X (broadcastInDim S128x256x1 ![0, 1] bcast_S128x256_S128x256x1_0_1 (select (cmpi .slt L (broadcastInDim S128x256 ![] bcast_S_S128x256 (constantI S_ 32 0#32))) (addi L (broadcastInDim S128x256 ![] bcast_S_S128x256 (constantI S_ 32 32#32))) L))) transposes_S128x256x16_S16x128x256_2_0_1) shapeCasts_S16x128x256_S2x8x128x256) transposes_S2x8x128x256_S2x256x8x128_0_3_1_2) shapeCasts_S2x256x8x128_S2x256x1024

/-- An entry of the reference's table is the head's value for the bucket. -/
theorem tab_at (X : FVec Ideal S32x16 .f32) (L : IVec S128x256 32) (g : Fin 2) (s : Fin 256) (h : Fin 8) (q : Fin 128) (b : Fin 32)
    (hb : L (ix2 q s) = BitVec.ofNat 32 b.val) :
    tab X L (ix3 g s ⟨h.val * 128 + q.val, by omega⟩) = X (ix2 b ⟨g.val * 8 + h.val, by omega⟩) := by
  refine Eq.trans ?_ (take_at X _ q s ⟨g.val * 8 + h.val, by omega⟩ b (keep L q s b hb))
  unfold tab
  generalize Host.gather _ X _ = G
  pointwise []

end Cert.BiasRef

end
-- ==== Proof.BiasValue.lean ====
/- What the bias kernel leaves in its result array: the reference's table. -/
module

public import proofs.«01_k».proof.Proof.Gen.BiasIdeal.Frame
public import proofs.«01_k».proof.Proof.Gen.BiasIdeal.Value
public import proofs.«01_k».proof.Proof.BiasRef
public import Idealize.ShloMosaic.Lib.Pipeline.ValueKit
public import Idealize.ShloMosaic.Lib.Pointwise
public import Idealize.ShloMosaic.Lib.Claim

@[expose] public section

set_option maxRecDepth 16384

noncomputable section

namespace Cert.BiasValue

open Idealize.ShloMosaic Idealize.ShloMosaic.TcCoe Idealize.SL.Sem
open Idealize.ShloMosaic.Pipeline (Dat)
open Cert.BiasIdeal Cert.BiasIdeal.Gen

variable (m : (ℓ : Loc nD τ sig) → Buf (Elt Ideal) ℓ)

/-- Every window's block at every point. -/
theorem idx : ∀ t : Fin cfg0.N, win0_0.index t = ![0, 0] ∧ win0_1.index t = ![0, 0] ∧ win0_2.index t = ![t.val / 8, 0, t.val % 8] :=
  (by decide +kernel : ∀ t : Fin grid0.N, _)

/-- The table of values. -/
theorem rel_at (c : Dev nD) (t : Fin cfg0.N) (b : Fin 32) (h : Fin 16) :
    iblk m c 0 t (ix2 b h) = m ((c : Thread nD τ).loc main_arg0) (ix2 b h) := by
  blk_point [iblk, V, idx t]

/-- A table's entry by its row-major number. -/
theorem lit_eq (x : Fin 32768) : lit0 x = lit0t x.val := by
  cases x
  rfl

/-- The bucket numbers as the region finds them. -/
theorem V_c (c : Dev nD) : V m c main_c = fun i => lit0 (S256x128.rowMajor i) := by
  show StableHlo.after hostOps0 (fun b => m (c, b)) main_c = _
  after_results
  rfl

/-- The buckets. -/
theorem bucket_at (c : Dev nD) (t : Fin cfg0.N) (s : Fin 256) (q : Fin 128) :
    iblk m c 1 t (ix2 s q) = lit0t (s.val * 128 + q.val) := by
  have e : iblk m c 1 t (ix2 s q) = V m c main_c (ix2 s q) := by blk_point [iblk, idx t]
  rw [e, V_c]
  exact (lit_eq (S256x128.rowMajor (ix2 s q))).trans (congrArg lit0t (Shape.rowMajor_val_two (ix2 s q)))

/-- One value read from the table. -/
theorem ld_at (X : FVec Ideal S32x16 .f32) (off : Fin 2 → ℕ) (inb : ∀ a, off a + S1x1.size a ≤ S32x16.size a) (p : 0 < S1x1.numel) (b : Fin 32) (h : Fin 16)
    (e : off = ![b.val, h.val]) : View.ld (Val := Elt Ideal) (e' := .f32) X (Rect.unit (s := S32x16) off ![1, 1] inb) (Shape.Idx.first p) = X (ix2 b h) := by
  subst e
  refine congrArg X (funext fun a => Fin.ext ((ValueKit.rect_emb_unit_val _ _ _ _ _).trans ?_))
  match a with
  | ⟨0, _⟩ => rfl
  | ⟨1, _⟩ => rfl

/-- Of 32 values tried in turn, the one whose number the bucket is stays. -/
theorem chain (B : Vec Ideal S256x128 .i32) (w : Fin 32 → EReal) (s : Fin 256) (q : Fin 128) (b : Fin 32) (hb : B (ix2 s q) = BitVec.ofNat 32 b.val) :
    k0_pay1 (F := Ideal) B (k0_pay8 B (k0_pay6 B (k0_pay4 B (k0_pay2 B (w 0) (w 1) (w 2) (w 3) (w 4) (w 5)) (k0_pay3 B) (w 6) (w 7) (w 8) (w 9) (w 10) (w 11) (w 12) (w 13)) k0_pay5 (w 14) (w 15) (w 16) (w 17) (w 18) (w 19) (w 20)) (k0_pay7 B) (w 21) (w 22) (w 23) (w 24) (w 25) (w 26) (w 27) (w 28)) k0_pay9 (w 29) (w 30) (w 31) (ix3 0 s q) = w b := by
  pointwise [k0_pay1, k0_pay2, k0_pay3, k0_pay4, k0_pay5, k0_pay6, k0_pay7, k0_pay8, k0_pay9]
  rw [hb]
  fin_cases b <;> rfl

/-- What a head leaves in its output window. -/
theorem out (c : Dev nD) (t : Fin cfg0.N) (s : Fin 256) (q : Fin 128) (b : Fin 32) (hb : lit0t (s.val * 128 + q.val) = BitVec.ofNat 32 b.val) :
    outsAt0 m c t (ix3 0 s q) = m ((c : Thread nD τ).loc main_arg0) (ix2 b ⟨(grid0.coords t 0).val, (grid0.coords t 0).isLt⟩) := by
  unfold outsAt0
  frame_out
  rw [ld_at _ _ _ _ 0 ⟨(grid0.coords t 0).val, (grid0.coords t 0).isLt⟩ (k0_off1_eq _), ld_at _ _ _ _ 1 ⟨(grid0.coords t 0).val, (grid0.coords t 0).isLt⟩ (k0_off2_eq _), ld_at _ _ _ _ 2 ⟨(grid0.coords t 0).val, (grid0.coords t 0).isLt⟩ (k0_off3_eq _), ld_at _ _ _ _ 3 ⟨(grid0.coords t 0).val, (grid0.coords t 0).isLt⟩ (k0_off4_eq _), ld_at _ _ _ _ 4 ⟨(grid0.coords t 0).val, (grid0.coords t 0).isLt⟩ (k0_off5_eq _), ld_at _ _ _ _ 5 ⟨(grid0.coords t 0).val, (grid0.coords t 0).isLt⟩ (k0_off6_eq _), ld_at _ _ _ _ 6 ⟨(grid0.coords t 0).val, (grid0.coords t 0).isLt⟩ (k0_off7_eq _), ld_at _ _ _ _ 7 ⟨(grid0.coords t 0).val, (grid0.coords t 0).isLt⟩ (k0_off8_eq _), ld_at _ _ _ _ 8 ⟨(grid0.coords t 0).val, (grid0.coords t 0).isLt⟩ (k0_off9_eq _), ld_at _ _ _ _ 9 ⟨(grid0.coords t 0).val, (grid0.coords t 0).isLt⟩ (k0_off10_eq _), ld_at _ _ _ _ 10 ⟨(grid0.coords t 0).val, (grid0.coords t 0).isLt⟩ (k0_off11_eq _), ld_at _ _ _ _ 11 ⟨(grid0.coords t 0).val, (grid0.coords t 0).isLt⟩ (k0_off12_eq _), ld_at _ _ _ _ 12 ⟨(grid0.coords t 0).val, (grid0.coords t 0).isLt⟩ (k0_off13_eq _), ld_at _ _ _ _ 13 ⟨(grid0.coords t 0).val, (grid0.coords t 0).isLt⟩ (k0_off14_eq _), ld_at _ _ _ _ 14 ⟨(grid0.coords t 0).val, (grid0.coords t 0).isLt⟩ (k0_off15_eq _), ld_at _ _ _ _ 15 ⟨(grid0.coords t 0).val, (grid0.coords t 0).isLt⟩ (k0_off16_eq _), ld_at _ _ _ _ 16 ⟨(grid0.coords t 0).val, (grid0.coords t 0).isLt⟩ (k0_off17_eq _), ld_at _ _ _ _ 17 ⟨(grid0.coords t 0).val, (grid0.coords t 0).isLt⟩ (k0_off18_eq _), ld_at _ _ _ _ 18 ⟨(grid0.coords t 0).val, (grid0.coords t 0).isLt⟩ (k0_off19_eq _), ld_at _ _ _ _ 19 ⟨(grid0.coords t 0).val, (grid0.coords t 0).isLt⟩ (k0_off20_eq _), ld_at _ _ _ _ 20 ⟨(grid0.coords t 0).val, (grid0.coords t 0).isLt⟩ (k0_off21_eq _), ld_at _ _ _ _ 21 ⟨(grid0.coords t 0).val, (grid0.coords t 0).isLt⟩ (k0_off22_eq _), ld_at _ _ _ _ 22 ⟨(grid0.coords t 0).val, (grid0.coords t 0).isLt⟩ (k0_off23_eq _), ld_at _ _ _ _ 23 ⟨(grid0.coords t 0).val, (grid0.coords t 0).isLt⟩ (k0_off24_eq _), ld_at _ _ _ _ 24 ⟨(grid0.coords t 0).val, (grid0.coords t 0).isLt⟩ (k0_off25_eq _), ld_at _ _ _ _ 25 ⟨(grid0.coords t 0).val, (grid0.coords t 0).isLt⟩ (k0_off26_eq _), ld_at _ _ _ _ 26 ⟨(grid0.coords t 0).val, (grid0.coords t 0).isLt⟩ (k0_off27_eq _), ld_at _ _ _ _ 27 ⟨(grid0.coords t 0).val, (grid0.coords t 0).isLt⟩ (k0_off28_eq _), ld_at _ _ _ _ 28 ⟨(grid0.coords t 0).val, (grid0.coords t 0).isLt⟩ (k0_off29_eq _), ld_at _ _ _ _ 29 ⟨(grid0.coords t 0).val, (grid0.coords t 0).isLt⟩ (k0_off30_eq _), ld_at _ _ _ _ 30 ⟨(grid0.coords t 0).val, (grid0.coords t 0).isLt⟩ (k0_off31_eq _), ld_at _ _ _ _ 31 ⟨(grid0.coords t 0).val, (grid0.coords t 0).isLt⟩ (k0_off32_eq _)]
  exact (chain _ (fun b => iblk m c 0 t (ix2 b ⟨(grid0.coords t 0).val, (grid0.coords t 0).isLt⟩)) s q b ((bucket_at m c t s q).trans hb)).trans (rel_at m c t b _)

end Cert.BiasValue

end
-- ==== Proof.BiasSame.lean ====
/- What it is for the bucket tables of the bias kernel and of its reference to agree. -/
module

public import proofs.«01_k».proof.Proof.Gen.BiasIdeal.Skeleton
public import proofs.«01_k».proof.Proof.Gen.BiasRefIdeal.Run

@[expose] public section

set_option maxRecDepth 16384

noncomputable section

namespace Cert.BiasTab

/-- The eight key positions from `8 n` on have one bucket with a query position in both tables, and it is one of the 32. -/
def Same (n : Nat) : Prop := ∀ s : Fin 8, ∀ q : Fin 128,
    (Cert.BiasIdeal.lit0t ((8 * n + s.val) * 128 + q.val)).toNat < 32 ∧
    Cert.BiasIdeal.lit0t ((8 * n + s.val) * 128 + q.val) = Cert.BiasRefIdeal.lit0t (q.val * 256 + (8 * n + s.val))

end Cert.BiasTab

end
-- ==== Proof.BiasTabA.lean ====
/- The bucket tables of the bias kernel and of its reference, key positions 0 to 63. -/
module

public import proofs.«01_k».proof.Proof.BiasSame

@[expose] public section

set_option maxRecDepth 16384

noncomputable section

namespace Cert.BiasTab

/-- Key positions 0 to 7 have the same buckets in both tables. -/
theorem same0 : Same 0 := by
  unfold Same
  decide +kernel

/-- Key positions 8 to 15 have the same buckets in both tables. -/
theorem same1 : Same 1 := by
  unfold Same
  decide +kernel

/-- Key positions 16 to 23 have the same buckets in both tables. -/
theorem same2 : Same 2 := by
  unfold Same
  decide +kernel

/-- Key positions 24 to 31 have the same buckets in both tables. -/
theorem same3 : Same 3 := by
  unfold Same
  decide +kernel

/-- Key positions 32 to 39 have the same buckets in both tables. -/
theorem same4 : Same 4 := by
  unfold Same
  decide +kernel

/-- Key positions 40 to 47 have the same buckets in both tables. -/
theorem same5 : Same 5 := by
  unfold Same
  decide +kernel

/-- Key positions 48 to 55 have the same buckets in both tables. -/
theorem same6 : Same 6 := by
  unfold Same
  decide +kernel

/-- Key positions 56 to 63 have the same buckets in both tables. -/
theorem same7 : Same 7 := by
  unfold Same
  decide +kernel

end Cert.BiasTab

end
-- ==== Proof.BiasTabB.lean ====
/- The bucket tables of the bias kernel and of its reference, key positions 64 to 127. -/
module

public import proofs.«01_k».proof.Proof.BiasSame

@[expose] public section

set_option maxRecDepth 16384

noncomputable section

namespace Cert.BiasTab

/-- Key positions 64 to 71 have the same buckets in both tables. -/
theorem same8 : Same 8 := by
  unfold Same
  decide +kernel

/-- Key positions 72 to 79 have the same buckets in both tables. -/
theorem same9 : Same 9 := by
  unfold Same
  decide +kernel

/-- Key positions 80 to 87 have the same buckets in both tables. -/
theorem same10 : Same 10 := by
  unfold Same
  decide +kernel

/-- Key positions 88 to 95 have the same buckets in both tables. -/
theorem same11 : Same 11 := by
  unfold Same
  decide +kernel

/-- Key positions 96 to 103 have the same buckets in both tables. -/
theorem same12 : Same 12 := by
  unfold Same
  decide +kernel

/-- Key positions 104 to 111 have the same buckets in both tables. -/
theorem same13 : Same 13 := by
  unfold Same
  decide +kernel

/-- Key positions 112 to 119 have the same buckets in both tables. -/
theorem same14 : Same 14 := by
  unfold Same
  decide +kernel

/-- Key positions 120 to 127 have the same buckets in both tables. -/
theorem same15 : Same 15 := by
  unfold Same
  decide +kernel

end Cert.BiasTab

end
-- ==== Proof.BiasTabC.lean ====
/- The bucket tables of the bias kernel and of its reference, key positions 128 to 191. -/
module

public import proofs.«01_k».proof.Proof.BiasSame

@[expose] public section

set_option maxRecDepth 16384

noncomputable section

namespace Cert.BiasTab

/-- Key positions 128 to 135 have the same buckets in both tables. -/
theorem same16 : Same 16 := by
  unfold Same
  decide +kernel

/-- Key positions 136 to 143 have the same buckets in both tables. -/
theorem same17 : Same 17 := by
  unfold Same
  decide +kernel

/-- Key positions 144 to 151 have the same buckets in both tables. -/
theorem same18 : Same 18 := by
  unfold Same
  decide +kernel

/-- Key positions 152 to 159 have the same buckets in both tables. -/
theorem same19 : Same 19 := by
  unfold Same
  decide +kernel

/-- Key positions 160 to 167 have the same buckets in both tables. -/
theorem same20 : Same 20 := by
  unfold Same
  decide +kernel

/-- Key positions 168 to 175 have the same buckets in both tables. -/
theorem same21 : Same 21 := by
  unfold Same
  decide +kernel

/-- Key positions 176 to 183 have the same buckets in both tables. -/
theorem same22 : Same 22 := by
  unfold Same
  decide +kernel

/-- Key positions 184 to 191 have the same buckets in both tables. -/
theorem same23 : Same 23 := by
  unfold Same
  decide +kernel

end Cert.BiasTab

end
-- ==== Proof.BiasTabD.lean ====
/- The bucket tables of the bias kernel and of its reference, key positions 192 to 255. -/
module

public import proofs.«01_k».proof.Proof.BiasSame

@[expose] public section

set_option maxRecDepth 16384

noncomputable section

namespace Cert.BiasTab

/-- Key positions 192 to 199 have the same buckets in both tables. -/
theorem same24 : Same 24 := by
  unfold Same
  decide +kernel

/-- Key positions 200 to 207 have the same buckets in both tables. -/
theorem same25 : Same 25 := by
  unfold Same
  decide +kernel

/-- Key positions 208 to 215 have the same buckets in both tables. -/
theorem same26 : Same 26 := by
  unfold Same
  decide +kernel

/-- Key positions 216 to 223 have the same buckets in both tables. -/
theorem same27 : Same 27 := by
  unfold Same
  decide +kernel

/-- Key positions 224 to 231 have the same buckets in both tables. -/
theorem same28 : Same 28 := by
  unfold Same
  decide +kernel

/-- Key positions 232 to 239 have the same buckets in both tables. -/
theorem same29 : Same 29 := by
  unfold Same
  decide +kernel

/-- Key positions 240 to 247 have the same buckets in both tables. -/
theorem same30 : Same 30 := by
  unfold Same
  decide +kernel

/-- Key positions 248 to 255 have the same buckets in both tables. -/
theorem same31 : Same 31 := by
  unfold Same
  decide +kernel

end Cert.BiasTab

end
-- ==== Proof.BiasTab.lean ====
/- The bucket tables of the bias kernel and of its reference. -/
module

public import proofs.«01_k».proof.Proof.BiasTabA
public import proofs.«01_k».proof.Proof.BiasTabB
public import proofs.«01_k».proof.Proof.BiasTabC
public import proofs.«01_k».proof.Proof.BiasTabD

@[expose] public section

set_option maxRecDepth 16384

noncomputable section

namespace Cert.BiasTab

/-- All key positions have the same buckets in both tables. -/
theorem same : ∀ n : Fin 32, Same n.val
  | ⟨0, _⟩ => same0
  | ⟨1, _⟩ => same1
  | ⟨2, _⟩ => same2
  | ⟨3, _⟩ => same3
  | ⟨4, _⟩ => same4
  | ⟨5, _⟩ => same5
  | ⟨6, _⟩ => same6
  | ⟨7, _⟩ => same7
  | ⟨8, _⟩ => same8
  | ⟨9, _⟩ => same9
  | ⟨10, _⟩ => same10
  | ⟨11, _⟩ => same11
  | ⟨12, _⟩ => same12
  | ⟨13, _⟩ => same13
  | ⟨14, _⟩ => same14
  | ⟨15, _⟩ => same15
  | ⟨16, _⟩ => same16
  | ⟨17, _⟩ => same17
  | ⟨18, _⟩ => same18
  | ⟨19, _⟩ => same19
  | ⟨20, _⟩ => same20
  | ⟨21, _⟩ => same21
  | ⟨22, _⟩ => same22
  | ⟨23, _⟩ => same23
  | ⟨24, _⟩ => same24
  | ⟨25, _⟩ => same25
  | ⟨26, _⟩ => same26
  | ⟨27, _⟩ => same27
  | ⟨28, _⟩ => same28
  | ⟨29, _⟩ => same29
  | ⟨30, _⟩ => same30
  | ⟨31, _⟩ => same31
  | ⟨n + 32, h⟩ => absurd h (by omega)

/-- A key position and a query position have one bucket in both tables, and it is one of the 32. -/
theorem agree (s : Fin 256) (q : Fin 128) : (Cert.BiasIdeal.lit0t (s.val * 128 + q.val)).toNat < 32 ∧
    Cert.BiasIdeal.lit0t (s.val * 128 + q.val) = Cert.BiasRefIdeal.lit0t (q.val * 256 + s.val) := by
  have h := same ⟨s.val / 8, by omega⟩ ⟨s.val % 8, by omega⟩ q
  have e : 8 * (s.val / 8) + s.val % 8 = s.val := by omega
  simp only [e] at h
  exact h

end Cert.BiasTab

end
-- ==== Proof.BiasAlgebraic.lean ====
/- The bias kernel and its reference leave equal results. -/
module

public import proofs.«01_k».proof.Defs
public import proofs.«01_k».proof.Proof.BiasValue
public import proofs.«01_k».proof.Proof.BiasTab

@[expose] public section

set_option maxRecDepth 16384

noncomputable section

namespace Cert.BiasValue

open Idealize.ShloMosaic Idealize.ShloMosaic.TcCoe Idealize.SL.Sem
open Idealize.ShloMosaic.Pipeline (Dat)
open Cert.BiasIdeal Cert.BiasIdeal.Gen

/-- A table's entry of the reference by its row-major number. -/
theorem litR_eq (x : Fin 32768) : Cert.BiasRefIdeal.lit0 x = Cert.BiasRefIdeal.lit0t x.val := by
  cases x
  rfl

variable (m : (ℓ : Loc nD τ sig) → Buf (Elt Ideal) ℓ)

/-- The head of a point. -/
theorem head : ∀ t : Fin cfg0.N, (grid0.coords t 0).val = t.val :=
  (by decide +kernel : ∀ t : Fin grid0.N, (grid0.coords t 0).val = t.val)

/-- The buckets of the reference. -/
def buckets : IVec Cert.BiasRefIdeal.S128x256 32 := fun i => Cert.BiasRefIdeal.lit0 (Cert.BiasRefIdeal.S128x256.rowMajor i)

/-- A bucket of the reference by its number in the table. -/
theorem buckets_at (q : Fin 128) (s : Fin 256) : buckets (ix2 q s) = Cert.BiasRefIdeal.lit0t (q.val * 256 + s.val) := by
  refine (litR_eq _).trans (congrArg Cert.BiasRefIdeal.lit0t ?_)
  exact Shape.rowMajor_val_two _

/-- An entry of the reference's table is what the kernel's point for its head leaves there. -/
theorem ref_at (c : Dev nD) (t : Fin cfg0.N) (s : Fin 256) (q : Fin 128) :
    outsAt0 m c t (ix3 0 s q) = Cert.BiasRef.tab (m ((c : Thread nD τ).loc main_arg0)) buckets
      (ix3 ⟨t.val / 8, by have : t.val < 16 := t.isLt; omega⟩ s ⟨t.val % 8 * 128 + q.val, by omega⟩) := by
  have lt : t.val < 16 := t.isLt
  obtain ⟨small, same⟩ := Cert.BiasTab.agree s q
  have hk : lit0t (s.val * 128 + q.val) = BitVec.ofNat 32 (lit0t (s.val * 128 + q.val)).toNat := (BitVec.ofNat_toNat 32 _).symm ▸ (BitVec.setWidth_eq _).symm
  have hr := (buckets_at q s).trans (same.symm.trans hk)
  have e1 := out m c t s q ⟨_, small⟩ hk
  have e2 := Cert.BiasRef.tab_at (m ((c : Thread nD τ).loc main_arg0)) buckets ⟨t.val / 8, by omega⟩ s ⟨t.val % 8, by omega⟩ q ⟨_, small⟩ hr
  refine e1.trans (Eq.trans ?_ e2.symm)
  refine congrArg (fun d => m ((c : Thread nD τ).loc main_arg0) (ix2 _ d)) (Fin.ext ?_)
  have := head t
  show (grid0.coords t 0).val = t.val / 8 * 8 + t.val % 8
  omega

/-- The result array at the end is the reference's table. -/
theorem final (c : Dev nD) : (dats m 0 c).arrAt 2 (cfgs 0).N
    = Cert.BiasRef.tab (m ((c : Thread nD τ).loc main_arg0)) buckets := by
  refine (dats m 0 c).arrAt_eq_of_covers 2 _ (by decide +kernel) fun t _ y => ?_
  blk_simp
  rw [after0_2]
  idx_vars y
  have lt : t.val < 16 := t.isLt
  obtain rfl : y0 = 0 := Subsingleton.elim _ _
  refine (ref_at m c t y1 y2).trans ?_
  generalize Cert.BiasRef.tab _ _ = R
  blk_point [idx t]

/-- The bias kernel's result array is the reference's. -/
theorem algebraic : Cert.algebraic_BiasIdeal_BiasRefIdeal := by
  pair_intro
  · run_from Cert.BiasIdeal.Gen.run_main m g
  · run_from Cert.BiasRefIdeal.Value.run m' g'
    refine Eq.trans ?_ (final m c).symm
    rfl

end Cert.BiasValue

end
-- ==== Proof.ConvTrip.lean ====
/- What one trip of the convolution's row loop stores. -/
module

public import proofs.«01_k».proof.Proof.Gen.ConvIdeal.Frame
public import proofs.«01_k».proof.Proof.Gen.ConvIdeal.Value
public import Idealize.ShloMosaic.Lib.Pipeline.ValueKit
public import Idealize.ShloMosaic.Lib.Pointwise

@[expose] public section

set_option maxRecDepth 16384

noncomputable section

namespace Cert.ConvValue

open Idealize.ShloMosaic Idealize.ShloMosaic.TcCoe Idealize.SL.Sem
open Cert.ConvIdeal Cert.ConvIdeal.Gen

/-- The 64 rows of the convolution that one trip computes, from its 96 rows, the 31 taps and the bias. -/
def chunk (w : FVec Ideal S96x1024 .f32) (D : FVec Ideal S31x1024 .f32) (b : FVec Ideal S1x1024 .f32) : FVec Ideal S64x1024 .f32 :=
  k0_pay18 (k0_pay12 w (k0_pay9 w (k0_pay6 w (k0_pay3 w (View.ld b (Rect.unit (s := S1x1024) ![0, 0] ![1, 1024] inb_S1x1024_S1x1024_0_0)) (View.ld D (Rect.unit (s := S31x1024) ![6, 0] ![1, 1024] inb_S31x1024_S1x1024_6_0)) (View.ld D (Rect.unit (s := S31x1024) ![14, 0] ![1, 1024] inb_S31x1024_S1x1024_14_0)) (View.ld D (Rect.unit (s := S31x1024) ![22, 0] ![1, 1024] inb_S31x1024_S1x1024_22_0)) (View.ld D (Rect.unit (s := S31x1024) ![30, 0] ![1, 1024] inb_S31x1024_S1x1024_30_0)) (View.ld D (Rect.unit (s := S31x1024) ![7, 0] ![1, 1024] inb_S31x1024_S1x1024_7_0)) (View.ld D (Rect.unit (s := S31x1024) ![15, 0] ![1, 1024] inb_S31x1024_S1x1024_15_0))) (k0_pay4 w) (View.ld D (Rect.unit (s := S31x1024) ![23, 0] ![1, 1024] inb_S31x1024_S1x1024_23_0)) (View.ld D (Rect.unit (s := S31x1024) ![0, 0] ![1, 1024] inb_S31x1024_S1x1024_0_0)) (View.ld D (Rect.unit (s := S31x1024) ![8, 0] ![1, 1024] inb_S31x1024_S1x1024_8_0)) (View.ld D (Rect.unit (s := S31x1024) ![16, 0] ![1, 1024] inb_S31x1024_S1x1024_16_0)) (View.ld D (Rect.unit (s := S31x1024) ![24, 0] ![1, 1024] inb_S31x1024_S1x1024_24_0)) (View.ld D (Rect.unit (s := S31x1024) ![1, 0] ![1, 1024] inb_S31x1024_S1x1024_1_0)) (View.ld D (Rect.unit (s := S31x1024) ![9, 0] ![1, 1024] inb_S31x1024_S1x1024_9_0)) (View.ld D (Rect.unit (s := S31x1024) ![17, 0] ![1, 1024] inb_S31x1024_S1x1024_17_0))) (k0_pay7 w) (View.ld D (Rect.unit (s := S31x1024) ![25, 0] ![1, 1024] inb_S31x1024_S1x1024_25_0)) (View.ld D (Rect.unit (s := S31x1024) ![2, 0] ![1, 1024] inb_S31x1024_S1x1024_2_0)) (View.ld D (Rect.unit (s := S31x1024) ![10, 0] ![1, 1024] inb_S31x1024_S1x1024_10_0)) (View.ld D (Rect.unit (s := S31x1024) ![18, 0] ![1, 1024] inb_S31x1024_S1x1024_18_0)) (View.ld D (Rect.unit (s := S31x1024) ![26, 0] ![1, 1024] inb_S31x1024_S1x1024_26_0)) (View.ld D (Rect.unit (s := S31x1024) ![3, 0] ![1, 1024] inb_S31x1024_S1x1024_3_0)) (View.ld D (Rect.unit (s := S31x1024) ![11, 0] ![1, 1024] inb_S31x1024_S1x1024_11_0)) (View.ld D (Rect.unit (s := S31x1024) ![19, 0] ![1, 1024] inb_S31x1024_S1x1024_19_0))) (k0_pay10 w) (View.ld D (Rect.unit (s := S31x1024) ![27, 0] ![1, 1024] inb_S31x1024_S1x1024_27_0)) (View.ld D (Rect.unit (s := S31x1024) ![4, 0] ![1, 1024] inb_S31x1024_S1x1024_4_0)) (View.ld D (Rect.unit (s := S31x1024) ![12, 0] ![1, 1024] inb_S31x1024_S1x1024_12_0)) (View.ld D (Rect.unit (s := S31x1024) ![20, 0] ![1, 1024] inb_S31x1024_S1x1024_20_0)) (View.ld D (Rect.unit (s := S31x1024) ![28, 0] ![1, 1024] inb_S31x1024_S1x1024_28_0)) (View.ld D (Rect.unit (s := S31x1024) ![5, 0] ![1, 1024] inb_S31x1024_S1x1024_5_0)) (View.ld D (Rect.unit (s := S31x1024) ![13, 0] ![1, 1024] inb_S31x1024_S1x1024_13_0)) (View.ld D (Rect.unit (s := S31x1024) ![21, 0] ![1, 1024] inb_S31x1024_S1x1024_21_0))) (k0_pay13 w) (View.ld D (Rect.unit (s := S31x1024) ![29, 0] ![1, 1024] inb_S31x1024_S1x1024_29_0))

/-- The pieces of one trip. -/
theorem trip_eq (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S544x1024 .f32) (harg12 : arg12.IsWhole) (arg13 : Memref sig .tc .vmem S512x1024 .f32) (harg13 : arg13.IsWhole) (v34 : FVec Ideal S512x2048 .f32) (X_arg5 : BufTy.Contents (Elt Ideal) arg5.view.ty) (X_arg6 : BufTy.Contents (Elt Ideal) arg6.view.ty) (X_arg12 : BufTy.Contents (Elt Ideal) arg12.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 k
      = [⟨Rect.unit (s := S512x1024) (k0_off2 k) ![64, 1024] (k0_off2_inb k), chunk (View.ld (arg12.view.read (Elt Ideal) X_arg12)
          (Rect.unit (s := S544x1024) (k0_off1 k) ![96, 1024] (k0_off1_inb k))) (arg5.view.read (Elt Ideal) X_arg5) (arg6.view.read (Elt Ideal) X_arg6)⟩] := by
  unfold tripL_k0_t1 trip_k0_t1
  rfl

/-- The 31 taps, added in the kernel's order onto the bias, are their sum and the bias. -/
theorem order (b : EReal) (T : ℕ → EReal) :
    b + T 6 + T 14 + T 22 + T 30 + T 7 + T 15 + T 23 + T 0 + T 8 + T 16 + T 24 + T 1 + T 9 + T 17 + T 25 + T 2 + T 10 + T 18
      + T 26 + T 3 + T 11 + T 19 + T 27 + T 4 + T 12 + T 20 + T 28 + T 5 + T 13 + T 21 + T 29 = b + ∑ k ∈ Finset.range 31, T k := by
  simp only [Finset.sum_range_succ, Finset.sum_range_zero, zero_add]
  ac_rfl

/-- Row `r` of a trip: the bias plus the 31 rows from `r + 2` on, each times its tap. -/
theorem chunk_at (w : FVec Ideal S96x1024 .f32) (D : FVec Ideal S31x1024 .f32) (b : FVec Ideal S1x1024 .f32) (d : Fin 1024)
    (W T : ℕ → EReal) (hw : ∀ p : Fin 96, w (ix2 p d) = W p.val) (hD : ∀ k : Fin 31, D (ix2 k d) = T k.val) (r : Fin 64) :
    chunk w D b (ix2 r d) = b (ix2 0 d) + ∑ k ∈ Finset.range 31, W (r.val + k + 2) * T k := by
  rw [← order _ (fun k => W (r.val + k + 2) * T k)]
  pointwise [chunk, k0_pay18, k0_pay12, k0_pay9, k0_pay6, k0_pay3, k0_pay2, k0_pay4, k0_pay5, k0_pay7, k0_pay8, k0_pay10, k0_pay11, k0_pay13, hw, hD]
  have hr := r.isLt
  iterate 31 refine congrArg₂ (· + ·) ?_ (congrArg₂ (· * ·) (congrArg W (by omega)) rfl)
  rfl

/-- The pieces of the trips before `n` are one for each trip. -/
theorem mem_pb (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S544x1024 .f32) (harg12 : arg12.IsWhole) (arg13 : Memref sig .tc .vmem S512x1024 .f32) (harg13 : arg13.IsWhole) (v34 : FVec Ideal S512x2048 .f32) (X_arg5 : BufTy.Contents (Elt Ideal) arg5.view.ty) (X_arg6 : BufTy.Contents (Elt Ideal) arg6.view.ty) (X_arg12 : BufTy.Contents (Elt Ideal) arg12.view.ty) (p : View.Piece (Elt Ideal) S512x1024 .f32) : ∀ n : ℕ, n ≤ k0_t1_loop.trips →
    (p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 n ↔ ∃ k : Fin k0_t1_loop.trips, k.val < n ∧ p = (⟨Rect.unit (s := S512x1024) (k0_off2 k) ![64, 1024] (k0_off2_inb k), chunk (View.ld (arg12.view.read (Elt Ideal) X_arg12)
          (Rect.unit (s := S544x1024) (k0_off1 k) ![96, 1024] (k0_off1_inb k))) (arg5.view.read (Elt Ideal) X_arg5) (arg6.view.read (Elt Ideal) X_arg6)⟩ : View.Piece (Elt Ideal) S512x1024 .f32))
  | 0, _ => ⟨fun h => absurd h List.not_mem_nil, fun ⟨k, h, _⟩ => absurd h (Nat.not_lt_zero _)⟩
  | n + 1, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 ⟨n, h⟩
    rw [trip_eq] at e
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 (n + 1) = _ from e, List.singleton_append, List.mem_cons, mem_pb 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 p n (Nat.le_of_succ_le h)]
    constructor
    · rintro (rfl | ⟨k, hk, rfl⟩)
      · exact ⟨⟨n, h⟩, Nat.lt_succ_self n, rfl⟩
      · exact ⟨k, Nat.lt_succ_of_lt hk, rfl⟩
    · rintro ⟨k, hk, rfl⟩
      rcases Nat.lt_succ_iff_lt_or_eq.mp hk with hk | hk
      · exact Or.inr ⟨k, hk, rfl⟩
      · obtain rfl : k = ⟨n, h⟩ := Fin.ext hk
        exact Or.inl rfl

/-- What the loop leaves: at every row the bias plus the 31 rows from two rows on, each times its tap. -/
theorem rows_at (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S544x1024 .f32) (harg12 : arg12.IsWhole) (arg13 : Memref sig .tc .vmem S512x1024 .f32) (harg13 : arg13.IsWhole) (v34 : FVec Ideal S512x2048 .f32) (X_arg5 : BufTy.Contents (Elt Ideal) arg5.view.ty) (X_arg6 : BufTy.Contents (Elt Ideal) arg6.view.ty) (X_arg12 : BufTy.Contents (Elt Ideal) arg12.view.ty) (V T : Fin 1024 → ℕ → EReal)
    (hV : ∀ (p : Fin 544) (d : Fin 1024), arg12.view.read (Elt Ideal) X_arg12 (ix2 p d) = V d p.val)
    (hT : ∀ (k : Fin 31) (d : Fin 1024), arg5.view.read (Elt Ideal) X_arg5 (ix2 k d) = T d k.val) (y : S512x1024.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 k0_t1_loop.trips) y
      = arg6.view.read (Elt Ideal) X_arg6 (ix2 0 (y 1)) + ∑ k ∈ Finset.range 31, V (y 1) ((y 0).val + k + 2) * T (y 1) k := by
  refine View.canon_apply_of_pieces (fun y => arg6.view.read (Elt Ideal) X_arg6 (ix2 0 (y 1)) + ∑ k ∈ Finset.range 31, V (y 1) ((y 0).val + k + 2) * T (y 1) k)
    _ (fun p hp => ?_) y ?_
  · obtain ⟨k, -, rfl⟩ := (mem_pb 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 p _ le_rfl).mp hp
    have hk : k.val < 8 := Nat.lt_of_lt_of_le k.isLt k0_t1_abs.2.1
    intro x
    obtain ⟨r, d, rfl⟩ : ∃ (r : Fin 64) (d : Fin 1024), x = ix2 r d := ⟨x 0, x 1, ValueIdx.eq_ix2 (n0 := 64) (n1 := 1024) x⟩
    have e : (Rect.unit (s := S512x1024) (k0_off2 k) ![64, 1024] (k0_off2_inb k)).emb (ix2 r d) = ix2 ⟨64 * k.val + r.val, by omega⟩ d := by
      funext a
      refine Fin.ext ((ValueKit.rect_emb_unit_val _ _ _ _ _).trans ((congrArg (· + _) (congrFun (k0_off2_eq k) a)).trans ?_))
      match a with
      | ⟨0, _⟩ => rfl
      | ⟨1, _⟩ => exact Nat.zero_add _
    dsimp only
    rw [e, chunk_at _ _ _ d (fun n => V d (64 * k.val + n)) (T d) (fun p => ?_) (fun n => hT n d)]
    · refine congrArg₂ (· + ·) rfl (Finset.sum_congr rfl fun n _ => congrArg₂ (· * ·) (congrArg (V d) ?_) rfl)
      show 64 * k.val + (r.val + n + 2) = 64 * k.val + r.val + n + 2
      omega
    · refine Eq.trans (congrArg (arg12.view.read (Elt Ideal) X_arg12) ?_) (hV ⟨64 * k.val + p.val, by omega⟩ d)
      funext a
      refine Fin.ext ((ValueKit.rect_emb_unit_val _ _ _ _ _).trans ((congrArg (· + _) (congrFun (k0_off1_eq k) a)).trans ?_))
      match a with
      | ⟨0, _⟩ => rfl
      | ⟨1, _⟩ => exact Nat.zero_add _
  · have h0 : (y 0).val < 512 := (y 0).isLt
    have h1 : (y 1).val < 1024 := (y 1).isLt
    have ht : k0_t1_loop.trips = 8 := by decide +kernel
    refine ⟨_, (mem_pb 𝒱 c bd i arg1 harg1 arg2 harg2 arg3 harg3 arg4 harg4 arg5 harg5 arg6 harg6 arg7 harg7 arg8 harg8 arg9 harg9 arg10 harg10 arg11 harg11 arg12 harg12 arg13 harg13 v34 X_arg5 X_arg6 X_arg12 _ _ le_rfl).mpr ⟨⟨(y 0).val / 64, by omega⟩, lt_of_lt_of_eq (by omega : (y 0).val / 64 < 8) ht.symm, rfl⟩, ?_⟩
    refine (Rect.mem_set_unit (inb := k0_off2_inb _)).mpr fun a => ?_
    rw [k0_off2_eq]
    match a with
    | ⟨0, _⟩ => exact ⟨by show 64 * ((y 0).val / 64) ≤ (y 0).val; omega, by show (y 0).val < 64 * ((y 0).val / 64) + 64; omega⟩
    | ⟨1, _⟩ => exact ⟨Nat.zero_le _, by show (y 1).val < 0 + 1024; omega⟩

end Cert.ConvValue

end
-- ==== Proof.ConvMath.lean ====
/- The convolution block as formulas of its arguments: what the kernel's payloads and the reference's terms hold at an
   index. -/
module

public import proofs.«01_k».proof.Proof.Gen.ConvIdeal.Skeleton
public import proofs.«01_k».proof.Proof.Gen.ConvRefIdeal.Read
public import proofs.«01_k».proof.Proof.MlpMath

@[expose] public section

set_option maxRecDepth 16384

noncomputable section

namespace Cert.ConvMath

open Idealize.ShloMosaic Idealize.ShloMosaic.TcCoe Idealize.SL.Sem
open Cert.ConvIdeal Cert.ConvIdeal.Gen
open Cert.MlpMath (rmsn)

/-- The logistic function. -/
def sig (x : EReal) : EReal := Ideal.div 1 (1 + Ideal.exp (-x))

/-- One entry of the first product with its bias. -/
def lin (x g : Fin 1024 → EReal) (W : Fin 1024 → Fin 2048 → EReal) (b : Fin 2048 → EReal) (j : Fin 2048) : EReal :=
  ∑ k, rmsn x g k * W k j + b j

/-- One gated unit: a column of the first half times the logistic of its column in the second. -/
def glu (x g : Fin 1024 → EReal) (W : Fin 1024 → Fin 2048 → EReal) (b : Fin 2048 → EReal) (d : Fin 1024) : EReal :=
  lin x g W b ⟨d.val, by omega⟩ * sig (lin x g W b ⟨1024 + d.val, by omega⟩)

/-- One entry of a row less the row's mean. -/
def cen (c : Fin 1024 → EReal) (j : Fin 1024) : EReal := c j - Ideal.div (∑ l, c l) (Ideal.ofBits .f32 0x44800000#32)

/-- One entry of a row's layer norm. -/
def lnorm (c g b : Fin 1024 → EReal) (j : Fin 1024) : EReal :=
  cen c j * Ideal.rsqrt (Ideal.div (∑ l, cen c l * cen c l) (Ideal.ofBits .f32 0x44800000#32) + Ideal.ofBits .f32 0x358637BD#32) * g j + b j

/-- One entry of the block's result from the row, its convolved row and the parameters. -/
def fin (x c g b : Fin 1024 → EReal) (W : Fin 1024 → Fin 1024 → EReal) (bo : Fin 1024 → EReal) (j : Fin 1024) : EReal :=
  x j + (∑ k, lnorm c g b k * sig (lnorm c g b k) * W k j + bo j)

/-- The kernel's gated units. -/
theorem pay17_at (x : FVec Ideal S512x1024 .f32) (g : FVec Ideal S1x1024 .f32) (W : FVec Ideal S1024x2048 .bf16) (b : FVec Ideal S1x2048 .f32)
    (r : Fin 512) (d : Fin 1024) :
    k0_pay17 (F := Ideal) (k0_pay16 x g W) b (ix2 r d)
      = glu (fun k => x (ix2 r k)) (fun k => g (ix2 0 k)) (fun k j => W (ix2 k j)) (fun j => b (ix2 0 j)) d := by
  pointwise [k0_pay17, k0_pay16, glu, lin, sig, rmsn]
  simp only [zero_sub]

/-- The kernel's result from the convolved rows. -/
theorem pay1_at (x c : FVec Ideal S512x1024 .f32) (g b : FVec Ideal S1x1024 .f32) (W : FVec Ideal S1024x1024 .bf16) (bo : FVec Ideal S1x1024 .f32)
    (r : Fin 512) (j : Fin 1024) :
    k0_pay1 (F := Ideal) x (k0_pay19 c g) b W bo (ix2 r j)
      = fin (fun k => x (ix2 r k)) (fun k => c (ix2 r k)) (fun k => g (ix2 0 k)) (fun k => b (ix2 0 k)) (fun k l => W (ix2 k l)) (fun k => bo (ix2 0 k)) j := by
  pointwise [k0_pay1, k0_pay19, fin, lnorm, sig, cen]
  simp only [zero_sub, add_assoc]

variable (X : FVec Ideal S16384x1024 .f32) (g : FVec Ideal S1024 .f32) (W : FVec Ideal S1024x2048 .f32) (b : FVec Ideal S2048 .f32)
  (D : FVec Ideal S31x1024 .f32) (db lg lb : FVec Ideal S1024 .f32) (Wo : FVec Ideal S1024x1024 .f32) (bo : FVec Ideal S1024 .f32)

/-- The reference's gated units. -/
theorem ref25_at (i : Fin 16384) (d : Fin 1024) : Cert.ConvRefIdeal.Read.val_main_v25 (F := Ideal) X g W b (ix2 i d)
    = glu (fun k => X (ix2 i k)) (fun k => g (ix1 k)) (fun k j => W (ix2 k j)) (fun j => b (ix1 j)) d := by
  pointwise [Cert.ConvRefIdeal.Read.val_main_v25, Cert.ConvRefIdeal.Read.val_main_v24, Cert.ConvRefIdeal.Read.val_main_v23, Cert.ConvRefIdeal.Read.val_main_cst_3, Cert.ConvRefIdeal.Read.val_main_v22, Cert.ConvRefIdeal.Read.val_main_v21, Cert.ConvRefIdeal.Read.val_main_cst_2, Cert.ConvRefIdeal.Read.val_main_v20, Cert.ConvRefIdeal.Read.val_main_v19, Cert.ConvRefIdeal.Read.val_main_v18, Cert.ConvRefIdeal.Read.val_main_v17, Cert.ConvRefIdeal.Read.val_main_v16, Cert.ConvRefIdeal.Read.val_main_v15, Cert.ConvRefIdeal.Read.val_main_v14, Cert.ConvRefIdeal.Read.val_main_v13, Cert.ConvRefIdeal.Read.val_main_v12, Cert.ConvRefIdeal.Read.val_main_v11, Cert.ConvRefIdeal.Read.val_main_v10, Cert.ConvRefIdeal.Read.val_main_v9, Cert.ConvRefIdeal.Read.val_main_v8, Cert.ConvRefIdeal.Read.val_main_v7, Cert.ConvRefIdeal.Read.val_main_v6, Cert.ConvRefIdeal.Read.val_main_v5, Cert.ConvRefIdeal.Read.val_main_cst_1, Cert.ConvRefIdeal.Read.val_main_v4, Cert.ConvRefIdeal.Read.val_main_v3, Cert.ConvRefIdeal.Read.val_main_cst_0, Cert.ConvRefIdeal.Read.val_main_v2, Cert.ConvRefIdeal.Read.val_main_v1, Cert.ConvRefIdeal.Read.val_main_cst, Cert.ConvRefIdeal.Read.val_main_v0, glu, lin, sig, rmsn]

/-- The reference's padded units: zero in the first 30 rows of a sequence. -/
theorem ref27_at (q : Fin 2) (n : Fin 8222) (d : Fin 1024) : Cert.ConvRefIdeal.Read.val_main_v27 (F := Ideal) X g W b (ix3 q n d)
    = if h : 30 ≤ n.val then Cert.ConvRefIdeal.Read.val_main_v25 (F := Ideal) X g W b (ix2 ⟨q.val * 8192 + n.val - 30, by omega⟩ d) else 0 := by
  pointwise [Cert.ConvRefIdeal.Read.val_main_v27, Cert.ConvRefIdeal.Read.val_main_call0_v0, Cert.ConvRefIdeal.Read.val_main_c, Cert.ConvRefIdeal.Read.val_main_v26]
  have hn := n.isLt
  by_cases h : 30 ≤ n.val
  · rw [dif_pos ⟨h, by omega⟩, dif_pos h]
    exact congrArg (fun k => Cert.ConvRefIdeal.Read.val_main_v25 (F := Ideal) X g W b (ix2 k d)) (Fin.ext (by show q.val * 8192 + (n.val - 30) = q.val * 8192 + n.val - 30; omega))
  · rw [dif_neg fun k => h k.1, dif_neg h]
    simp [FloatOps.sitofp]

/-- The reference's convolved rows. -/
theorem ref249_at (i : Fin 16384) (d : Fin 1024) (P T : ℕ → EReal)
    (hP : ∀ n : Fin 8222, Cert.ConvRefIdeal.Read.val_main_v27 (F := Ideal) X g W b (ix3 ⟨i.val / 8192, by omega⟩ n d) = P n.val)
    (hD : ∀ k : Fin 31, D (ix2 k d) = T k.val) :
    Cert.ConvRefIdeal.Read.val_main_v249 (F := Ideal) X g W b D db (ix2 i d)
      = db (ix1 d) + ∑ k ∈ Finset.range 31, P (i.val % 8192 + k) * T k := by
  pointwise [Cert.ConvRefIdeal.Read.val_main_v249, Cert.ConvRefIdeal.Read.val_main_v248, Cert.ConvRefIdeal.Read.val_main_v247, Cert.ConvRefIdeal.Read.val_main_v246, Cert.ConvRefIdeal.Read.val_main_v245, Cert.ConvRefIdeal.Read.val_main_v244, Cert.ConvRefIdeal.Read.val_main_v243, Cert.ConvRefIdeal.Read.val_main_v242, Cert.ConvRefIdeal.Read.val_main_v241, Cert.ConvRefIdeal.Read.val_main_v240, Cert.ConvRefIdeal.Read.val_main_v239, Cert.ConvRefIdeal.Read.val_main_v238, Cert.ConvRefIdeal.Read.val_main_v237, Cert.ConvRefIdeal.Read.val_main_v236, Cert.ConvRefIdeal.Read.val_main_v235, Cert.ConvRefIdeal.Read.val_main_v234, Cert.ConvRefIdeal.Read.val_main_v233, Cert.ConvRefIdeal.Read.val_main_v232, Cert.ConvRefIdeal.Read.val_main_v231, Cert.ConvRefIdeal.Read.val_main_v230, Cert.ConvRefIdeal.Read.val_main_v229, Cert.ConvRefIdeal.Read.val_main_v228, Cert.ConvRefIdeal.Read.val_main_v227, Cert.ConvRefIdeal.Read.val_main_v226, Cert.ConvRefIdeal.Read.val_main_v225, Cert.ConvRefIdeal.Read.val_main_v224, Cert.ConvRefIdeal.Read.val_main_v223, Cert.ConvRefIdeal.Read.val_main_v222, Cert.ConvRefIdeal.Read.val_main_v221, Cert.ConvRefIdeal.Read.val_main_v220, Cert.ConvRefIdeal.Read.val_main_v219, Cert.ConvRefIdeal.Read.val_main_v218, Cert.ConvRefIdeal.Read.val_main_v217, Cert.ConvRefIdeal.Read.val_main_v216, Cert.ConvRefIdeal.Read.val_main_v215, Cert.ConvRefIdeal.Read.val_main_v214, Cert.ConvRefIdeal.Read.val_main_v213, Cert.ConvRefIdeal.Read.val_main_v212, Cert.ConvRefIdeal.Read.val_main_v211, Cert.ConvRefIdeal.Read.val_main_v210, Cert.ConvRefIdeal.Read.val_main_v209, Cert.ConvRefIdeal.Read.val_main_v208, Cert.ConvRefIdeal.Read.val_main_v207, Cert.ConvRefIdeal.Read.val_main_v206, Cert.ConvRefIdeal.Read.val_main_v205, Cert.ConvRefIdeal.Read.val_main_v204, Cert.ConvRefIdeal.Read.val_main_v203, Cert.ConvRefIdeal.Read.val_main_v202, Cert.ConvRefIdeal.Read.val_main_v201, Cert.ConvRefIdeal.Read.val_main_v200, Cert.ConvRefIdeal.Read.val_main_v199, Cert.ConvRefIdeal.Read.val_main_v198, Cert.ConvRefIdeal.Read.val_main_v197, Cert.ConvRefIdeal.Read.val_main_v196, Cert.ConvRefIdeal.Read.val_main_v195, Cert.ConvRefIdeal.Read.val_main_v194, Cert.ConvRefIdeal.Read.val_main_v193, Cert.ConvRefIdeal.Read.val_main_v192, Cert.ConvRefIdeal.Read.val_main_v191, Cert.ConvRefIdeal.Read.val_main_v190, Cert.ConvRefIdeal.Read.val_main_v189, Cert.ConvRefIdeal.Read.val_main_v188, Cert.ConvRefIdeal.Read.val_main_v187, Cert.ConvRefIdeal.Read.val_main_v186, Cert.ConvRefIdeal.Read.val_main_v185, Cert.ConvRefIdeal.Read.val_main_v184, Cert.ConvRefIdeal.Read.val_main_v183, Cert.ConvRefIdeal.Read.val_main_v182, Cert.ConvRefIdeal.Read.val_main_v181, Cert.ConvRefIdeal.Read.val_main_v180, Cert.ConvRefIdeal.Read.val_main_v179, Cert.ConvRefIdeal.Read.val_main_v178, Cert.ConvRefIdeal.Read.val_main_v177, Cert.ConvRefIdeal.Read.val_main_v176, Cert.ConvRefIdeal.Read.val_main_v175, Cert.ConvRefIdeal.Read.val_main_v174, Cert.ConvRefIdeal.Read.val_main_v173, Cert.ConvRefIdeal.Read.val_main_v172, Cert.ConvRefIdeal.Read.val_main_v171, Cert.ConvRefIdeal.Read.val_main_v170, Cert.ConvRefIdeal.Read.val_main_v169, Cert.ConvRefIdeal.Read.val_main_v168, Cert.ConvRefIdeal.Read.val_main_v167, Cert.ConvRefIdeal.Read.val_main_v166, Cert.ConvRefIdeal.Read.val_main_v165, Cert.ConvRefIdeal.Read.val_main_v164, Cert.ConvRefIdeal.Read.val_main_v163, Cert.ConvRefIdeal.Read.val_main_v162, Cert.ConvRefIdeal.Read.val_main_v161, Cert.ConvRefIdeal.Read.val_main_v160, Cert.ConvRefIdeal.Read.val_main_v159, Cert.ConvRefIdeal.Read.val_main_v158, Cert.ConvRefIdeal.Read.val_main_v157, Cert.ConvRefIdeal.Read.val_main_v156, Cert.ConvRefIdeal.Read.val_main_v155, Cert.ConvRefIdeal.Read.val_main_v154, Cert.ConvRefIdeal.Read.val_main_v153, Cert.ConvRefIdeal.Read.val_main_v152, Cert.ConvRefIdeal.Read.val_main_v151, Cert.ConvRefIdeal.Read.val_main_v150, Cert.ConvRefIdeal.Read.val_main_v149, Cert.ConvRefIdeal.Read.val_main_v148, Cert.ConvRefIdeal.Read.val_main_v147, Cert.ConvRefIdeal.Read.val_main_v146, Cert.ConvRefIdeal.Read.val_main_v145, Cert.ConvRefIdeal.Read.val_main_v144, Cert.ConvRefIdeal.Read.val_main_v143, Cert.ConvRefIdeal.Read.val_main_v142, Cert.ConvRefIdeal.Read.val_main_v141, Cert.ConvRefIdeal.Read.val_main_v140, Cert.ConvRefIdeal.Read.val_main_v139, Cert.ConvRefIdeal.Read.val_main_v138, Cert.ConvRefIdeal.Read.val_main_v137, Cert.ConvRefIdeal.Read.val_main_v136, Cert.ConvRefIdeal.Read.val_main_v135, Cert.ConvRefIdeal.Read.val_main_v134, Cert.ConvRefIdeal.Read.val_main_v133, Cert.ConvRefIdeal.Read.val_main_v132, Cert.ConvRefIdeal.Read.val_main_v131, Cert.ConvRefIdeal.Read.val_main_v130, Cert.ConvRefIdeal.Read.val_main_v129, Cert.ConvRefIdeal.Read.val_main_v128, Cert.ConvRefIdeal.Read.val_main_v127, Cert.ConvRefIdeal.Read.val_main_v126, Cert.ConvRefIdeal.Read.val_main_v125, Cert.ConvRefIdeal.Read.val_main_v124, Cert.ConvRefIdeal.Read.val_main_v123, Cert.ConvRefIdeal.Read.val_main_v122, Cert.ConvRefIdeal.Read.val_main_v121, Cert.ConvRefIdeal.Read.val_main_v120, Cert.ConvRefIdeal.Read.val_main_v119, Cert.ConvRefIdeal.Read.val_main_v118, Cert.ConvRefIdeal.Read.val_main_v117, Cert.ConvRefIdeal.Read.val_main_v116, Cert.ConvRefIdeal.Read.val_main_v115, Cert.ConvRefIdeal.Read.val_main_v114, Cert.ConvRefIdeal.Read.val_main_v113, Cert.ConvRefIdeal.Read.val_main_v112, Cert.ConvRefIdeal.Read.val_main_v111, Cert.ConvRefIdeal.Read.val_main_v110, Cert.ConvRefIdeal.Read.val_main_v109, Cert.ConvRefIdeal.Read.val_main_v108, Cert.ConvRefIdeal.Read.val_main_v107, Cert.ConvRefIdeal.Read.val_main_v106, Cert.ConvRefIdeal.Read.val_main_v105, Cert.ConvRefIdeal.Read.val_main_v104, Cert.ConvRefIdeal.Read.val_main_v103, Cert.ConvRefIdeal.Read.val_main_v102, Cert.ConvRefIdeal.Read.val_main_v101, Cert.ConvRefIdeal.Read.val_main_v100, Cert.ConvRefIdeal.Read.val_main_v99, Cert.ConvRefIdeal.Read.val_main_v98, Cert.ConvRefIdeal.Read.val_main_v97, Cert.ConvRefIdeal.Read.val_main_v96, Cert.ConvRefIdeal.Read.val_main_v95, Cert.ConvRefIdeal.Read.val_main_v94, Cert.ConvRefIdeal.Read.val_main_v93, Cert.ConvRefIdeal.Read.val_main_v92, Cert.ConvRefIdeal.Read.val_main_v91, Cert.ConvRefIdeal.Read.val_main_v90, Cert.ConvRefIdeal.Read.val_main_v89, Cert.ConvRefIdeal.Read.val_main_v88, Cert.ConvRefIdeal.Read.val_main_v87, Cert.ConvRefIdeal.Read.val_main_v86, Cert.ConvRefIdeal.Read.val_main_v85, Cert.ConvRefIdeal.Read.val_main_v84, Cert.ConvRefIdeal.Read.val_main_v83, Cert.ConvRefIdeal.Read.val_main_v82, Cert.ConvRefIdeal.Read.val_main_v81, Cert.ConvRefIdeal.Read.val_main_v80, Cert.ConvRefIdeal.Read.val_main_v79, Cert.ConvRefIdeal.Read.val_main_v78, Cert.ConvRefIdeal.Read.val_main_v77, Cert.ConvRefIdeal.Read.val_main_v76, Cert.ConvRefIdeal.Read.val_main_v75, Cert.ConvRefIdeal.Read.val_main_v74, Cert.ConvRefIdeal.Read.val_main_v73, Cert.ConvRefIdeal.Read.val_main_v72, Cert.ConvRefIdeal.Read.val_main_v71, Cert.ConvRefIdeal.Read.val_main_v70, Cert.ConvRefIdeal.Read.val_main_v69, Cert.ConvRefIdeal.Read.val_main_v68, Cert.ConvRefIdeal.Read.val_main_v67, Cert.ConvRefIdeal.Read.val_main_v66, Cert.ConvRefIdeal.Read.val_main_v65, Cert.ConvRefIdeal.Read.val_main_v64, Cert.ConvRefIdeal.Read.val_main_v63, Cert.ConvRefIdeal.Read.val_main_v62, Cert.ConvRefIdeal.Read.val_main_v61, Cert.ConvRefIdeal.Read.val_main_v60, Cert.ConvRefIdeal.Read.val_main_v59, Cert.ConvRefIdeal.Read.val_main_v58, Cert.ConvRefIdeal.Read.val_main_v57, Cert.ConvRefIdeal.Read.val_main_v56, Cert.ConvRefIdeal.Read.val_main_v55, Cert.ConvRefIdeal.Read.val_main_v54, Cert.ConvRefIdeal.Read.val_main_v53, Cert.ConvRefIdeal.Read.val_main_v52, Cert.ConvRefIdeal.Read.val_main_v51, Cert.ConvRefIdeal.Read.val_main_v50, Cert.ConvRefIdeal.Read.val_main_v49, Cert.ConvRefIdeal.Read.val_main_v48, Cert.ConvRefIdeal.Read.val_main_v47, Cert.ConvRefIdeal.Read.val_main_v46, Cert.ConvRefIdeal.Read.val_main_v45, Cert.ConvRefIdeal.Read.val_main_v44, Cert.ConvRefIdeal.Read.val_main_v43, Cert.ConvRefIdeal.Read.val_main_v42, Cert.ConvRefIdeal.Read.val_main_v41, Cert.ConvRefIdeal.Read.val_main_v40, Cert.ConvRefIdeal.Read.val_main_v39, Cert.ConvRefIdeal.Read.val_main_v38, Cert.ConvRefIdeal.Read.val_main_v37, Cert.ConvRefIdeal.Read.val_main_v36, Cert.ConvRefIdeal.Read.val_main_v35, Cert.ConvRefIdeal.Read.val_main_v34, Cert.ConvRefIdeal.Read.val_main_cst_4, Cert.ConvRefIdeal.Read.val_main_v33, Cert.ConvRefIdeal.Read.val_main_v32, Cert.ConvRefIdeal.Read.val_main_v31, Cert.ConvRefIdeal.Read.val_main_v30, Cert.ConvRefIdeal.Read.val_main_v29, Cert.ConvRefIdeal.Read.val_main_v28, hP, hD]
  rw [add_comm (db _)]
  simp only [Finset.sum_range_succ, Finset.sum_range_zero, zero_add]
  refine congrArg₂ (· + ·) ?_ rfl
  iterate 30 refine congrArg₂ (· + ·) ?_ (congrArg₂ (· * ·) (congrArg P (by omega)) rfl)
  rfl

/-- The reference's result from its convolved rows. -/
theorem ref283_at (i : Fin 16384) (j : Fin 1024) : Cert.ConvRefIdeal.Read.val_main_v283 (F := Ideal) X g W b D db lg lb Wo bo (ix2 i j)
    = fin (fun k => X (ix2 i k)) (fun k => Cert.ConvRefIdeal.Read.val_main_v249 (F := Ideal) X g W b D db (ix2 i k)) (fun k => lg (ix1 k))
        (fun k => lb (ix1 k)) (fun k l => Wo (ix2 k l)) (fun k => bo (ix1 k)) j := by
  pointwise [Cert.ConvRefIdeal.Read.val_main_v283, Cert.ConvRefIdeal.Read.val_main_v282, Cert.ConvRefIdeal.Read.val_main_v281, Cert.ConvRefIdeal.Read.val_main_v280, Cert.ConvRefIdeal.Read.val_main_v279, Cert.ConvRefIdeal.Read.val_main_v278, Cert.ConvRefIdeal.Read.val_main_v277, Cert.ConvRefIdeal.Read.val_main_v276, Cert.ConvRefIdeal.Read.val_main_cst_11, Cert.ConvRefIdeal.Read.val_main_v275, Cert.ConvRefIdeal.Read.val_main_v274, Cert.ConvRefIdeal.Read.val_main_cst_10, Cert.ConvRefIdeal.Read.val_main_v273, Cert.ConvRefIdeal.Read.val_main_v272, Cert.ConvRefIdeal.Read.val_main_v271, Cert.ConvRefIdeal.Read.val_main_v270, Cert.ConvRefIdeal.Read.val_main_v269, Cert.ConvRefIdeal.Read.val_main_v268, Cert.ConvRefIdeal.Read.val_main_v267, Cert.ConvRefIdeal.Read.val_main_v266, Cert.ConvRefIdeal.Read.val_main_v265, Cert.ConvRefIdeal.Read.val_main_v264, Cert.ConvRefIdeal.Read.val_main_v263, Cert.ConvRefIdeal.Read.val_main_v262, Cert.ConvRefIdeal.Read.val_main_v261, Cert.ConvRefIdeal.Read.val_main_cst_9, Cert.ConvRefIdeal.Read.val_main_v260, Cert.ConvRefIdeal.Read.val_main_v259, Cert.ConvRefIdeal.Read.val_main_cst_8, Cert.ConvRefIdeal.Read.val_main_v258, Cert.ConvRefIdeal.Read.val_main_v257, Cert.ConvRefIdeal.Read.val_main_cst_7, Cert.ConvRefIdeal.Read.val_main_v256, Cert.ConvRefIdeal.Read.val_main_v255, Cert.ConvRefIdeal.Read.val_main_v254, Cert.ConvRefIdeal.Read.val_main_v253, Cert.ConvRefIdeal.Read.val_main_v252, Cert.ConvRefIdeal.Read.val_main_cst_6, Cert.ConvRefIdeal.Read.val_main_v251, Cert.ConvRefIdeal.Read.val_main_v250, Cert.ConvRefIdeal.Read.val_main_cst_5, fin, lnorm, sig, cen]

end Cert.ConvMath

end
-- ==== Proof.ConvValue.lean ====
/- What the convolution kernel leaves in its result array: the reference's result. -/
module

public import proofs.«01_k».proof.Proof.ConvTrip
public import proofs.«01_k».proof.Proof.ConvMath
public import Idealize.ShloMosaic.Lib.Claim

@[expose] public section

set_option maxRecDepth 16384

noncomputable section

namespace Cert.ConvValue

open Idealize.ShloMosaic Idealize.ShloMosaic.TcCoe Idealize.SL.Sem
open Idealize.ShloMosaic.Pipeline (Dat)
open Cert.ConvIdeal Cert.ConvIdeal.Gen Cert.ConvMath

/-- A tile's 544 rows: 32 rows carried in, and its own 512. -/
theorem rows_split (H : FVec Ideal S32x1024 .f32) (u : FVec Ideal S512x1024 .f32) (p : Fin 544) (d : Fin 1024) :
    View.canon (Val := Elt Ideal) (s := S544x1024) (e := .f32) [⟨Rect.unit ![32, 0] ![512, 1024] inb_S544x1024_S512x1024_32_0, u⟩,
        ⟨Rect.unit ![0, 0] ![32, 1024] inb_S544x1024_S32x1024_0_0, H⟩] (ix2 p d)
      = if h : p.val < 32 then H (ix2 ⟨p.val, h⟩ d) else u (ix2 ⟨p.val - 32, by omega⟩ d) := by
  by_cases h : p.val < 32
  · have e : (ix2 p d : S544x1024.Idx) = (Rect.unit (s := S544x1024) ![0, 0] ![32, 1024] inb_S544x1024_S32x1024_0_0).emb (ix2 ⟨p.val, h⟩ d) := by
      funext a
      refine Fin.ext (Eq.symm ((ValueKit.rect_emb_unit_val _ _ _ _ _).trans ?_))
      match a with
      | ⟨0, _⟩ => exact Nat.zero_add _
      | ⟨1, _⟩ => exact Nat.zero_add _
    rw [dif_pos h, View.canon_cons_of_not_mem _ _ fun hm => ?_]
    · rw [e]
      exact View.canon_cons_emb (Val := Elt Ideal) (e := .f32) (Rect.unit (s := S544x1024) ![0, 0] ![32, 1024] inb_S544x1024_S32x1024_0_0) H [] _
    · have := ((Rect.mem_set_unit (inb := inb_S544x1024_S512x1024_32_0)).mp hm 0).1
      change 32 ≤ p.val at this
      omega
  · have e : (ix2 p d : S544x1024.Idx) = (Rect.unit (s := S544x1024) ![32, 0] ![512, 1024] inb_S544x1024_S512x1024_32_0).emb
        (ix2 ⟨p.val - 32, by omega⟩ d) := by
      funext a
      refine Fin.ext (Eq.symm ((ValueKit.rect_emb_unit_val _ _ _ _ _).trans ?_))
      match a with
      | ⟨0, _⟩ => show 32 + (p.val - 32) = p.val; omega
      | ⟨1, _⟩ => exact Nat.zero_add _
    rw [dif_neg h, e]
    exact View.canon_cons_emb (Val := Elt Ideal) (e := .f32) (Rect.unit (s := S544x1024) ![32, 0] ![512, 1024] inb_S544x1024_S512x1024_32_0) u _ _

/-- The rows a sequence starts with are zero. -/
theorem pay14_at (p : Fin 32) (d : Fin 1024) : k0_pay14 (F := Ideal) (ix2 p d) = 0 := by
  pointwise [k0_pay14]

/-- The rows carried from the tile before are its last 32. -/
theorem pay15_at (Y : FVec Ideal S544x1024 .f32) (p : Fin 32) (d : Fin 1024) :
    k0_pay15 (F := Ideal) (View.ld Y (Rect.unit (s := S544x1024) ![512, 0] ![32, 1024] inb_S544x1024_S32x1024_512_0)) (ix2 p d)
      = Y (ix2 ⟨512 + p.val, by omega⟩ d) := by
  pointwise [k0_pay15]

variable (m : (ℓ : Loc nD τ sig) → Buf (Elt Ideal) ℓ)

/-- Every window's block at every point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] :=
  (by decide +kernel : ∀ t : Fin grid0.N, _)

/-- The tile's tokens. -/
theorem x_at (c : Dev nD) (t : Fin cfg0.N) (i : Fin 512) (k : Fin 1024) :
    iblk m c 0 t (ix2 i k) = m ((c : Thread nD τ).loc main_arg0) (ix2 ⟨t.val * 512 + i.val, by have : t.val < 32 := t.isLt; omega⟩ k) := by
  blk_point [iblk, V, idx t]

/-- The first norm's gain. -/
theorem g_at (c : Dev nD) (t : Fin cfg0.N) (k : Fin 1024) : iblk m c 1 t (ix2 0 k) = m ((c : Thread nD τ).loc main_arg1) (ix1 k) := by
  blk_point [iblk, V, idx t]

/-- The first product's weights. -/
theorem w_at (c : Dev nD) (t : Fin cfg0.N) (k : Fin 1024) (j : Fin 2048) :
    iblk m c 2 t (ix2 k j) = m ((c : Thread nD τ).loc main_arg2) (ix2 k j) := by
  blk_point [iblk, V, idx t]

/-- The first product's bias. -/
theorem b_at (c : Dev nD) (t : Fin cfg0.N) (k : Fin 2048) : iblk m c 3 t (ix2 0 k) = m ((c : Thread nD τ).loc main_arg3) (ix1 k) := by
  blk_point [iblk, V, idx t]

/-- The taps. -/
theorem d_at (c : Dev nD) (t : Fin cfg0.N) (k : Fin 31) (j : Fin 1024) :
    iblk m c 4 t (ix2 k j) = m ((c : Thread nD τ).loc main_arg4) (ix2 k j) := by
  blk_point [iblk, V, idx t]

/-- The taps' bias. -/
theorem db_at (c : Dev nD) (t : Fin cfg0.N) (k : Fin 1024) : iblk m c 5 t (ix2 0 k) = m ((c : Thread nD τ).loc main_arg5) (ix1 k) := by
  blk_point [iblk, V, idx t]

/-- The layer norm's gain. -/
theorem lg_at (c : Dev nD) (t : Fin cfg0.N) (k : Fin 1024) : iblk m c 6 t (ix2 0 k) = m ((c : Thread nD τ).loc main_arg6) (ix1 k) := by
  blk_point [iblk, V, idx t]

/-- The layer norm's bias. -/
theorem lb_at (c : Dev nD) (t : Fin cfg0.N) (k : Fin 1024) : iblk m c 7 t (ix2 0 k) = m ((c : Thread nD τ).loc main_arg7) (ix1 k) := by
  blk_point [iblk, V, idx t]

/-- The second product's weights. -/
theorem wo_at (c : Dev nD) (t : Fin cfg0.N) (k : Fin 1024) (j : Fin 1024) :
    iblk m c 8 t (ix2 k j) = m ((c : Thread nD τ).loc main_arg8) (ix2 k j) := by
  blk_point [iblk, V, idx t]

/-- The second product's bias. -/
theorem bo_at (c : Dev nD) (t : Fin cfg0.N) (k : Fin 1024) : iblk m c 9 t (ix2 0 k) = m ((c : Thread nD τ).loc main_arg9) (ix1 k) := by
  blk_point [iblk, V, idx t]

/-- The gated units of token `n`. -/
def un (c : Dev nD) (d : Fin 1024) (n : ℕ) : EReal :=
  if h : n < 16384 then Cert.ConvRefIdeal.Read.val_main_v25 (F := Ideal) (m ((c : Thread nD τ).loc main_arg0)) (m ((c : Thread nD τ).loc main_arg1))
    (m ((c : Thread nD τ).loc main_arg2)) (m ((c : Thread nD τ).loc main_arg3)) (ix2 ⟨n, h⟩ d) else 0

/-- A tap. -/
def tap (c : Dev nD) (d : Fin 1024) (k : ℕ) : EReal := if h : k < 31 then m ((c : Thread nD τ).loc main_arg4) (ix2 ⟨k, h⟩ d) else 0

/-- The rows of a tile as the kernel holds them: 32 before the tile, zero before the sequence, and the tile's. -/
def win (c : Dev nD) (t : ℕ) (d : Fin 1024) (p : ℕ) : EReal := if t % 16 = 0 ∧ p < 32 then 0 else un m c d (t * 512 + p - 32)

/-- The tile's own units. -/
theorem own (c : Dev nD) (t : Fin cfg0.N) (r : Fin 512) (d : Fin 1024) :
    k0_pay17 (F := Ideal) (k0_pay16 (iblk m c 0 t) (iblk m c 1 t) (iblk m c 2 t)) (iblk m c 3 t) (ix2 r d) = un m c d (t.val * 512 + r.val) := by
  have lt : t.val < 32 := t.isLt
  have h : t.val * 512 + r.val < 16384 := by omega
  rw [pay17_at, un, dif_pos h, ref25_at]
  simp only [x_at, g_at, w_at, b_at]

/-- The rows after a tile at the start of a sequence. -/
theorem rowsA (c : Dev nD) (t : Fin cfg0.N) (t0 : t.val % 16 = 0) :
    (outsAt0 m c t.val t.isLt).2 = View.canon (Val := Elt Ideal) (s := S544x1024) (e := .f32) [⟨Rect.unit ![32, 0] ![512, 1024] inb_S544x1024_S512x1024_32_0,
        k0_pay17 (k0_pay16 (iblk m c 0 t) (iblk m c 1 t) (iblk m c 2 t)) (iblk m c 3 t)⟩,
      ⟨Rect.unit ![0, 0] ![32, 1024] inb_S544x1024_S32x1024_0_0, k0_pay14 (F := Ideal)⟩] := by
  rw [outsAt0_A m c t t0 (fun h => h t0)]
  dsimp only
  frame_out

/-- A carried scratch reads as what the tile before left. -/
theorem readU (h : scM0_0.IsWhole) (X : S544x1024.Idx → Elt Ideal .f32) :
    @View.read sig (Elt Ideal) (@Proc.kind τ (@Proc.tc τ)) .vmem S544x1024 .f32 (View.whole cc0_scratch0) (h.unread X) = X :=
  h.read_unread X

/-- The rows after a tile inside a sequence. -/
theorem rowsB (c : Dev nD) (t : Fin cfg0.N) (t0 : ¬ t.val % 16 = 0) :
    (outsAt0 m c t.val t.isLt).2 = View.canon (Val := Elt Ideal) (s := S544x1024) (e := .f32) [⟨Rect.unit ![32, 0] ![512, 1024] inb_S544x1024_S512x1024_32_0,
        k0_pay17 (k0_pay16 (iblk m c 0 t) (iblk m c 1 t) (iblk m c 2 t)) (iblk m c 3 t)⟩,
      ⟨Rect.unit ![0, 0] ![32, 1024] inb_S544x1024_S32x1024_0_0,
        k0_pay15 (View.ld (outsAt0 m c (t.val - 1) (Nat.lt_of_le_of_lt (Nat.sub_le _ _) t.isLt)).2
          (Rect.unit (s := S544x1024) ![512, 0] ![32, 1024] inb_S544x1024_S32x1024_512_0))⟩] := by
  rw [outsAt0_B m c t t0 t0]
  dsimp only
  frame_out
  simp only [readU]

/-- The last rows after any tile are its own units. -/
theorem last (c : Dev nD) (t : Fin cfg0.N) (p : Fin 544) (hp : 32 ≤ p.val) (d : Fin 1024) :
    (outsAt0 m c t.val t.isLt).2 (ix2 p d) = un m c d (t.val * 512 + p.val - 32) := by
  have e : t.val * 512 + (p.val - 32) = t.val * 512 + p.val - 32 := by omega
  by_cases t0 : t.val % 16 = 0
  · rw [rowsA m c t t0, rows_split, dif_neg (by omega), own, ← e]
  · rw [rowsB m c t t0, rows_split, dif_neg (by omega), own, ← e]

/-- The rows of a tile at the start of a sequence. -/
theorem winA (c : Dev nD) (t : Fin cfg0.N) (t0 : t.val % 16 = 0) (p : Fin 544) (d : Fin 1024) :
    View.canon (Val := Elt Ideal) (s := S544x1024) (e := .f32) [⟨Rect.unit ![32, 0] ![512, 1024] inb_S544x1024_S512x1024_32_0,
        k0_pay17 (k0_pay16 (iblk m c 0 t) (iblk m c 1 t) (iblk m c 2 t)) (iblk m c 3 t)⟩,
      ⟨Rect.unit ![0, 0] ![32, 1024] inb_S544x1024_S32x1024_0_0, k0_pay14 (F := Ideal)⟩] (ix2 p d) = win m c t.val d p.val := by
  rw [rows_split]
  unfold win
  by_cases h : p.val < 32
  · rw [dif_pos h, if_pos ⟨t0, h⟩, pay14_at]
  · rw [dif_neg h, if_neg (fun k => h k.2), own]
    exact congrArg (un m c d) (by show t.val * 512 + (p.val - 32) = t.val * 512 + p.val - 32; omega)

/-- The rows of a tile inside a sequence. -/
theorem winB (c : Dev nD) (t : Fin cfg0.N) (t0 : ¬ t.val % 16 = 0) (p : Fin 544) (d : Fin 1024) :
    View.canon (Val := Elt Ideal) (s := S544x1024) (e := .f32) [⟨Rect.unit ![32, 0] ![512, 1024] inb_S544x1024_S512x1024_32_0,
        k0_pay17 (k0_pay16 (iblk m c 0 t) (iblk m c 1 t) (iblk m c 2 t)) (iblk m c 3 t)⟩,
      ⟨Rect.unit ![0, 0] ![32, 1024] inb_S544x1024_S32x1024_0_0,
        k0_pay15 (View.ld (outsAt0 m c (t.val - 1) (Nat.lt_of_le_of_lt (Nat.sub_le _ _) t.isLt)).2
          (Rect.unit (s := S544x1024) ![512, 0] ![32, 1024] inb_S544x1024_S32x1024_512_0))⟩] (ix2 p d) = win m c t.val d p.val := by
  rw [rows_split]
  unfold win
  rw [if_neg (fun k => t0 k.1)]
  by_cases h : p.val < 32
  · rw [dif_pos h, pay15_at]
    refine (last m c ⟨t.val - 1, Nat.lt_of_le_of_lt (Nat.sub_le _ _) t.isLt⟩ _ (by show 32 ≤ 512 + p.val; omega) d).trans (congrArg (un m c d) ?_)
    show (t.val - 1) * 512 + (512 + p.val) - 32 = t.val * 512 + p.val - 32
    omega
  · rw [dif_neg h, own]
    exact congrArg (un m c d) (by show t.val * 512 + (p.val - 32) = t.val * 512 + p.val - 32; omega)

/-- The taps' bias of a channel. -/
def tapBias (c : Dev nD) (d : Fin 1024) : EReal := m ((c : Thread nD τ).loc main_arg5) (ix1 d)

/-- The convolved row of a token as the kernel computes it. -/
def crow (c : Dev nD) (t : ℕ) (r : ℕ) (d : Fin 1024) : EReal :=
  tapBias m c d + ∑ k ∈ Finset.range 31, win m c t d (r + k + 2) * tap m c d k

/-- A tile's result from its convolved rows. -/
def tileOut (c : Dev nD) (t : Fin cfg0.N) (r : Fin 512) (j : Fin 1024) : EReal :=
  fin (fun k => m ((c : Thread nD τ).loc main_arg0) (ix2 ⟨t.val * 512 + r.val, by have : t.val < 32 := t.isLt; omega⟩ k)) (crow m c t.val r.val)
    (fun k => m ((c : Thread nD τ).loc main_arg6) (ix1 k)) (fun k => m ((c : Thread nD τ).loc main_arg7) (ix1 k))
    (fun k l => m ((c : Thread nD τ).loc main_arg8) (ix2 k l)) (fun k => m ((c : Thread nD τ).loc main_arg9) (ix1 k)) j

/-- A load of all 512 rows reads each row at its own index. -/
theorem whole_idx (r : Fin 512) (d : Fin 1024) :
    (Rect.unit (s := S512x1024) ![0, 0] ![512, 1024] inb_S512x1024_S512x1024_0_0).toLoadRect.idx (ix2 r d) = (ix2 r d : S512x1024.Idx) := by
  funext a
  refine Fin.ext ((ValueKit.rect_emb_unit_val _ _ _ _ _).trans ?_)
  match a with
  | ⟨0, _⟩ => exact Nat.zero_add _
  | ⟨1, _⟩ => exact Nat.zero_add _

/-- A tile at the start of a sequence. -/
theorem outA (c : Dev nD) (t : Fin cfg0.N) (t0 : t.val % 16 = 0) (r : Fin 512) (j : Fin 1024) :
    (outsAt0 m c t.val t.isLt).1 (ix2 r j) = tileOut m c t r j := by
  rw [outsAt0_A m c t t0 (fun h => h t0)]
  dsimp only
  frame_out
  rw [pay1_at]
  simp only [View.readCov_eq_canon', whole_idx, x_at, lg_at, lb_at, wo_at, bo_at]
  refine congrArg (fun f => fin _ f _ _ _ _ j) (funext fun d => ?_)
  refine (rows_at _ _ _ _ _ _ _ _ _ _ _ _ _ _ _ _ _ _ _ _ _ _ _ _ _ _ _ _ _ _ _ _ _ _ (win m c t.val) (tap m c) (fun p d => ?_) (fun k d => ?_) _).trans ?_
  · rw [View.read_writes_junk_eq_canon]
    exact winA m c t t0 p d
  · rw [Memref.IsWhole.read_unread, d_at, tap, dif_pos k.isLt]
  · rw [Memref.IsWhole.read_unread]
    exact congrArg (· + _) (db_at m c t d)

/-- A tile inside a sequence. -/
theorem outB (c : Dev nD) (t : Fin cfg0.N) (t0 : ¬ t.val % 16 = 0) (r : Fin 512) (j : Fin 1024) :
    (outsAt0 m c t.val t.isLt).1 (ix2 r j) = tileOut m c t r j := by
  rw [outsAt0_B m c t t0 t0]
  dsimp only
  frame_out
  rw [pay1_at]
  simp only [View.readCov_eq_canon', whole_idx, x_at, lg_at, lb_at, wo_at, bo_at]
  refine congrArg (fun f => fin _ f _ _ _ _ j) (funext fun d => ?_)
  refine (rows_at _ _ _ _ _ _ _ _ _ _ _ _ _ _ _ _ _ _ _ _ _ _ _ _ _ _ _ _ _ _ _ _ _ _ (win m c t.val) (tap m c) (fun p d => ?_) (fun k d => ?_) _).trans ?_
  · rw [View.read_writes_junk_eq_canon]
    simp only [readU]
    exact winB m c t t0 p d
  · rw [Memref.IsWhole.read_unread, d_at, tap, dif_pos k.isLt]
  · rw [Memref.IsWhole.read_unread]
    exact congrArg (· + _) (db_at m c t d)

/-- What tile `t` leaves in its output window is its tile's result. -/
theorem out (c : Dev nD) (t : Fin cfg0.N) (r : Fin 512) (j : Fin 1024) : (outsAt0 m c t.val t.isLt).1 (ix2 r j) = tileOut m c t r j := by
  by_cases t0 : t.val % 16 = 0
  · exact outA m c t t0 r j
  · exact outB m c t t0 r j

/-- The reference's row. -/
theorem ref_at (c : Dev nD) (t : Fin cfg0.N) (r : Fin 512) (j : Fin 1024) :
    Cert.ConvRefIdeal.Read.val_main_v283 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (ix2 ⟨t.val * 512 + r.val, by have : t.val < 32 := t.isLt; omega⟩ j) = tileOut m c t r j := by
  have lt : t.val < 32 := t.isLt
  have hr := r.isLt
  rw [ref283_at]
  refine congrArg (fun f => fin _ f _ _ _ _ j) (funext fun d => ?_)
  rw [ref249_at _ _ _ _ _ _ _ _ (fun n => if 30 ≤ n then un m c d ((t.val * 512 + r.val) / 8192 * 8192 + n - 30) else 0) (tap m c d)
    (fun n => ?_) (fun k => ?_)]
  · refine congrArg₂ (· + ·) rfl (Finset.sum_congr rfl fun k hk => congrArg₂ (· * ·) ?_ rfl)
    have hk : k < 31 := Finset.mem_range.mp hk
    unfold win
    by_cases h : t.val % 16 = 0 ∧ r.val + k + 2 < 32
    · rw [if_pos h, if_neg]
      show ¬ 30 ≤ (t.val * 512 + r.val) % 8192 + k
      omega
    · rw [if_neg h, if_pos]
      · refine congrArg (un m c d) ?_
        show (t.val * 512 + r.val) / 8192 * 8192 + ((t.val * 512 + r.val) % 8192 + k) - 30 = t.val * 512 + (r.val + k + 2) - 32
        omega
      · show 30 ≤ (t.val * 512 + r.val) % 8192 + k
        omega
  · have hn := n.isLt
    rw [ref27_at]
    by_cases h : 30 ≤ n.val
    · rw [dif_pos h, if_pos h, un, dif_pos]
    · rw [dif_neg h, if_neg h]
  · rw [tap, dif_pos k.isLt]

/-- The result array at the end is the reference's result. -/
theorem final (c : Dev nD) : (dats m 0 c).arrAt 10 (cfgs 0).N
    = Cert.ConvRefIdeal.Read.val_main_v283 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  idx_vars y
  have lt : t.val < 32 := t.isLt
  refine (out m c t y0 y1).trans ((ref_at m c t y0 y1).symm.trans ?_)
  generalize Cert.ConvRefIdeal.Read.val_main_v283 (F := Ideal) _ _ _ _ _ _ _ _ _ _ = R
  blk_point [idx t]

end Cert.ConvValue

end
-- ==== Proof.ConvAlgebraic.lean ====
/- The convolution kernel and its reference leave equal results. -/
module

public import proofs.«01_k».proof.Defs
public import proofs.«01_k».proof.Proof.ConvValue
public import proofs.«01_k».proof.Proof.Gen.ConvRefIdeal.Run
public import proofs.«01_k».proof.Proof.Gen.ConvRefIdeal.Read

@[expose] public section

set_option maxRecDepth 16384

noncomputable section

namespace Cert.ConvValue

open Idealize.ShloMosaic Idealize.ShloMosaic.TcCoe Idealize.SL.Sem

/-- Over the extended reals the convolution kernel's result array is the reference's. -/
theorem algebraic : Cert.algebraic_ConvIdeal_ConvRefIdeal := by
  pair_intro
  · run_from Cert.ConvIdeal.Gen.run_main m g
  · run_from Cert.ConvRefIdeal.Value.run m' g'
    refine Eq.trans ?_ (final m c).symm
    obtain ⟨a0, a1, a2, a3, a4, a5, a6, a7, a8, a9⟩ := hagree c
    rw [← a0, ← a1, ← a2, ← a3, ← a4, ← a5, ← a6, ← a7, ← a8, ← a9]
    exact Cert.ConvRefIdeal.Read.val_main_v283_eq (F := Ideal) (StableHlo.launchContents m' c)

end Cert.ConvValue

end
-- ==== Proof.lean ====
/- The proof of every claim of this directory: the programs' runs, then each call beside its reference. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasRefIdeal
public import proofs.«01_k».proof.Proof.Gen.BiasRefIdeal.Run
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.MlpAlgebraic
public import proofs.«01_k».proof.Proof.AttnAlgebraic
public import proofs.«01_k».proof.Proof.BiasAlgebraic
public import proofs.«01_k».proof.Proof.ConvAlgebraic
public import Idealize.ShloMosaic.Lib.Claim
public import Idealize.ShloMosaic.Adequacy
public import Idealize.ShloMosaic.Init

@[expose] public section

noncomputable section

namespace Cert.Proof

open Idealize.ShloMosaic Idealize.SL.Sem Cert.Mlp

/-- The feed-forward reference runs, leaves its arguments as they were and every counter at zero. -/
theorem frame_MlpRefIdeal : Cert.quiescent_MlpRefIdeal (hMlpRefIdeal := Cert.MlpRefIdeal.Gen.facts) := by
  intro m g _
  exact (θ_run _ _ _).mono (fun r h => ⟨fun c => (h c).2, sem_eq_zero_of_no_sems (by decide) r.2⟩) (Cert.MlpRefIdeal.Value.run (F := Ideal) m g)
/-- The attention reference runs, leaves its arguments as they were and every counter at zero. -/
theorem frame_AttnRefIdeal : Cert.quiescent_AttnRefIdeal (hAttnRefIdeal := Cert.AttnRefIdeal.Gen.facts) := by
  intro m g _
  exact (θ_run _ _ _).mono (fun r h => ⟨fun c => (h c).2, sem_eq_zero_of_no_sems (by decide) r.2⟩) (Cert.AttnRefIdeal.Value.run (F := Ideal) m g)
/-- The bias reference runs, leaves its arguments as they were and every counter at zero. -/
theorem frame_BiasRefIdeal : Cert.quiescent_BiasRefIdeal (hBiasRefIdeal := Cert.BiasRefIdeal.Gen.facts) := by
  intro m g _
  exact (θ_run _ _ _).mono (fun r h => ⟨fun c => (h c).2, sem_eq_zero_of_no_sems (by decide) r.2⟩) (Cert.BiasRefIdeal.Value.run (F := Ideal) m g)
/-- The convolution reference runs, leaves its arguments as they were and every counter at zero. -/
theorem frame_ConvRefIdeal : Cert.quiescent_ConvRefIdeal (hConvRefIdeal := Cert.ConvRefIdeal.Gen.facts) := by
  intro m g _
  exact (θ_run _ _ _).mono (fun r h => ⟨fun c => (h c).2, sem_eq_zero_of_no_sems (by decide) r.2⟩) (Cert.ConvRefIdeal.Value.run (F := Ideal) m g)
/-- Every claim of this directory. -/
theorem claim : Cert.Claim :=
  ⟨Cert.Mlp.Gen.facts,
    Cert.MlpIdeal.Gen.facts,
    Cert.MlpRefIdeal.Gen.facts,
    Cert.Attn.Gen.facts,
    Cert.AttnIdeal.Gen.facts,
    Cert.AttnRefIdeal.Gen.facts,
    Cert.Bias.Gen.facts,
    Cert.BiasIdeal.Gen.facts,
    Cert.BiasRefIdeal.Gen.facts,
    Cert.Conv.Gen.facts,
    Cert.ConvIdeal.Gen.facts,
    Cert.ConvRefIdeal.Gen.facts,
    Cert.AttnValue.preFacts,
    fun m ρ _ => Cert.Mlp.Gen.frame m ρ,
    fun m ρ _ => Cert.MlpIdeal.Gen.frame m ρ,
    frame_MlpRefIdeal,
    fun m ρ _ => Cert.Attn.Gen.frame m ρ,
    fun m ρ _ => Cert.AttnIdeal.Gen.frame m ρ,
    fun m ρ _ => Cert.AttnIdeal.Gen.frame m ρ,
    frame_AttnRefIdeal,
    fun m ρ _ => frame_AttnRefIdeal m ρ trivial,
    fun m ρ _ => Cert.Bias.Gen.frame m ρ,
    fun m ρ _ => Cert.BiasIdeal.Gen.frame m ρ,
    frame_BiasRefIdeal,
    fun m ρ _ => Cert.Conv.Gen.frame m ρ,
    fun m ρ _ => Cert.ConvIdeal.Gen.frame m ρ,
    frame_ConvRefIdeal,
    trivial,
    Cert.MlpValue.algebraic,
    trivial,
    Cert.AttnValue.algebraic,
    trivial,
    Cert.BiasValue.algebraic,
    trivial,
    Cert.ConvValue.algebraic⟩

end Cert.Proof

end
